-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_and_scales [hPre_codes_and_scales : Cert.Pre_codes_and_scales.Facts] (m : (ℓ : Loc Cert.KernelIdeal.nD Cert.KernelIdeal.τ Cert.KernelIdeal.sig) → Buf (Elt Ideal) ℓ) : Prop :=
  ∀ c : Dev Cert.KernelIdeal.nD,
    (Cert.Pre_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_and_scales [hPre_codes_and_scales : Cert.Pre_codes_and_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_codes_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_codes_and_scales [hKernelIdeal : Cert.KernelIdeal.Facts] [hPre_codes_and_scales : Cert.Pre_codes_and_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_and_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_codes_and_scales [hReferenceIdeal : Cert.ReferenceIdeal.Facts] [hPre_codes_and_scales : Cert.Pre_codes_and_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_and_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale_log2e" .f32 0x3DE995B3#32 (((Real.log 2)⁻¹ * (Real.sqrt 160)⁻¹ : ℝ) : EReal)

def algebraic_KernelIdeal_ReferenceIdeal_pre_codes_and_scales [hKernelIdeal : Cert.KernelIdeal.Facts] [hReferenceIdeal : Cert.ReferenceIdeal.Facts] [hPre_codes_and_scales : Cert.Pre_codes_and_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_and_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_codes_and_scales : Cert.Pre_codes_and_scales.Facts),
    quiescent_Kernel (hKernel := hKernel)
    ∧ quiescent_KernelIdeal (hKernelIdeal := hKernelIdeal)
    ∧ quiescent_KernelIdeal_pre_codes_and_scales (hKernelIdeal := hKernelIdeal) (hPre_codes_and_scales := hPre_codes_and_scales)
    ∧ quiescent_ReferenceIdeal (hReferenceIdeal := hReferenceIdeal)
    ∧ quiescent_ReferenceIdeal_pre_codes_and_scales (hReferenceIdeal := hReferenceIdeal) (hPre_codes_and_scales := hPre_codes_and_scales)
    ∧ preserves_Kernel_KernelIdeal
    ∧ algebraic_KernelIdeal_ReferenceIdeal_pre_codes_and_scales (hKernelIdeal := hKernelIdeal) (hReferenceIdeal := hReferenceIdeal) (hPre_codes_and_scales := hPre_codes_and_scales)
-- ==== Pre_codes_and_scales.lean ====
abbrev S2x640x12x160 : Shape := ⟨4, ![2, 640, 12, 160]⟩
abbrev S2x5x12 : Shape := ⟨3, ![2, 5, 12]⟩
abbrev S2x640x3 : Shape := ⟨3, ![2, 640, 3]⟩
abbrev S3x1024x160 : Shape := ⟨3, ![3, 1024, 160]⟩
abbrev S2x640x3x160 : Shape := ⟨4, ![2, 640, 3, 160]⟩
abbrev S2x5x3 : Shape := ⟨3, ![2, 5, 3]⟩
abbrev S_ : Shape := ⟨0, ![]⟩

class Facts : Prop where
  bcast_S_S2x640x3 : S_.BroadcastsInDim S2x640x3 (![] : Fin 0 → Fin S2x640x3.rank)
  bcast_S_S2x5x3 : S_.BroadcastsInDim S2x5x3 (![] : Fin 0 → Fin S2x5x3.rank)

variable [Facts]

def fn {F : FTy → Type} [FloatOps F] (main_arg0 : FVec F S2x640x12x160 .fp8e4m3) (main_arg1 : FVec F S2x5x12 .f32) (main_arg2 : IVec S2x640x3 32) (main_arg3 : FVec F S3x1024x160 .bf16) (main_arg4 : FVec F S2x640x3x160 .fp8e4m3) (main_arg5 : FVec F S2x5x3 .f32) : IVec S2x640x3 1 × IVec S2x5x3 1 :=
  let main_c : IVec S_ 32 := constantI S_ 32 0#32
  let main_v0 : IVec S2x640x3 32 := broadcastInDim S2x640x3 ![] bcast_S_S2x640x3 main_c
  let main_v1 : IVec S2x640x3 1 := cmpi .sge main_arg2 main_v0
  let main_c_0 : IVec S_ 32 := constantI S_ 32 1024#32
  let main_v2 : IVec S2x640x3 32 := broadcastInDim S2x640x3 ![] bcast_S_S2x640x3 main_c_0
  let main_v3 : IVec S2x640x3 1 := cmpi .slt main_arg2 main_v2
  let main_v4 : IVec S2x640x3 1 := andi main_v1 main_v3
  let main_cst : FVec F S_ .f32 := constant S_ .f32 0x00000000#32
  let main_v5 : FVec F S2x5x3 .f32 := broadcastInDim S2x5x3 ![] bcast_S_S2x5x3 main_cst
  let main_v6 : IVec S2x5x3 1 := cmpf .oge main_arg5 main_v5
  let main_cst_1 : FVec F S_ .f32 := constant S_ .f32 0x7F800000#32
  let main_v7 : FVec F S2x5x3 .f32 := broadcastInDim S2x5x3 ![] bcast_S_S2x5x3 main_cst_1
  let main_v8 : IVec S2x5x3 1 := cmpf .olt main_arg5 main_v7
  let main_v9 : IVec S2x5x3 1 := andi main_v6 main_v8
  (main_v4, main_v9)
-- ==== Kernel.lean ====
abbrev S2x640x12x160 : Shape := ⟨4, ![2, 640, 12, 160]⟩
abbrev S2x5x12 : Shape := ⟨3, ![2, 5, 12]⟩
abbrev S2x640x3 : Shape := ⟨3, ![2, 640, 3]⟩
abbrev S3x1024x160 : Shape := ⟨3, ![3, 1024, 160]⟩
abbrev S2x640x3x160 : Shape := ⟨4, ![2, 640, 3, 160]⟩
abbrev S2x5x3 : Shape := ⟨3, ![2, 5, 3]⟩
abbrev S2x12x160x640 : Shape := ⟨4, ![2, 12, 160, 640]⟩
abbrev S2x3x160x640 : Shape := ⟨4, ![2, 3, 160, 640]⟩
abbrev S3x160x1024 : Shape := ⟨3, ![3, 160, 1024]⟩
abbrev S3x2x640 : Shape := ⟨3, ![3, 2, 640]⟩
abbrev S5x2x12 : Shape := ⟨3, ![5, 2, 12]⟩
abbrev S3x2x5 : Shape := ⟨3, ![3, 2, 5]⟩
abbrev S2x640x1920 : Shape := ⟨3, ![2, 640, 1920]⟩
abbrev S2x3x160x1024 : Shape := ⟨4, ![2, 3, 160, 1024]⟩
abbrev S1x2x640 : Shape := ⟨3, ![1, 2, 640]⟩
abbrev S1x4x160x640 : Shape := ⟨4, ![1, 4, 160, 640]⟩
abbrev S1x160x1024 : Shape := ⟨3, ![1, 160, 1024]⟩
abbrev S1x1x160x640 : Shape := ⟨4, ![1, 1, 160, 640]⟩
abbrev S1x640x640 : Shape := ⟨3, ![1, 640, 640]⟩
abbrev S1x1x160x1024 : Shape := ⟨4, ![1, 1, 160, 1024]⟩
abbrev S640x1024 : Shape := ⟨2, ![640, 1024]⟩
abbrev S640x160 : Shape := ⟨2, ![640, 160]⟩
abbrev S160x640 : Shape := ⟨2, ![160, 640]⟩
abbrev S160x512 : Shape := ⟨2, ![160, 512]⟩
abbrev S1x1x640 : Shape := ⟨3, ![1, 1, 640]⟩
abbrev S1x640 : Shape := ⟨2, ![1, 640]⟩
abbrev S1x128 : Shape := ⟨2, ![1, 128]⟩
abbrev S128x128 : Shape := ⟨2, ![128, 128]⟩
abbrev S160x1024 : Shape := ⟨2, ![160, 1024]⟩
abbrev S1x1x160x128 : Shape := ⟨4, ![1, 1, 160, 128]⟩
abbrev S160x128 : Shape := ⟨2, ![160, 128]⟩
abbrev S1x1x1 : Shape := ⟨3, ![1, 1, 1]⟩
abbrev S128 : Shape := ⟨1, ![128]⟩
abbrev S128x256 : Shape := ⟨2, ![128, 256]⟩
abbrev S1x256 : Shape := ⟨2, ![1, 256]⟩
abbrev S160x256 : Shape := ⟨2, ![160, 256]⟩
abbrev S128x160 : Shape := ⟨2, ![128, 160]⟩
abbrev S256 : Shape := ⟨1, ![256]⟩
abbrev S640x128 : Shape := ⟨2, ![640, 128]⟩
abbrev S128x640 : Shape := ⟨2, ![128, 640]⟩
abbrev S1x128x640 : Shape := ⟨3, ![1, 128, 640]⟩
abbrev S128x512 : Shape := ⟨2, ![128, 512]⟩
abbrev S256x160 : Shape := ⟨2, ![256, 160]⟩
abbrev S256x256 : Shape := ⟨2, ![256, 256]⟩
abbrev S160x384 : Shape := ⟨2, ![160, 384]⟩
abbrev S384x160 : Shape := ⟨2, ![384, 160]⟩
abbrev S384x256 : Shape := ⟨2, ![384, 256]⟩
abbrev S512x160 : Shape := ⟨2, ![512, 160]⟩
abbrev S512x256 : Shape := ⟨2, ![512, 256]⟩
abbrev S640x256 : Shape := ⟨2, ![640, 256]⟩

abbrev nBuf : Space → Nat
  | .hbm => 14
  | .vmem => 16
  | .smem => 2
  | _ => 0

abbrev bufTy : (tb : Table) → Fin (tcTables nBuf tb) → BufTy
  | .hbm, ⟨0, _⟩ => ⟨S2x640x12x160, .fp8e4m3⟩
  | .hbm, ⟨1, _⟩ => ⟨S2x5x12, .f32⟩
  | .hbm, ⟨2, _⟩ => ⟨S2x640x3, .i32⟩
  | .hbm, ⟨3, _⟩ => ⟨S3x1024x160, .bf16⟩
  | .hbm, ⟨4, _⟩ => ⟨S2x640x3x160, .fp8e4m3⟩
  | .hbm, ⟨5, _⟩ => ⟨S2x5x3, .f32⟩
  | .hbm, ⟨6, _⟩ => ⟨S2x12x160x640, .fp8e4m3⟩
  | .hbm, ⟨7, _⟩ => ⟨S2x3x160x640, .fp8e4m3⟩
  | .hbm, ⟨8, _⟩ => ⟨S3x160x1024, .bf16⟩
  | .hbm, ⟨9, _⟩ => ⟨S3x2x640, .i32⟩
  | .hbm, ⟨10, _⟩ => ⟨S5x2x12, .f32⟩
  | .hbm, ⟨11, _⟩ => ⟨S3x2x5, .f32⟩
  | .hbm, ⟨12, _⟩ => ⟨S2x640x1920, .bf16⟩
  | .hbm, ⟨13, _⟩ => ⟨S2x3x160x1024, .f32⟩
  | .local _ .vmem, ⟨0, _⟩ => ⟨S1x2x640, .i32⟩
  | .local _ .vmem, ⟨1, _⟩ => ⟨S1x2x640, .i32⟩
  | .local _ .vmem, ⟨2, _⟩ => ⟨S1x4x160x640, .fp8e4m3⟩
  | .local _ .vmem, ⟨3, _⟩ => ⟨S1x4x160x640, .fp8e4m3⟩
  | .local _ .vmem, ⟨4, _⟩ => ⟨S1x160x1024, .bf16⟩
  | .local _ .vmem, ⟨5, _⟩ => ⟨S1x160x1024, .bf16⟩
  | .local _ .vmem, ⟨6, _⟩ => ⟨S1x1x160x640, .fp8e4m3⟩
  | .local _ .vmem, ⟨7, _⟩ => ⟨S1x1x160x640, .fp8e4m3⟩
  | .local _ .vmem, ⟨8, _⟩ => ⟨S1x640x640, .bf16⟩
  | .local _ .vmem, ⟨9, _⟩ => ⟨S1x640x640, .bf16⟩
  | .local _ .vmem, ⟨10, _⟩ => ⟨S1x1x160x1024, .f32⟩
  | .local _ .vmem, ⟨11, _⟩ => ⟨S1x1x160x1024, .f32⟩
  | .local _ .vmem, ⟨12, _⟩ => ⟨S640x1024, .bf16⟩
  | .local _ .vmem, ⟨13, _⟩ => ⟨S640x160, .bf16⟩
  | .local _ .vmem, ⟨14, _⟩ => ⟨S160x640, .bf16⟩
  | .local _ .vmem, ⟨15, _⟩ => ⟨S160x512, .f32⟩
  | .local _ .smem, ⟨0, _⟩ => ⟨S5x2x12, .f32⟩
  | .local _ .smem, ⟨1, _⟩ => ⟨S3x2x5, .f32⟩
  | _, _ => ⟨S2x640x12x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![3, 2], ![false, false]⟩

def k0_off1 (i : grid0.Coords) : Fin 3 → Nat :=
  let c0 : Index := 0#32
  let arg1 : BitVec 32 := BitVec.ofNat 32 (i 1).val
  let v0 : Index := Scalar.indexCast arg1
  let c0_0 : Index := 0#32
  ![0, v0.toNat, 0]
def k0_off2 (i : grid0.Coords) : Fin 3 → Nat :=
  let arg0 : BitVec 32 := BitVec.ofNat 32 (i 0).val
  let v360 : Index := Scalar.indexCast arg0
  let arg1 : BitVec 32 := BitVec.ofNat 32 (i 1).val
  let v361 : Index := Scalar.indexCast arg1
  let c0_165 : Index := 0#32
  ![v360.toNat, v361.toNat, 0]
def k0_off3 (i : grid0.Coords) : Fin 3 → Nat :=
  let arg0 : BitVec 32 := BitVec.ofNat 32 (i 0).val
  let v372 : Index := Scalar.indexCast arg0
  let arg1 : BitVec 32 := BitVec.ofNat 32 (i 1).val
  let v373 : Index := Scalar.indexCast arg1
  let c1 : Index := 1#32
  ![v372.toNat, v373.toNat, 1]
def k0_off4 (i : grid0.Coords) : Fin 3 → Nat :=
  let arg0 : BitVec 32 := BitVec.ofNat 32 (i 0).val
  let v384 : Index := Scalar.indexCast arg0
  let arg1 : BitVec 32 := BitVec.ofNat 32 (i 1).val
  let v385 : Index := Scalar.indexCast arg1
  let c2 : Index := 2#32
  ![v384.toNat, v385.toNat, 2]
def k0_off5 (i : grid0.Coords) : Fin 3 → Nat :=
  let arg0 : BitVec 32 := BitVec.ofNat 32 (i 0).val
  let v396 : Index := Scalar.indexCast arg0
  let arg1 : BitVec 32 := BitVec.ofNat 32 (i 1).val
  let v397 : Index := Scalar.indexCast arg1
  let c3 : Index := 3#32
  ![v396.toNat, v397.toNat, 3]
def k0_off6 (i : grid0.Coords) : Fin 3 → Nat :=
  let arg0 : BitVec 32 := BitVec.ofNat 32 (i 0).val
  let v408 : Index := Scalar.indexCast arg0
  let arg1 : BitVec 32 := BitVec.ofNat 32 (i 1).val
  let v409 : Index := Scalar.indexCast arg1
  let c4 : Index := 4#32
  ![v408.toNat, v409.toNat, 4]
def k0_off7 (i : grid0.Coords) (c0_i32_241 : BitVec 32) : Fin 3 → Nat :=
  let c0_243 : Index := 0#32
  let arg1 : BitVec 32 := BitVec.ofNat 32 (i 1).val
  let v549 : Index := Scalar.indexCast arg1
  let arg0 : BitVec 32 := BitVec.ofNat 32 (i 0).val
  let c4_i32 : BitVec 32 := 4#32
  let v545 : BitVec 32 := Scalar.muli arg0 c4_i32
  let v546 : BitVec 32 := Scalar.addi v545 c0_i32_241
  let v550 : Index := Scalar.indexCast v546
  ![0, v549.toNat, v550.toNat]
def k0_off8 (i : grid0.Coords) (c0_i32_241 : BitVec 32) : Fin 3 → Nat :=
  let c0_245 : Index := 0#32
  let arg1 : BitVec 32 := BitVec.ofNat 32 (i 1).val
  let v553 : Index := Scalar.indexCast arg1
  let arg0 : BitVec 32 := BitVec.ofNat 32 (i 0).val
  let c4_i32 : BitVec 32 := 4#32
  let v545 : BitVec 32 := Scalar.muli arg0 c4_i32
  let v546 : BitVec 32 := Scalar.addi v545 c0_i32_241
  let c1_i32_244 : BitVec 32 := 1#32
  let v552 : BitVec 32 := Scalar.addi v546 c1_i32_244
  let v554 : Index := Scalar.indexCast v552
  ![0, v553.toNat, v554.toNat]
def k0_off9 (i : grid0.Coords) (c0_i32_306 : BitVec 32) : Fin 3 → Nat :=
  let c1_308 : Index := 1#32
  let arg1 : BitVec 32 := BitVec.ofNat 32 (i 1).val
  let v668 : Index := Scalar.indexCast arg1
  let arg0 : BitVec 32 := BitVec.ofNat 32 (i 0).val
  let c4_i32_305 : BitVec 32 := 4#32
  let v664 : BitVec 32 := Scalar.muli arg0 c4_i32_305
  let v665 : BitVec 32 := Scalar.addi v664 c0_i32_306
  let v669 : Index := Scalar.indexCast v665
  ![1, v668.toNat, v669.toNat]
def k0_off10 (i : grid0.Coords) (c0_i32_306 : BitVec 32) : Fin 3 → Nat :=
  let c1_310 : Index := 1#32
  let arg1 : BitVec 32 := BitVec.ofNat 32 (i 1).val
  let v672 : Index := Scalar.indexCast arg1
  let arg0 : BitVec 32 := BitVec.ofNat 32 (i 0).val
  let c4_i32_305 : BitVec 32 := 4#32
  let v664 : BitVec 32 := Scalar.muli arg0 c4_i32_305
  let v665 : BitVec 32 := Scalar.addi v664 c0_i32_306
  let c1_i32_309 : BitVec 32 := 1#32
  let v671 : BitVec 32 := Scalar.addi v665 c1_i32_309
  let v673 : Index := Scalar.indexCast v671
  ![1, v672.toNat, v673.toNat]
def k0_off11 (i : grid0.Coords) (c0_i32_374 : BitVec 32) : Fin 3 → Nat :=
  let c2_376 : Index := 2#32
  let arg1 : BitVec 32 := BitVec.ofNat 32 (i 1).val
  let v795 : Index := Scalar.indexCast arg1
  let arg0 : BitVec 32 := BitVec.ofNat 32 (i 0).val
  let c4_i32_373 : BitVec 32 := 4#32
  let v791 : BitVec 32 := Scalar.muli arg0 c4_i32_373
  let v792 : BitVec 32 := Scalar.addi v791 c0_i32_374
  let v796 : Index := Scalar.indexCast v792
  ![2, v795.toNat, v796.toNat]
def k0_off12 (i : grid0.Coords) (c0_i32_374 : BitVec 32) : Fin 3 → Nat :=
  let c2_378 : Index := 2#32
  let arg1 : BitVec 32 := BitVec.ofNat 32 (i 1).val
  let v799 : Index := Scalar.indexCast arg1
  let arg0 : BitVec 32 := BitVec.ofNat 32 (i 0).val
  let c4_i32_373 : BitVec 32 := 4#32
  let v791 : BitVec 32 := Scalar.muli arg0 c4_i32_373
  let v792 : BitVec 32 := Scalar.addi v791 c0_i32_374
  let c1_i32_377 : BitVec 32 := 1#32
  let v798 : BitVec 32 := Scalar.addi v792 c1_i32_377
  let v800 : Index := Scalar.indexCast v798
  ![2, v799.toNat, v800.toNat]
def k0_off13 (i : grid0.Coords) (c0_i32_442 : BitVec 32) : Fin 3 → Nat :=
  let c3_444 : Index := 3#32
  let arg1 : BitVec 32 := BitVec.ofNat 32 (i 1).val
  let v922 : Index := Scalar.indexCast arg1
  let arg0 : BitVec 32 := BitVec.ofNat 32 (i 0).val
  let c4_i32_441 : BitVec 32 := 4#32
  let v918 : BitVec 32 := Scalar.muli arg0 c4_i32_441
  let v919 : BitVec 32 := Scalar.addi v918 c0_i32_442
  let v923 : Index := Scalar.indexCast v919
  ![3, v922.toNat, v923.toNat]
def k0_off14 (i : grid0.Coords) (c0_i32_442 : BitVec 32) : Fin 3 → Nat :=
  let c3_446 : Index := 3#32
  let arg1 : BitVec 32 := BitVec.ofNat 32 (i 1).val
  let v926 : Index := Scalar.indexCast arg1
  let arg0 : BitVec 32 := BitVec.ofNat 32 (i 0).val
  let c4_i32_441 : BitVec 32 := 4#32
  let v918 : BitVec 32 := Scalar.muli arg0 c4_i32_441
  let v919 : BitVec 32 := Scalar.addi v918 c0_i32_442
  let c1_i32_445 : BitVec 32 := 1#32
  let v925 : BitVec 32 := Scalar.addi v919 c1_i32_445
  let v927 : Index := Scalar.indexCast v925
  ![3, v926.toNat, v927.toNat]
def k0_off15 (i : grid0.Coords) (c0_i32_510 : BitVec 32) : Fin 3 → Nat :=
  let c4_512 : Index := 4#32
  let arg1 : BitVec 32 := BitVec.ofNat 32 (i 1).val
  let v1049 : Index := Scalar.indexCast arg1
  let arg0 : BitVec 32 := BitVec.ofNat 32 (i 0).val
  let c4_i32_509 : BitVec 32 := 4#32
  let v1045 : BitVec 32 := Scalar.muli arg0 c4_i32_509
  let v1046 : BitVec 32 := Scalar.addi v1045 c0_i32_510
  let v1050 : Index := Scalar.indexCast v1046
  ![4, v1049.toNat, v1050.toNat]
def k0_off16 (i : grid0.Coords) (c0_i32_510 : BitVec 32) : Fin 3 → Nat :=
  let c4_514 : Index := 4#32
  let arg1 : BitVec 32 := BitVec.ofNat 32 (i 1).val
  let v1053 : Index := Scalar.indexCast arg1
  let arg0 : BitVec 32 := BitVec.ofNat 32 (i 0).val
  let c4_i32_509 : BitVec 32 := 4#32
  let v1045 : BitVec 32 := Scalar.muli arg0 c4_i32_509
  let v1046 : BitVec 32 := Scalar.addi v1045 c0_i32_510
  let c1_i32_513 : BitVec 32 := 1#32
  let v1052 : BitVec 32 := Scalar.addi v1046 c1_i32_513
  let v1054 : Index := Scalar.indexCast v1052
  ![4, v1053.toNat, v1054.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .smem S5x2x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3x2x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x640 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x160x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x160x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x160x640 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale_log2e" => some (((Real.log 2)⁻¹ * (Real.sqrt 160)⁻¹ : ℝ) : EReal)
  | _ => none
-- ==== ReferenceIdeal.lean ====
abbrev S2x640x12x160 : Shape := ⟨4, ![2, 640, 12, 160]⟩
abbrev S2x5x12 : Shape := ⟨3, ![2, 5, 12]⟩
abbrev S2x640x3 : Shape := ⟨3, ![2, 640, 3]⟩
abbrev S3x1024x160 : Shape := ⟨3, ![3, 1024, 160]⟩
abbrev S2x640x3x160 : Shape := ⟨4, ![2, 640, 3, 160]⟩
abbrev S2x5x3 : Shape := ⟨3, ![2, 5, 3]⟩
abbrev S2x5x128x12x160 : Shape := ⟨5, ![2, 5, 128, 12, 160]⟩
abbrev S5x2x128x12x160 : Shape := ⟨5, ![5, 2, 128, 12, 160]⟩
abbrev S2x5x128x3 : Shape := ⟨4, ![2, 5, 128, 3]⟩
abbrev S5x2x128x3 : Shape := ⟨4, ![5, 2, 128, 3]⟩
abbrev S2x5x128x3x160 : Shape := ⟨5, ![2, 5, 128, 3, 160]⟩
abbrev S5x2x128x3x160 : Shape := ⟨5, ![5, 2, 128, 3, 160]⟩
abbrev S5x2x12 : Shape := ⟨3, ![5, 2, 12]⟩
abbrev S5x2x3 : Shape := ⟨3, ![5, 2, 3]⟩
abbrev S_ : Shape := ⟨0, ![]⟩
abbrev S128x128 : Shape := ⟨2, ![128, 128]⟩
abbrev S2x3x1024x160 : Shape := ⟨4, ![2, 3, 1024, 160]⟩
abbrev S2x3x1024 : Shape := ⟨3, ![2, 3, 1024]⟩
abbrev S5x2x128x1920 : Shape := ⟨4, ![5, 2, 128, 1920]⟩
abbrev S1x2x128x12x160 : Shape := ⟨5, ![1, 2, 128, 12, 160]⟩
abbrev S2x128x12x160 : Shape := ⟨4, ![2, 128, 12, 160]⟩
abbrev S1x2x12 : Shape := ⟨3, ![1, 2, 12]⟩
abbrev S2x12 : Shape := ⟨2, ![2, 12]⟩
abbrev S1x2x128x3 : Shape := ⟨4, ![1, 2, 128, 3]⟩
abbrev S2x128x3 : Shape := ⟨3, ![2, 128, 3]⟩
abbrev S1x2x128x3x160 : Shape := ⟨5, ![1, 2, 128, 3, 160]⟩
abbrev S2x128x3x160 : Shape := ⟨4, ![2, 128, 3, 160]⟩
abbrev S1x2x3 : Shape := ⟨3, ![1, 2, 3]⟩
abbrev S2x3 : Shape := ⟨2, ![2, 3]⟩
abbrev S2x128x3x4x160 : Shape := ⟨5, ![2, 128, 3, 4, 160]⟩
abbrev S3x1024x2x128x4 : Shape := ⟨5, ![3, 1024, 2, 128, 4]⟩
abbrev S2x3x4x128x1024 : Shape := ⟨5, ![2, 3, 4, 128, 1024]⟩
abbrev S2x3x4 : Shape := ⟨3, ![2, 3, 4]⟩
abbrev S2x3x4x1x1 : Shape := ⟨5, ![2, 3, 4, 1, 1]⟩
abbrev S2x3x128 : Shape := ⟨3, ![2, 3, 128]⟩
abbrev S2x3x1x1x128 : Shape := ⟨5, ![2, 3, 1, 1, 128]⟩
abbrev S2x3x4x128x128 : Shape := ⟨5, ![2, 3, 4, 128, 128]⟩
abbrev S2x3x4x128x128x1 : Shape := ⟨6, ![2, 3, 4, 128, 128, 1]⟩
abbrev S1 : Shape := ⟨1, ![1]⟩
abbrev S1x1x1x1x1x1 : Shape := ⟨6, ![1, 1, 1, 1, 1, 1]⟩
abbrev S2x3x1x1x1024 : Shape := ⟨5, ![2, 3, 1, 1, 1024]⟩
abbrev S2x3x4x128 : Shape := ⟨4, ![2, 3, 4, 128]⟩
abbrev S2x3x4x128x1 : Shape := ⟨5, ![2, 3, 4, 128, 1]⟩
abbrev S2x3x160x4x128 : Shape := ⟨5, ![2, 3, 160, 4, 128]⟩
abbrev S2x1x3x1x1 : Shape := ⟨5, ![2, 1, 3, 1, 1]⟩
abbrev S2x128x3x1 : Shape := ⟨4, ![2, 128, 3, 1]⟩
abbrev S1x1x1x1024 : Shape := ⟨4, ![1, 1, 1, 1024]⟩
abbrev S2x128x3x1024 : Shape := ⟨4, ![2, 128, 3, 1024]⟩
abbrev S2x3x1x1 : Shape := ⟨4, ![2, 3, 1, 1]⟩
abbrev S2x128x1920 : Shape := ⟨3, ![2, 128, 1920]⟩
abbrev S1x2x128x1920 : Shape := ⟨4, ![1, 2, 128, 1920]⟩
abbrev S2x5x128x1920 : Shape := ⟨4, ![2, 5, 128, 1920]⟩
abbrev S2x640x1920 : Shape := ⟨3, ![2, 640, 1920]⟩
abbrev S2x3x160x1024 : Shape := ⟨4, ![2, 3, 160, 1024]⟩

abbrev nBuf : Space → Nat
  | .hbm => 203
  | .vmem => 4
  | .smem => 0
  | _ => 0

abbrev hbmTy0_0 (i : Nat) : BufTy := match i % 128 with
  | 0 => ⟨S2x640x12x160, .fp8e4m3⟩
  | 1 => ⟨S2x5x12, .f32⟩
  | 2 => ⟨S2x640x3, .i32⟩
  | 3 => ⟨S3x1024x160, .bf16⟩
  | 4 => ⟨S2x640x3x160, .fp8e4m3⟩
  | 5 => ⟨S2x5x3, .f32⟩
  | 6 => ⟨S2x640x12x160, .bf16⟩
  | 7 => ⟨S2x640x3x160, .bf16⟩
  | 8 => ⟨S2x5x128x12x160, .bf16⟩
  | 9 => ⟨S5x2x128x12x160, .bf16⟩
  | 10 => ⟨S2x5x128x3, .i32⟩
  | 11 => ⟨S5x2x128x3, .i32⟩
  | 12 => ⟨S2x5x128x3x160, .bf16⟩
  | 13 => ⟨S5x2x128x3x160, .bf16⟩
  | 14 => ⟨S5x2x12, .f32⟩
  | 15 => ⟨S5x2x3, .f32⟩
  | 16 => ⟨S_, .i1⟩
  | 17 => ⟨S128x128, .i1⟩
  | 18 => ⟨S128x128, .i32⟩
  | 19 => ⟨S_, .i32⟩
  | 20 => ⟨S128x128, .i32⟩
  | 21 => ⟨S128x128, .i32⟩
  | 22 => ⟨S128x128, .i32⟩
  | 23 => ⟨S128x128, .i1⟩
  | 24 => ⟨S_, .i1⟩
  | 25 => ⟨S128x128, .i1⟩
  | 26 => ⟨S128x128, .i1⟩
  | 27 => ⟨S_, .f32⟩
  | 28 => ⟨S_, .f32⟩
  | 29 => ⟨S_, .f32⟩
  | 30 => ⟨S_, .f32⟩
  | 31 => ⟨S_, .f32⟩
  | 32 => ⟨S2x3x1024x160, .f32⟩
  | 33 => ⟨S_, .f32⟩
  | 34 => ⟨S2x3x1024, .f32⟩
  | 35 => ⟨S_, .f32⟩
  | 36 => ⟨S5x2x128x1920, .f32⟩
  | 37 => ⟨S_, .i32⟩
  | 38 => ⟨S5x2x128x12x160, .bf16⟩
  | 39 => ⟨S5x2x12, .f32⟩
  | 40 => ⟨S5x2x128x3, .i32⟩
  | 41 => ⟨S5x2x128x3x160, .bf16⟩
  | 42 => ⟨S5x2x3, .f32⟩
  | 43 => ⟨S3x1024x160, .bf16⟩
  | 44 => ⟨S_, .f32⟩
  | 45 => ⟨S128x128, .i1⟩
  | 46 => ⟨S_, .i32⟩
  | 47 => ⟨S2x3x1024x160, .f32⟩
  | 48 => ⟨S2x3x1024, .f32⟩
  | 49 => ⟨S5x2x128x1920, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S1x2x128x12x160, .bf16⟩
  | 57 => ⟨S2x128x12x160, .bf16⟩
  | 58 => ⟨S_, .i32⟩
  | 59 => ⟨S_, .i32⟩
  | 60 => ⟨S1x2x12, .f32⟩
  | 61 => ⟨S2x12, .f32⟩
  | 62 => ⟨S_, .i32⟩
  | 63 => ⟨S_, .i32⟩
  | 64 => ⟨S_, .i32⟩
  | 65 => ⟨S1x2x128x3, .i32⟩
  | 66 => ⟨S2x128x3, .i32⟩
  | 67 => ⟨S_, .i32⟩
  | 68 => ⟨S_, .i32⟩
  | 69 => ⟨S_, .i32⟩
  | 70 => ⟨S_, .i32⟩
  | 71 => ⟨S1x2x128x3x160, .bf16⟩
  | 72 => ⟨S2x128x3x160, .bf16⟩
  | 73 => ⟨S_, .i32⟩
  | 74 => ⟨S_, .i32⟩
  | 75 => ⟨S1x2x3, .f32⟩
  | 76 => ⟨S2x3, .f32⟩
  | 77 => ⟨S2x128x3x4x160, .bf16⟩
  | 78 => ⟨S3x1024x2x128x4, .f32⟩
  | 79 => ⟨S2x3x4x128x1024, .f32⟩
  | 80 => ⟨S2x3x4, .f32⟩
  | 81 => ⟨S2x3x4, .f32⟩
  | 82 => ⟨S2x3x4, .f32⟩
  | 83 => ⟨S2x3x4x1x1, .f32⟩
  | 84 => ⟨S2x3x4x128x1024, .f32⟩
  | 85 => ⟨S2x3x4x128x1024, .f32⟩
  | 86 => ⟨S2x3x128, .i32⟩
  | 87 => ⟨S2x3x1x1x128, .i32⟩
  | 88 => ⟨S2x3x4x128x128, .i32⟩
  | 89 => ⟨S_, .i32⟩
  | 90 => ⟨S2x3x4x128x128, .i32⟩
  | 91 => ⟨S2x3x4x128x128, .i1⟩
  | 92 => ⟨S_, .i32⟩
  | 93 => ⟨S2x3x4x128x128, .i32⟩
  | 94 => ⟨S2x3x4x128x128, .i32⟩
  | 95 => ⟨S2x3x4x128x128, .i32⟩
  | 96 => ⟨S2x3x4x128x128x1, .i32⟩
  | 97 => ⟨S1, .i32⟩
  | 98 => ⟨S_, .i32⟩
  | 99 => ⟨S2x3x4x128x128x1, .i32⟩
  | 100 => ⟨S2x3x4x128x128x1, .i1⟩
  | 101 => ⟨S1x1x1x1x1x1, .i32⟩
  | 102 => ⟨S2x3x4x128x128x1, .i32⟩
  | 103 => ⟨S2x3x4x128x128x1, .i1⟩
  | 104 => ⟨S2x3x4x128x128x1, .i1⟩
  | 105 => ⟨S_, .i1⟩
  | 106 => ⟨S2x3x4x128x128, .i1⟩
  | 107 => ⟨S2x3x4x128x128, .f32⟩
  | 108 => ⟨S_, .f32⟩
  | 109 => ⟨S2x3x4x128x128, .f32⟩
  | 110 => ⟨S2x3x4x128x128, .f32⟩
  | 111 => ⟨S_, .f32⟩
  | 112 => ⟨S2x3x1024, .f32⟩
  | 113 => ⟨S2x3x1024, .i1⟩
  | 114 => ⟨S2x3x1x1x1024, .i1⟩
  | 115 => ⟨S2x3x1x1x1024, .f32⟩
  | 116 => ⟨S_, .f32⟩
  | 117 => ⟨S_, .f32⟩
  | 118 => ⟨S2x3x4x128x128, .i1⟩
  | 119 => ⟨S2x3x4x128x128, .f32⟩
  | 120 => ⟨S2x3x4x128x128, .f32⟩
  | 121 => ⟨S_, .f32⟩
  | 122 => ⟨S2x3x4x128, .f32⟩
  | 123 => ⟨S2x3x4x128x1, .f32⟩
  | 124 => ⟨S_, .f32⟩
  | 125 => ⟨S_, .f32⟩
  | 126 => ⟨S2x3x4x128x1024, .i1⟩
  | 127 => ⟨S2x3x4x128x1024, .f32⟩
  | _ => ⟨S2x640x12x160, .fp8e4m3⟩

abbrev hbmTy0_1 (i : Nat) : BufTy := match i % 128 with
  | 0 => ⟨S2x3x4x128x1024, .f32⟩
  | 1 => ⟨S_, .f32⟩
  | 2 => ⟨S2x3x4x128, .f32⟩
  | 3 => ⟨S2x3x4x128x1, .f32⟩
  | 4 => ⟨S2x3x4x128x1, .f32⟩
  | 5 => ⟨S2x3x4x128x128, .f32⟩
  | 6 => ⟨S2x3x4x128x128, .f32⟩
  | 7 => ⟨S2x3x4x128x128, .f32⟩
  | 8 => ⟨S_, .f32⟩
  | 9 => ⟨S_, .f32⟩
  | 10 => ⟨S2x3x4x128x128, .i1⟩
  | 11 => ⟨S2x3x4x128x128, .f32⟩
  | 12 => ⟨S2x3x4x128x128, .f32⟩
  | 13 => ⟨S2x3x4x128x1024, .f32⟩
  | 14 => ⟨S2x3x4x128x1024, .f32⟩
  | 15 => ⟨S2x3x4x128x1024, .f32⟩
  | 16 => ⟨S_, .f32⟩
  | 17 => ⟨S_, .f32⟩
  | 18 => ⟨S2x3x4x128x1024, .i1⟩
  | 19 => ⟨S2x3x4x128x1024, .f32⟩
  | 20 => ⟨S2x3x4x128x1024, .f32⟩
  | 21 => ⟨S_, .f32⟩
  | 22 => ⟨S2x3x4x128, .f32⟩
  | 23 => ⟨S2x3x4x128x1, .f32⟩
  | 24 => ⟨S2x3x4x128x1024, .f32⟩
  | 25 => ⟨S2x3x4x128x1024, .f32⟩
  | 26 => ⟨S_, .f32⟩
  | 27 => ⟨S2x3x4x128, .f32⟩
  | 28 => ⟨S2x3x4x128x1, .f32⟩
  | 29 => ⟨S2x3x4x128x1, .f32⟩
  | 30 => ⟨S_, .f32⟩
  | 31 => ⟨S2x3x4x128x1, .f32⟩
  | 32 => ⟨S2x3x4x128x1, .f32⟩
  | 33 => ⟨S2x3x4x128x128, .f32⟩
  | 34 => ⟨S2x3x4x128x128, .f32⟩
  | 35 => ⟨S2x3x4x128x1024, .f32⟩
  | 36 => ⟨S2x3x4x128x1024, .f32⟩
  | 37 => ⟨S2x3x4x128x128, .bf16⟩
  | 38 => ⟨S2x3x160x4x128, .f32⟩
  | 39 => ⟨S2x128x3x4x160, .f32⟩
  | 40 => ⟨S2x1x3x1x1, .f32⟩
  | 41 => ⟨S2x128x3x4x160, .f32⟩
  | 42 => ⟨S2x128x3x4x160, .f32⟩
  | 43 => ⟨S2x3x4x128x1024, .bf16⟩
  | 44 => ⟨S2x3x1024x160, .bf16⟩
  | 45 => ⟨S2x3x160x4x128, .f32⟩
  | 46 => ⟨S2x128x3x4x160, .f32⟩
  | 47 => ⟨S2x128x3x4x160, .f32⟩
  | 48 => ⟨S2x128x3x1, .i32⟩
  | 49 => ⟨S1x1x1x1024, .i32⟩
  | 50 => ⟨S2x128x3x1024, .i32⟩
  | 51 => ⟨S2x128x3x1024, .i32⟩
  | 52 => ⟨S2x128x3x1024, .i1⟩
  | 53 => ⟨S2x128x3x1024, .bf16⟩
  | 54 => ⟨S2x3x1024x160, .f32⟩
  | 55 => ⟨S2x3x1x1, .f32⟩
  | 56 => ⟨S2x3x1024x160, .f32⟩
  | 57 => ⟨S2x3x1024x160, .f32⟩
  | 58 => ⟨S2x3x1024x160, .f32⟩
  | 59 => ⟨S2x128x3x1024, .f32⟩
  | 60 => ⟨S_, .f32⟩
  | 61 => ⟨S2x3x1024, .f32⟩
  | 62 => ⟨S2x3x1024, .f32⟩
  | 63 => ⟨S2x128x1920, .f32⟩
  | 64 => ⟨S1x2x128x1920, .f32⟩
  | 65 => ⟨S_, .i32⟩
  | 66 => ⟨S_, .i32⟩
  | 67 => ⟨S_, .i32⟩
  | 68 => ⟨S5x2x128x1920, .f32⟩
  | 69 => ⟨S_, .i32⟩
  | 70 => ⟨S_, .i32⟩
  | 71 => ⟨S2x5x128x1920, .f32⟩
  | 72 => ⟨S2x640x1920, .f32⟩
  | 73 => ⟨S2x640x1920, .bf16⟩
  | 74 => ⟨S2x3x160x1024, .f32⟩
  | _ => ⟨S2x640x12x160, .fp8e4m3⟩

abbrev hbmTy (i : Nat) : BufTy := match i / 128 with
  | 0 => hbmTy0_0 i
  | 1 => hbmTy0_1 i
  | _ => ⟨S2x640x12x160, .fp8e4m3⟩

abbrev bufTy : (tb : Table) → Fin (tcTables nBuf tb) → BufTy
  | .hbm, ⟨i, _⟩ => hbmTy i
  | .local _ .vmem, ⟨0, _⟩ => ⟨S2x640x12x160, .fp8e4m3⟩
  | .local _ .vmem, ⟨1, _⟩ => ⟨S2x640x3x160, .fp8e4m3⟩
  | .local _ .vmem, ⟨2, _⟩ => ⟨S2x640x12x160, .bf16⟩
  | .local _ .vmem, ⟨3, _⟩ => ⟨S2x640x3x160, .bf16⟩
  | _, _ => ⟨S2x640x12x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_c_4 : Ref sig .tc := ⟨.hbm, 37, rfl⟩
abbrev main_v16_0 : Ref sig .tc := ⟨.hbm, 38, rfl⟩
abbrev main_v16_1 : Ref sig .tc := ⟨.hbm, 39, rfl⟩
abbrev main_v16_2 : Ref sig .tc := ⟨.hbm, 40, rfl⟩
abbrev main_v16_3 : Ref sig .tc := ⟨.hbm, 41, rfl⟩
abbrev main_v16_4 : Ref sig .tc := ⟨.hbm, 42, rfl⟩
abbrev main_v16_5 : Ref sig .tc := ⟨.hbm, 43, rfl⟩
abbrev main_v16_6 : Ref sig .tc := ⟨.hbm, 44, rfl⟩
abbrev main_v16_7 : Ref sig .tc := ⟨.hbm, 45, rfl⟩
abbrev main_v16_8 : Ref sig .tc := ⟨.hbm, 46, rfl⟩
abbrev main_v16_9 : Ref sig .tc := ⟨.hbm, 47, rfl⟩
abbrev main_v16_10 : Ref sig .tc := ⟨.hbm, 48, rfl⟩
abbrev main_v16_11 : Ref sig .tc := ⟨.hbm, 49, rfl⟩
abbrev main_while0c_c_16 : Ref sig .tc := ⟨.hbm, 50, rfl⟩
abbrev main_while0c_v21 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_c_2 : Ref sig .tc := ⟨.hbm, 55, rfl⟩
abbrev main_while0b_call1_v0 : Ref sig .tc := ⟨.hbm, 56, rfl⟩
abbrev main_while0b_v21 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_call2_v0 : Ref sig .tc := ⟨.hbm, 60, rfl⟩
abbrev main_while0b_v22 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_v0 : Ref sig .tc := ⟨.hbm, 65, rfl⟩
abbrev main_while0b_v23 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_call4_v0 : Ref sig .tc := ⟨.hbm, 71, rfl⟩
abbrev main_while0b_v24 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_v0 : Ref sig .tc := ⟨.hbm, 75, rfl⟩
abbrev main_while0b_v25 : Ref sig .tc := ⟨.hbm, 76, rfl⟩
abbrev main_while0b_v26 : Ref sig .tc := ⟨.hbm, 77, rfl⟩
abbrev main_while0b_v27 : Ref sig .tc := ⟨.hbm, 78, rfl⟩
abbrev main_while0b_v28 : Ref sig .tc := ⟨.hbm, 79, rfl⟩
abbrev main_while0b_v29 : Ref sig .tc := ⟨.hbm, 80, rfl⟩
abbrev main_while0b_v30 : Ref sig .tc := ⟨.hbm, 81, rfl⟩
abbrev main_while0b_v31 : Ref sig .tc := ⟨.hbm, 82, rfl⟩
abbrev main_while0b_v32 : Ref sig .tc := ⟨.hbm, 83, rfl⟩
abbrev main_while0b_v33 : Ref sig .tc := ⟨.hbm, 84, rfl⟩
abbrev main_while0b_v34 : Ref sig .tc := ⟨.hbm, 85, rfl⟩
abbrev main_while0b_v35 : Ref sig .tc := ⟨.hbm, 86, rfl⟩
abbrev main_while0b_v36 : Ref sig .tc := ⟨.hbm, 87, rfl⟩
abbrev main_while0b_v37 : Ref sig .tc := ⟨.hbm, 88, rfl⟩
abbrev main_while0b_call6_c : Ref sig .tc := ⟨.hbm, 89, rfl⟩
abbrev main_while0b_call6_v0 : Ref sig .tc := ⟨.hbm, 90, rfl⟩
abbrev main_while0b_call6_v1 : Ref sig .tc := ⟨.hbm, 91, rfl⟩
abbrev main_while0b_call6_c_0 : Ref sig .tc := ⟨.hbm, 92, rfl⟩
abbrev main_while0b_call6_v2 : Ref sig .tc := ⟨.hbm, 93, rfl⟩
abbrev main_while0b_call6_v3 : Ref sig .tc := ⟨.hbm, 94, rfl⟩
abbrev main_while0b_call6_v4 : Ref sig .tc := ⟨.hbm, 95, rfl⟩
abbrev main_while0b_call6_v5 : Ref sig .tc := ⟨.hbm, 96, rfl⟩
abbrev main_while0b_call6_c_1 : Ref sig .tc := ⟨.hbm, 97, rfl⟩
abbrev main_while0b_call6_c_2 : Ref sig .tc := ⟨.hbm, 98, rfl⟩
abbrev main_while0b_call6_v6 : Ref sig .tc := ⟨.hbm, 99, rfl⟩
abbrev main_while0b_call6_v7 : Ref sig .tc := ⟨.hbm, 100, rfl⟩
abbrev main_while0b_call6_v8 : Ref sig .tc := ⟨.hbm, 101, rfl⟩
abbrev main_while0b_call6_v9 : Ref sig .tc := ⟨.hbm, 102, rfl⟩
abbrev main_while0b_call6_v10 : Ref sig .tc := ⟨.hbm, 103, rfl⟩
abbrev main_while0b_call6_v11 : Ref sig .tc := ⟨.hbm, 104, rfl⟩
abbrev main_while0b_call6_c_3 : Ref sig .tc := ⟨.hbm, 105, rfl⟩
abbrev main_while0b_call6_v12 : Ref sig .tc := ⟨.hbm, 106, rfl⟩
abbrev main_while0b_call6_v13 : Ref sig .tc := ⟨.hbm, 107, rfl⟩
abbrev main_while0b_call6_cst : Ref sig .tc := ⟨.hbm, 108, rfl⟩
abbrev main_while0b_call6_v14 : Ref sig .tc := ⟨.hbm, 109, rfl⟩
abbrev main_while0b_v38 : Ref sig .tc := ⟨.hbm, 110, rfl⟩
abbrev main_while0b_cst_16 : Ref sig .tc := ⟨.hbm, 111, rfl⟩
abbrev main_while0b_v39 : Ref sig .tc := ⟨.hbm, 112, rfl⟩
abbrev main_while0b_v40 : Ref sig .tc := ⟨.hbm, 113, rfl⟩
abbrev main_while0b_v41 : Ref sig .tc := ⟨.hbm, 114, rfl⟩
abbrev main_while0b_v42 : Ref sig .tc := ⟨.hbm, 115, rfl⟩
abbrev main_while0b_cst_17 : Ref sig .tc := ⟨.hbm, 116, rfl⟩
abbrev main_while0b_call7_v0 : Ref sig .tc := ⟨.hbm, 117, rfl⟩
abbrev main_while0b_call7_v1 : Ref sig .tc := ⟨.hbm, 118, rfl⟩
abbrev main_while0b_call7_v2 : Ref sig .tc := ⟨.hbm, 119, rfl⟩
abbrev main_while0b_v43 : Ref sig .tc := ⟨.hbm, 120, rfl⟩
abbrev main_while0b_cst_18 : Ref sig .tc := ⟨.hbm, 121, rfl⟩
abbrev main_while0b_v44 : Ref sig .tc := ⟨.hbm, 122, rfl⟩
abbrev main_while0b_v45 : Ref sig .tc := ⟨.hbm, 123, rfl⟩
abbrev main_while0b_cst_19 : Ref sig .tc := ⟨.hbm, 124, rfl⟩
abbrev main_while0b_call8_v0 : Ref sig .tc := ⟨.hbm, 125, rfl⟩
abbrev main_while0b_call8_v1 : Ref sig .tc := ⟨.hbm, 126, rfl⟩
abbrev main_while0b_call8_v2 : Ref sig .tc := ⟨.hbm, 127, rfl⟩
abbrev main_while0b_v46 : Ref sig .tc := ⟨.hbm, 128, rfl⟩
abbrev main_while0b_cst_20 : Ref sig .tc := ⟨.hbm, 129, rfl⟩
abbrev main_while0b_v47 : Ref sig .tc := ⟨.hbm, 130, rfl⟩
abbrev main_while0b_v48 : Ref sig .tc := ⟨.hbm, 131, rfl⟩
abbrev main_while0b_v49 : Ref sig .tc := ⟨.hbm, 132, rfl⟩
abbrev main_while0b_v50 : Ref sig .tc := ⟨.hbm, 133, rfl⟩
abbrev main_while0b_v51 : Ref sig .tc := ⟨.hbm, 134, rfl⟩
abbrev main_while0b_v52 : Ref sig .tc := ⟨.hbm, 135, rfl⟩
abbrev main_while0b_cst_21 : Ref sig .tc := ⟨.hbm, 136, rfl⟩
abbrev main_while0b_call9_v0 : Ref sig .tc := ⟨.hbm, 137, rfl⟩
abbrev main_while0b_call9_v1 : Ref sig .tc := ⟨.hbm, 138, rfl⟩
abbrev main_while0b_call9_v2 : Ref sig .tc := ⟨.hbm, 139, rfl⟩
abbrev main_while0b_v53 : Ref sig .tc := ⟨.hbm, 140, rfl⟩
abbrev main_while0b_v54 : Ref sig .tc := ⟨.hbm, 141, rfl⟩
abbrev main_while0b_v55 : Ref sig .tc := ⟨.hbm, 142, rfl⟩
abbrev main_while0b_v56 : Ref sig .tc := ⟨.hbm, 143, rfl⟩
abbrev main_while0b_cst_22 : Ref sig .tc := ⟨.hbm, 144, rfl⟩
abbrev main_while0b_call10_v0 : Ref sig .tc := ⟨.hbm, 145, rfl⟩
abbrev main_while0b_call10_v1 : Ref sig .tc := ⟨.hbm, 146, rfl⟩
abbrev main_while0b_call10_v2 : Ref sig .tc := ⟨.hbm, 147, rfl⟩
abbrev main_while0b_v57 : Ref sig .tc := ⟨.hbm, 148, rfl⟩
abbrev main_while0b_cst_23 : Ref sig .tc := ⟨.hbm, 149, rfl⟩
abbrev main_while0b_v58 : Ref sig .tc := ⟨.hbm, 150, rfl⟩
abbrev main_while0b_v59 : Ref sig .tc := ⟨.hbm, 151, rfl⟩
abbrev main_while0b_v60 : Ref sig .tc := ⟨.hbm, 152, rfl⟩
abbrev main_while0b_v61 : Ref sig .tc := ⟨.hbm, 153, rfl⟩
abbrev main_while0b_cst_24 : Ref sig .tc := ⟨.hbm, 154, rfl⟩
abbrev main_while0b_v62 : Ref sig .tc := ⟨.hbm, 155, rfl⟩
abbrev main_while0b_v63 : Ref sig .tc := ⟨.hbm, 156, rfl⟩
abbrev main_while0b_v64 : Ref sig .tc := ⟨.hbm, 157, rfl⟩
abbrev main_while0b_cst_25 : Ref sig .tc := ⟨.hbm, 158, rfl⟩
abbrev main_while0b_v65 : Ref sig .tc := ⟨.hbm, 159, rfl⟩
abbrev main_while0b_v66 : Ref sig .tc := ⟨.hbm, 160, rfl⟩
abbrev main_while0b_v67 : Ref sig .tc := ⟨.hbm, 161, rfl⟩
abbrev main_while0b_v68 : Ref sig .tc := ⟨.hbm, 162, rfl⟩
abbrev main_while0b_v69 : Ref sig .tc := ⟨.hbm, 163, rfl⟩
abbrev main_while0b_v70 : Ref sig .tc := ⟨.hbm, 164, rfl⟩
abbrev main_while0b_v71 : Ref sig .tc := ⟨.hbm, 165, rfl⟩
abbrev main_while0b_v72 : Ref sig .tc := ⟨.hbm, 166, rfl⟩
abbrev main_while0b_v73 : Ref sig .tc := ⟨.hbm, 167, rfl⟩
abbrev main_while0b_v74 : Ref sig .tc := ⟨.hbm, 168, rfl⟩
abbrev main_while0b_v75 : Ref sig .tc := ⟨.hbm, 169, rfl⟩
abbrev main_while0b_v76 : Ref sig .tc := ⟨.hbm, 170, rfl⟩
abbrev main_while0b_v77 : Ref sig .tc := ⟨.hbm, 171, rfl⟩
abbrev main_while0b_v78 : Ref sig .tc := ⟨.hbm, 172, rfl⟩
abbrev main_while0b_v79 : Ref sig .tc := ⟨.hbm, 173, rfl⟩
abbrev main_while0b_v80 : Ref sig .tc := ⟨.hbm, 174, rfl⟩
abbrev main_while0b_v81 : Ref sig .tc := ⟨.hbm, 175, rfl⟩
abbrev main_while0b_call11_v0 : Ref sig .tc := ⟨.hbm, 176, rfl⟩
abbrev main_while0b_call11_v1 : Ref sig .tc := ⟨.hbm, 177, rfl⟩
abbrev main_while0b_call11_v2 : Ref sig .tc := ⟨.hbm, 178, rfl⟩
abbrev main_while0b_call11_v3 : Ref sig .tc := ⟨.hbm, 179, rfl⟩
abbrev main_while0b_call11_v4 : Ref sig .tc := ⟨.hbm, 180, rfl⟩
abbrev main_while0b_v82 : Ref sig .tc := ⟨.hbm, 181, rfl⟩
abbrev main_while0b_v83 : Ref sig .tc := ⟨.hbm, 182, rfl⟩
abbrev main_while0b_v84 : Ref sig .tc := ⟨.hbm, 183, rfl⟩
abbrev main_while0b_v85 : Ref sig .tc := ⟨.hbm, 184, rfl⟩
abbrev main_while0b_v86 : Ref sig .tc := ⟨.hbm, 185, rfl⟩
abbrev main_while0b_v87 : Ref sig .tc := ⟨.hbm, 186, rfl⟩
abbrev main_while0b_v88 : Ref sig .tc := ⟨.hbm, 187, rfl⟩
abbrev main_while0b_cst_26 : Ref sig .tc := ⟨.hbm, 188, rfl⟩
abbrev main_while0b_v89 : Ref sig .tc := ⟨.hbm, 189, rfl⟩
abbrev main_while0b_v90 : Ref sig .tc := ⟨.hbm, 190, rfl⟩
abbrev main_while0b_v91 : Ref sig .tc := ⟨.hbm, 191, rfl⟩
abbrev main_while0b_call12_v0 : Ref sig .tc := ⟨.hbm, 192, rfl⟩
abbrev main_while0b_call12_c : Ref sig .tc := ⟨.hbm, 193, rfl⟩
abbrev main_while0b_call12_c_0 : Ref sig .tc := ⟨.hbm, 194, rfl⟩
abbrev main_while0b_call12_c_1 : Ref sig .tc := ⟨.hbm, 195, rfl⟩
abbrev main_while0b_v92 : Ref sig .tc := ⟨.hbm, 196, rfl⟩
abbrev main_while0b_c_27 : Ref sig .tc := ⟨.hbm, 197, rfl⟩
abbrev main_while0b_v93 : Ref sig .tc := ⟨.hbm, 198, rfl⟩
abbrev main_v17 : Ref sig .tc := ⟨.hbm, 199, rfl⟩
abbrev main_v18 : Ref sig .tc := ⟨.hbm, 200, rfl⟩
abbrev main_v19 : Ref sig .tc := ⟨.hbm, 201, rfl⟩
abbrev main_v20 : Ref sig .tc := ⟨.hbm, 202, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev main_while0_count : Scf.Loop 32 := ⟨0#32, 5#32, 1#32⟩

abbrev grid0 : Pipeline.Grid := .none

abbrev stage0_0 : Fin 1 → Memref sig .tc .vmem S2x640x12x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x640x3x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x640x12x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x640x3x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RA.lean ====
/- One step of the reference's loop: the block it reads and its scores. -/
module

public import proofs.«01_k».proof.Proof.Gen.ReferenceIdeal.Run
public import Idealize.ShloMosaic.PureOps.Ideal
public import Idealize.ShloMosaic.Lib.Pointwise
public import Idealize.ShloMosaic.Lib.ReduceAll
public import Idealize.ShloMosaic.Lib.Tactic.CleanTypes

@[expose] public section

set_option maxRecDepth 16384

noncomputable section

namespace Cert.RBody

open Idealize.ShloMosaic Idealize.ShloMosaic.TcCoe Idealize.ShloMosaic.Tactic
open Cert.ReferenceIdeal Cert.ReferenceIdeal.Gen Cert.ReferenceIdeal.Value

/-- The loop counter as a word reads back as itself. -/
theorem start_word (n : Fin 5) : (BitVec.ofNat 32 n.val).toInt = (n.val : Int) := by fin_cases n <;> rfl

/-- The buffers a trip reads. -/
abbrev Qv (V : Valuation τ sig (Elt Ideal)) : S5x2x128x12x160.Idx → EReal := V (Proc.devRef .tc main_v16_0)
/-- The query scales, block by block. -/
abbrev QSv (V : Valuation τ sig (Elt Ideal)) : S5x2x12.Idx → EReal := V (Proc.devRef .tc main_v16_1)
/-- The key codes, block by block. -/
abbrev Kv (V : Valuation τ sig (Elt Ideal)) : S5x2x128x3.Idx → BitVec 32 := V (Proc.devRef .tc main_v16_2)
/-- The values, block by block. -/
abbrev VBv (V : Valuation τ sig (Elt Ideal)) : S5x2x128x3x160.Idx → EReal := V (Proc.devRef .tc main_v16_3)
/-- The value scales, block by block. -/
abbrev VSv (V : Valuation τ sig (Elt Ideal)) : S5x2x3.Idx → EReal := V (Proc.devRef .tc main_v16_4)
/-- The codebook. -/
abbrev CBv (V : Valuation τ sig (Elt Ideal)) : S3x1024x160.Idx → EReal := V (Proc.devRef .tc main_v16_5)
/-- The score scale. -/
abbrev SCv (V : Valuation τ sig (Elt Ideal)) : S_.Idx → EReal := V (Proc.devRef .tc main_v16_6)
/-- The causal mask. -/
abbrev CAv (V : Valuation τ sig (Elt Ideal)) : S128x128.Idx → BitVec 1 := V (Proc.devRef .tc main_v16_7)
/-- The carried sums of values by code. -/
abbrev Uv (V : Valuation τ sig (Elt Ideal)) : S2x3x1024x160.Idx → EReal := V (Proc.devRef .tc main_v16_9)
/-- The carried counts of codes. -/
abbrev CNv (V : Valuation τ sig (Elt Ideal)) : S2x3x1024.Idx → EReal := V (Proc.devRef .tc main_v16_10)
/-- The outputs written so far. -/
abbrev Ov (V : Valuation τ sig (Elt Ideal)) : S5x2x128x1920.Idx → EReal := V (Proc.devRef .tc main_v16_11)

/-- A code as a 32-bit word reads back as itself. -/
theorem toInt_small16 (n : ℕ) (h : n < 1024) : (BitVec.ofNat 32 n).toInt = n := by
  rw [BitVec.toInt_eq_toNat_of_lt]
  · simp; omega
  · simp; omega

/-- Taking along the last axis, read at an index. -/
theorem take_at {α : Type} (x : S2x3x4x128x1024.Idx → α) (ixs : S2x3x4x128x128x1.Idx → BitVec 32) (b : Fin 2) (k : Fin 3) (g : Fin 4) (t j : Fin 128) (e : Fin 1024)
    (h : ixs (ix6 b k g t j 0) = BitVec.ofNat 32 e.val) :
    Host.gather gather_S2x3x4x128x1024_S2x3x4x128x128x1_S2x3x4x128x128_n_4_0123_0123_4_5_11111 x ixs (ix5 b k g t j) = x (ix5 b k g t e) := by
  set D := gather_S2x3x4x128x1024_S2x3x4x128x128x1_S2x3x4x128x128_n_4_0123_0123_4_5_11111 with hD
  unfold Host.gather
  congr 1
  funext a
  refine Fin.ext ?_
  show D.start (ix5 b k g t j) ixs a + D.batchCoord (ix5 b k g t j) a + D.offCoord (ix5 b k g t j) a = _
  have ho : D.offCoord (ix5 b k g t j) a = 0 := GatherDims.offCoord_eq_zero _ _ _ (fun h => by
    revert h
    rw [GatherDims.mem_sKept]
    fin_cases a <;> decide)
  rw [ho, Nat.add_zero]
  by_cases ha : a = 4
  · subst ha
    rw [GatherDims.batchCoord_eq_zero D _ (4 : Fin 5) (by decide), Nat.add_zero]
    unfold GatherDims.start
    rw [dif_pos (show (4 : Fin 5) ∈ D.startIndexMap from List.mem_singleton.mpr rfl)]
    have hsi : D.siIdx (ix5 b k g t j) ⟨List.idxOf (4 : Fin 5) D.startIndexMap,
      List.idxOf_lt_length_iff.2 (List.mem_singleton.mpr rfl)⟩ = ix6 b k g t j 0 := by
      funext b; refine Fin.ext ?_
      fin_cases b <;> rfl
    rw [hsi, h]
    show min (BitVec.ofNat 32 e.val).toInt.toNat (1024 - 1) = e.val
    rw [toInt_small16 _ e.isLt]
    simp
    omega
  · have hs : D.start (ix5 b k g t j) ixs a = 0 := by
      unfold GatherDims.start
      rw [dif_neg]
      intro h
      exact ha (List.mem_singleton.mp h)
    rw [hs, Nat.zero_add]
    fin_cases a
    · rfl
    · rfl
    · rfl
    · rfl
    · exact absurd rfl ha

/-- One block along the first axis. -/
theorem slice4 {α : Type} (x : S5x2x128x3.Idx → α) (st : Fin 4 → Int) (h : S5x2x128x3.Slices (fun _ => 0) S1x2x128x3) (n : Fin 5) (h0 : st 0 = n.val) (h1 : st 1 = 0) (h2 : st 2 = 0) (h3 : st 3 = 0) :
    Host.dynamicSlice S1x2x128x3 x st h = fun j => x (ix4 n (j 1) (j 2) (j 3)) := by
  funext j
  have e0 : Host.clampedStart S5x2x128x3 S1x2x128x3 h.1 st 0 = n.val := Host.clampedStart_of_le _ _ _ _ h0 (by have := n.isLt; show n.val + 1 ≤ 5; omega)
  have e1 : Host.clampedStart S5x2x128x3 S1x2x128x3 h.1 st 1 = 0 := Host.clampedStart_of_le _ _ _ 0 h1 (Nat.le_of_eq (Nat.zero_add _))
  have e2 : Host.clampedStart S5x2x128x3 S1x2x128x3 h.1 st 2 = 0 := Host.clampedStart_of_le _ _ _ 0 h2 (Nat.le_of_eq (Nat.zero_add _))
  have e3 : Host.clampedStart S5x2x128x3 S1x2x128x3 h.1 st 3 = 0 := Host.clampedStart_of_le _ _ _ 0 h3 (Nat.le_of_eq (Nat.zero_add _))
  rw [Host.dynamicSlice_apply]
  refine congrArg x (funext fun a => Fin.ext ?_)
  fin_cases a
  · show Host.clampedStart S5x2x128x3 S1x2x128x3 h.1 st 0 + (j 0).val = n.val
    rw [e0, show (j 0).val = 0 from Nat.lt_one_iff.1 (j 0).isLt, Nat.add_zero]
  · show Host.clampedStart S5x2x128x3 S1x2x128x3 h.1 st 1 + (j 1).val = (j 1).val
    rw [e1, Nat.zero_add]
  · show Host.clampedStart S5x2x128x3 S1x2x128x3 h.1 st 2 + (j 2).val = (j 2).val
    rw [e2, Nat.zero_add]
  · show Host.clampedStart S5x2x128x3 S1x2x128x3 h.1 st 3 + (j 3).val = (j 3).val
    rw [e3, Nat.zero_add]

/-- One block along the first axis. -/
theorem slice5 {α : Type} (x : S5x2x128x3x160.Idx → α) (st : Fin 5 → Int) (h : S5x2x128x3x160.Slices (fun _ => 0) S1x2x128x3x160) (n : Fin 5) (h0 : st 0 = n.val) (h1 : st 1 = 0) (h2 : st 2 = 0) (h3 : st 3 = 0) (h4 : st 4 = 0) :
    Host.dynamicSlice S1x2x128x3x160 x st h = fun j => x (ix5 n (j 1) (j 2) (j 3) (j 4)) := by
  funext j
  have e0 : Host.clampedStart S5x2x128x3x160 S1x2x128x3x160 h.1 st 0 = n.val := Host.clampedStart_of_le _ _ _ _ h0 (by have := n.isLt; show n.val + 1 ≤ 5; omega)
  have e1 : Host.clampedStart S5x2x128x3x160 S1x2x128x3x160 h.1 st 1 = 0 := Host.clampedStart_of_le _ _ _ 0 h1 (Nat.le_of_eq (Nat.zero_add _))
  have e2 : Host.clampedStart S5x2x128x3x160 S1x2x128x3x160 h.1 st 2 = 0 := Host.clampedStart_of_le _ _ _ 0 h2 (Nat.le_of_eq (Nat.zero_add _))
  have e3 : Host.clampedStart S5x2x128x3x160 S1x2x128x3x160 h.1 st 3 = 0 := Host.clampedStart_of_le _ _ _ 0 h3 (Nat.le_of_eq (Nat.zero_add _))
  have e4 : Host.clampedStart S5x2x128x3x160 S1x2x128x3x160 h.1 st 4 = 0 := Host.clampedStart_of_le _ _ _ 0 h4 (Nat.le_of_eq (Nat.zero_add _))
  rw [Host.dynamicSlice_apply]
  refine congrArg x (funext fun a => Fin.ext ?_)
  fin_cases a
  · show Host.clampedStart S5x2x128x3x160 S1x2x128x3x160 h.1 st 0 + (j 0).val = n.val
    rw [e0, show (j 0).val = 0 from Nat.lt_one_iff.1 (j 0).isLt, Nat.add_zero]
  · show Host.clampedStart S5x2x128x3x160 S1x2x128x3x160 h.1 st 1 + (j 1).val = (j 1).val
    rw [e1, Nat.zero_add]
  · show Host.clampedStart S5x2x128x3x160 S1x2x128x3x160 h.1 st 2 + (j 2).val = (j 2).val
    rw [e2, Nat.zero_add]
  · show Host.clampedStart S5x2x128x3x160 S1x2x128x3x160 h.1 st 3 + (j 3).val = (j 3).val
    rw [e3, Nat.zero_add]
  · show Host.clampedStart S5x2x128x3x160 S1x2x128x3x160 h.1 st 4 + (j 4).val = (j 4).val
    rw [e4, Nat.zero_add]

/-- One block along the first axis. -/
theorem slice3 {α : Type} (x : S5x2x3.Idx → α) (st : Fin 3 → Int) (h : S5x2x3.Slices (fun _ => 0) S1x2x3) (n : Fin 5) (h0 : st 0 = n.val) (h1 : st 1 = 0) (h2 : st 2 = 0) :
    Host.dynamicSlice S1x2x3 x st h = fun j => x (ix3 n (j 1) (j 2)) := by
  funext j
  have e0 : Host.clampedStart S5x2x3 S1x2x3 h.1 st 0 = n.val := Host.clampedStart_of_le _ _ _ _ h0 (by have := n.isLt; show n.val + 1 ≤ 5; omega)
  have e1 : Host.clampedStart S5x2x3 S1x2x3 h.1 st 1 = 0 := Host.clampedStart_of_le _ _ _ 0 h1 (Nat.le_of_eq (Nat.zero_add _))
  have e2 : Host.clampedStart S5x2x3 S1x2x3 h.1 st 2 = 0 := Host.clampedStart_of_le _ _ _ 0 h2 (Nat.le_of_eq (Nat.zero_add _))
  rw [Host.dynamicSlice_apply]
  refine congrArg x (funext fun a => Fin.ext ?_)
  fin_cases a
  · show Host.clampedStart S5x2x3 S1x2x3 h.1 st 0 + (j 0).val = n.val
    rw [e0, show (j 0).val = 0 from Nat.lt_one_iff.1 (j 0).isLt, Nat.add_zero]
  · show Host.clampedStart S5x2x3 S1x2x3 h.1 st 1 + (j 1).val = (j 1).val
    rw [e1, Nat.zero_add]
  · show Host.clampedStart S5x2x3 S1x2x3 h.1 st 2 + (j 2).val = (j 2).val
    rw [e2, Nat.zero_add]

/-- One block along the first axis. -/
theorem slice5q {α : Type} (x : S5x2x128x12x160.Idx → α) (st : Fin 5 → Int) (h : S5x2x128x12x160.Slices (fun _ => 0) S1x2x128x12x160) (n : Fin 5) (h0 : st 0 = n.val) (h1 : st 1 = 0) (h2 : st 2 = 0) (h3 : st 3 = 0) (h4 : st 4 = 0) :
    Host.dynamicSlice S1x2x128x12x160 x st h = fun j => x (ix5 n (j 1) (j 2) (j 3) (j 4)) := by
  funext j
  have e0 : Host.clampedStart S5x2x128x12x160 S1x2x128x12x160 h.1 st 0 = n.val := Host.clampedStart_of_le _ _ _ _ h0 (by have := n.isLt; show n.val + 1 ≤ 5; omega)
  have e1 : Host.clampedStart S5x2x128x12x160 S1x2x128x12x160 h.1 st 1 = 0 := Host.clampedStart_of_le _ _ _ 0 h1 (Nat.le_of_eq (Nat.zero_add _))
  have e2 : Host.clampedStart S5x2x128x12x160 S1x2x128x12x160 h.1 st 2 = 0 := Host.clampedStart_of_le _ _ _ 0 h2 (Nat.le_of_eq (Nat.zero_add _))
  have e3 : Host.clampedStart S5x2x128x12x160 S1x2x128x12x160 h.1 st 3 = 0 := Host.clampedStart_of_le _ _ _ 0 h3 (Nat.le_of_eq (Nat.zero_add _))
  have e4 : Host.clampedStart S5x2x128x12x160 S1x2x128x12x160 h.1 st 4 = 0 := Host.clampedStart_of_le _ _ _ 0 h4 (Nat.le_of_eq (Nat.zero_add _))
  rw [Host.dynamicSlice_apply]
  refine congrArg x (funext fun a => Fin.ext ?_)
  fin_cases a
  · show Host.clampedStart S5x2x128x12x160 S1x2x128x12x160 h.1 st 0 + (j 0).val = n.val
    rw [e0, show (j 0).val = 0 from Nat.lt_one_iff.1 (j 0).isLt, Nat.add_zero]
  · show Host.clampedStart S5x2x128x12x160 S1x2x128x12x160 h.1 st 1 + (j 1).val = (j 1).val
    rw [e1, Nat.zero_add]
  · show Host.clampedStart S5x2x128x12x160 S1x2x128x12x160 h.1 st 2 + (j 2).val = (j 2).val
    rw [e2, Nat.zero_add]
  · show Host.clampedStart S5x2x128x12x160 S1x2x128x12x160 h.1 st 3 + (j 3).val = (j 3).val
    rw [e3, Nat.zero_add]
  · show Host.clampedStart S5x2x128x12x160 S1x2x128x12x160 h.1 st 4 + (j 4).val = (j 4).val
    rw [e4, Nat.zero_add]

/-- One block along the first axis. -/
theorem slice3s {α : Type} (x : S5x2x12.Idx → α) (st : Fin 3 → Int) (h : S5x2x12.Slices (fun _ => 0) S1x2x12) (n : Fin 5) (h0 : st 0 = n.val) (h1 : st 1 = 0) (h2 : st 2 = 0) :
    Host.dynamicSlice S1x2x12 x st h = fun j => x (ix3 n (j 1) (j 2)) := by
  funext j
  have e0 : Host.clampedStart S5x2x12 S1x2x12 h.1 st 0 = n.val := Host.clampedStart_of_le _ _ _ _ h0 (by have := n.isLt; show n.val + 1 ≤ 5; omega)
  have e1 : Host.clampedStart S5x2x12 S1x2x12 h.1 st 1 = 0 := Host.clampedStart_of_le _ _ _ 0 h1 (Nat.le_of_eq (Nat.zero_add _))
  have e2 : Host.clampedStart S5x2x12 S1x2x12 h.1 st 2 = 0 := Host.clampedStart_of_le _ _ _ 0 h2 (Nat.le_of_eq (Nat.zero_add _))
  rw [Host.dynamicSlice_apply]
  refine congrArg x (funext fun a => Fin.ext ?_)
  fin_cases a
  · show Host.clampedStart S5x2x12 S1x2x12 h.1 st 0 + (j 0).val = n.val
    rw [e0, show (j 0).val = 0 from Nat.lt_one_iff.1 (j 0).isLt, Nat.add_zero]
  · show Host.clampedStart S5x2x12 S1x2x12 h.1 st 1 + (j 1).val = (j 1).val
    rw [e1, Nat.zero_add]
  · show Host.clampedStart S5x2x12 S1x2x12 h.1 st 2 + (j 2).val = (j 2).val
    rw [e2, Nat.zero_add]

/-- A code is not a negative word. -/
theorem code_nonneg : ∀ e : Fin 1024, IntOp.cmpi CmpIPredicate.slt (BitVec.ofNat 32 e.val) 0#32 = 0#1 := by decide +kernel
/-- A code passes the range check of the lookup. -/
theorem code_range : ∀ e : Fin 1024, IntOp.andi (IntOp.cmpi CmpIPredicate.sge (BitVec.ofNat 32 e.val) 0#32) (IntOp.cmpi CmpIPredicate.sle (BitVec.ofNat 32 e.val) 1023#32) = 1#1 := by
  decide +kernel

section
variable (V : Valuation τ sig (Elt Ideal)) (n : Fin 5) (hctr : V (Proc.devRef .tc main_v16_8) = fun _ => BitVec.ofNat 32 n.val)

include hctr

/-- The first start of a block's slice. -/
theorem start0 (h : 0 < S_.numel) : ((V (Proc.devRef .tc main_v16_8) : S_.Idx → BitVec 32) (Shape.Idx.first h)).toInt = (n.val : Int) := by
  rw [hctr]; exact start_word n

/-- The codes of block `n`. -/
theorem v23_at (b : Fin 2) (t : Fin 128) (k : Fin 3) :
    (res_main_while0b_v23 V : S2x128x3.Idx → BitVec 32) (ix3 b t k) = Kv V (ix4 n b t k) := by
  unfold res_main_while0b_v23
  clean_types
  rw [slice4 _ _ _ n (start0 V n hctr _) rfl rfl rfl]
  pointwise

/-- The decoded values of block `n`. -/
theorem v24_at (b : Fin 2) (t : Fin 128) (k : Fin 3) (d : Fin 160) :
    (res_main_while0b_v24 V : S2x128x3x160.Idx → EReal) (ix4 b t k d) = VBv V (ix5 n b t k d) := by
  unfold res_main_while0b_v24
  clean_types
  rw [slice5 _ _ _ n (start0 V n hctr _) rfl rfl rfl rfl]
  pointwise

/-- The value scales of block `n`. -/
theorem v25_at (b : Fin 2) (k : Fin 3) :
    (res_main_while0b_v25 V : S2x3.Idx → EReal) (ix2 b k) = VSv V (ix3 n b k) := by
  unfold res_main_while0b_v25
  clean_types
  rw [slice3 _ _ _ n (start0 V n hctr _) rfl rfl]
  pointwise

/-- The scaled score of a query of block `n` against a code. -/
theorem v34_at (b : Fin 2) (k : Fin 3) (g : Fin 4) (t : Fin 128) (e : Fin 1024) :
    (res_main_while0b_v34 V : S2x3x4x128x1024.Idx → EReal) (ix5 b k g t e)
      = (∑ d : Fin 160, CBv V (ix3 k e d) * Qv V (ix5 n b t ⟨4 * k.val + g.val, by omega⟩ d))
        * (QSv V (ix3 n b ⟨4 * k.val + g.val, by omega⟩) * SCv V ix0) := by
  have hf : ∀ h, (⟨k.val * 4 + g.val, h⟩ : Fin 12) = ⟨4 * k.val + g.val, by omega⟩ := fun h => Fin.ext (by simp only; omega)
  unfold res_main_while0b_v34
  clean_types
  rw [slice5q _ _ _ n (start0 V n hctr _) rfl rfl rfl rfl, slice3s _ _ _ n (start0 V n hctr _) rfl rfl]
  pointwise
  simp only [hf]

variable (code : Fin 2 → Fin 3 → Fin 128 → Fin 1024) (hK : ∀ b t k, Kv V (ix4 n b t k) = BitVec.ofNat 32 (code b k t).val)
include hK

/-- The index that the score is taken at. -/
theorem call6_at (b : Fin 2) (k : Fin 3) (g : Fin 4) (t j : Fin 128) :
    (res_main_while0b_call6_v5 V : S2x3x4x128x128x1.Idx → BitVec 32) (ix6 b k g t j 0) = BitVec.ofNat 32 (code b k j).val := by
  unfold res_main_while0b_call6_v5 res_main_while0b_v37
  pointwise
  rw [v23_at V n hctr, hK]
  rw [code_nonneg]
  rfl

/-- The score of a query against the key of a position. -/
theorem v38_at (b : Fin 2) (k : Fin 3) (g : Fin 4) (t j : Fin 128) :
    (res_main_while0b_v38 V : S2x3x4x128x128.Idx → EReal) (ix5 b k g t j) = (res_main_while0b_v34 V : S2x3x4x128x1024.Idx → EReal) (ix5 b k g t (code b k j)) := by
  unfold res_main_while0b_v38
  rw [ValueIdx.select_apply]
  rw [Host.reduce_andi_one _ _ _ _ _ rfl ?_]
  · rw [show ∀ x y : EReal, Scalar.select 1#1 x y = x from fun x y => rfl]
    exact take_at _ _ b k g t j _ (call6_at V n hctr code hK b k g t j)
  · intro i
    obtain ⟨b, k, g, t, j, z, rfl⟩ : ∃ b k g t j z, i = ix6 b k g t j z := ⟨i 0, i 1, i 2, i 3, i 4, i 5, by ext a; fin_cases a <;> rfl⟩
    obtain rfl : z = 0 := Subsingleton.elim _ _
    pointwise
    rw [call6_at V n hctr code hK]
    exact code_range _

/-- The score of a query of block `n` against a code, as the largest is taken over. -/
abbrev xs (b : Fin 2) (k : Fin 3) (g : Fin 4) (t : Fin 128) (e : Fin 1024) : EReal :=
  (res_main_while0b_v34 V : S2x3x4x128x1024.Idx → EReal) (ix5 b k g t e)

omit hctr hK in
/-- Which codes the past holds, entry by entry. -/
theorem v41_at (b : Fin 2) (k : Fin 3) (e : Fin 1024) :
    (res_main_while0b_v41 V : S2x3x1x1x1024.Idx → BitVec 1) (ix5 b k 0 0 e) = BitVec.ofBool (decide (0 < CNv V (ix3 b k e))) := by
  unfold res_main_while0b_v41
  pointwise

end
end Cert.RBody
-- ==== Proof.RB.lean ====
/- One step of the reference's loop: the weights, the output, the sums and the counts. -/
module

public import proofs.«01_k».proof.Proof.Gen.ReferenceIdeal.Run
public import proofs.«01_k».proof.Proof.RA
public import Idealize.ShloMosaic.PureOps.Ideal
public import Idealize.ShloMosaic.Lib.Pointwise
public import Idealize.ShloMosaic.Lib.ReduceAll
public import Idealize.ShloMosaic.Lib.Tactic.CleanTypes

@[expose] public section

set_option maxRecDepth 16384

noncomputable section

namespace Cert.RBody

open Idealize.ShloMosaic Idealize.ShloMosaic.TcCoe Idealize.ShloMosaic.Tactic
open Cert.ReferenceIdeal Cert.ReferenceIdeal.Gen Cert.ReferenceIdeal.Value

/-- The bits of minus infinity. -/
theorem bits_neg_inf : Ideal.ofBits FTy.f32 4286578688#32 = ⊥ := by
  simp only [Ideal.ofBits]
  unfold Ideal.ieee
  have h1 : (4286578688#32 : BitVec 32).extractLsb' 23 8 = 255#8 := by decide +kernel
  simp
/-- A select on a decided condition. -/
theorem sel_bool {α : Type} (p : Prop) [Decidable p] (a b : α) : Scalar.select (BitVec.ofBool (decide p)) a b = if p then a else b := by
  by_cases h : p <;> simp [h] <;> rfl
/-- A matrix over the last two axes, read at an index. -/
theorem bcast_tri (x : S128x128.Idx → BitVec 1) (b : Fin 2) (k : Fin 3) (g : Fin 4) (t j : Fin 128) :
    broadcastInDim S2x3x4x128x128 ![3, 4] bcast_S128x128_S2x3x4x128x128_3_4 x (ix5 b k g t j) = x (ix2 t j) := by
  refine congrArg x (funext fun a => ?_)
  fin_cases a
  · rfl
  · rfl

section
variable (V : Valuation τ sig (Elt Ideal)) (n : Fin 5) (hctr : V (Proc.devRef .tc main_v16_8) = fun _ => BitVec.ofNat 32 n.val)
variable (code : Fin 2 → Fin 3 → Fin 128 → Fin 1024) (hK : ∀ b t k, Kv V (ix4 n b t k) = BitVec.ofNat 32 (code b k t).val)
variable (hC : ∀ t j, CAv V (ix2 t j) = BitVec.ofBool (decide (j.val ≤ t.val)))
include hctr hK hC

/-- The weight of each code of the past. -/
theorem v57_at (b : Fin 2) (k : Fin 3) (g : Fin 4) (t : Fin 128) (e : Fin 1024) :
    (res_main_while0b_v57 V : S2x3x4x128x1024.Idx → EReal) (ix5 b k g t e)
      = if 0 < CNv V (ix3 b k e) then Ideal.exp (xs V b k g t e - (res_main_while0b_v49 V : S2x3x4x128x1.Idx → EReal) (ix5 b k g t 0)) else 0 := by
  unfold res_main_while0b_v57
  pointwise
  rw [v41_at, sel_bool]
  exact if_congr Iff.rfl rfl Ideal.ofBits_zero_f32
/-- The weight of a position of the block, as an extended real. -/
abbrev ee (V : Valuation τ sig (Elt Ideal)) (b : Fin 2) (k : Fin 3) (g : Fin 4) (t j : Fin 128) : EReal := (res_main_while0b_v53 V : S2x3x4x128x128.Idx → EReal) (ix5 b k g t j)
/-- The weight of a code of the past, by name. -/
abbrev gg (V : Valuation τ sig (Elt Ideal)) (b : Fin 2) (k : Fin 3) (g : Fin 4) (t : Fin 128) (e : Fin 1024) : EReal := (res_main_while0b_v57 V : S2x3x4x128x1024.Idx → EReal) (ix5 b k g t e)
/-- The denominator of a row: the block's weights and the counted weights of the past. -/
theorem v66_at (b : Fin 2) (k : Fin 3) (g : Fin 4) (t : Fin 128) :
    (res_main_while0b_v66 V : S2x3x4x128x1.Idx → EReal) (ix5 b k g t 0)
      = Ideal.div 1 ((∑ j, ee V b k g t j) + ∑ e, gg V b k g t e * CNv V (ix3 b k e)) := by
  unfold res_main_while0b_v66
  pointwise
end
section
variable (V : Valuation τ sig (Elt Ideal)) (n : Fin 5) (hctr : V (Proc.devRef .tc main_v16_8) = fun _ => BitVec.ofNat 32 n.val)
variable (code : Fin 2 → Fin 3 → Fin 128 → Fin 1024) (hK : ∀ b t k, Kv V (ix4 n b t k) = BitVec.ofNat 32 (code b k t).val)
variable (hC : ∀ t j, CAv V (ix2 t j) = BitVec.ofBool (decide (j.val ≤ t.val)))
include hctr hK hC

/-- The one-hot row of a key code, by name. -/
abbrev hot (V : Valuation τ sig (Elt Ideal)) (b : Fin 2) (t : Fin 128) (k : Fin 3) (e : Fin 1024) : EReal := (res_main_while0b_v82 V : S2x128x3x1024.Idx → EReal) (ix4 b t k e)
/-- The one-hot row of a key code: one at the code, zero elsewhere. -/
theorem v82_at (b : Fin 2) (t : Fin 128) (k : Fin 3) (e : Fin 1024) :
    hot V b t k e = if code b k t = e then 1 else 0 := by
  unfold hot res_main_while0b_v82
  pointwise
  rw [v23_at V n hctr, hK]
  have hc : IntOp.cmpi CmpIPredicate.eq (BitVec.ofNat 32 (code b k t).val) (BitVec.ofNat 32 e.val) = BitVec.ofBool (decide (code b k t = e)) := by
    have h1 := (code b k t).isLt
    have h2 := e.isLt
    have h3 : (BitVec.ofNat 32 (code b k t).val = BitVec.ofNat 32 e.val) ↔ code b k t = e := by
      rw [← BitVec.toNat_inj, Fin.ext_iff]; simp; omega
    by_cases h : code b k t = e
    · simp [IntOp.cmpi, h]
    · have h4 := mt h3.1 h
      rw [decide_eq_false h]
      show BitVec.ofBool (BitVec.ofNat 32 (code b k t).val == BitVec.ofNat 32 e.val) = _
      rw [beq_eq_false_iff_ne.2 h4]
  rw [hc]
  by_cases h : code b k t = e
  · rw [if_pos h, decide_eq_true h]
    show ((((BitVec.ofBool true).toNat : ℕ) : ℝ) : EReal) = 1
    simp
  · rw [if_neg h, decide_eq_false h]
    show ((((BitVec.ofBool false).toNat : ℕ) : ℝ) : EReal) = 0
    simp

/-- The sums after one step. -/
theorem step9_at (b : Fin 2) (k : Fin 3) (e : Fin 1024) (d : Fin 160) :
    (step_main_v16_9 V : S2x3x1024x160.Idx → EReal) (ix4 b k e d) = Uv V (ix4 b k e d) + (∑ t, (if code b k t = e then 1 else 0) * VBv V (ix5 n b t k d)) * VSv V (ix3 n b k) := by
  unfold step_main_v16_9
  rw [id_eq]
  pointwise
  rw [v25_at V n hctr]
  refine congrArg (fun z : EReal => Uv V (ix4 b k e d) + z * VSv V (ix3 n b k)) (Finset.sum_congr rfl fun x _ => ?_)
  rw [v24_at V n hctr]
  exact congrArg (fun z : EReal => z * VBv V (ix5 n b x k d)) (v82_at V n hctr code hK hC b x k e)
/-- The counts after one step. -/
theorem step10_at (b : Fin 2) (k : Fin 3) (e : Fin 1024) :
    (step_main_v16_10 V : S2x3x1024.Idx → EReal) (ix3 b k e) = CNv V (ix3 b k e) + ∑ t, if code b k t = e then 1 else 0 := by
  unfold step_main_v16_10
  rw [id_eq]
  pointwise
  exact congrArg (fun z : EReal => CNv V (ix3 b k e) + z) (Finset.sum_congr rfl fun x _ => v82_at V n hctr code hK hC b x k e)
end
/-- Writing one block along the first axis. -/
theorem update4 {α : Type} (x : S5x2x128x1920.Idx → α) (u : S1x2x128x1920.Idx → α) (st : Fin 4 → Int) (h : S5x2x128x1920.Slices (fun _ => 0) S1x2x128x1920) (n : Fin 5)
    (h0 : st 0 = n.val) (h1 : st 1 = 0) (h2 : st 2 = 0) (h3 : st 3 = 0) (m : Fin 5) (b : Fin 2) (t : Fin 128) (w : Fin 1920) :
    Host.dynamicUpdateSlice x u st h (ix4 m b t w) = if m = n then u (ix4 0 b t w) else x (ix4 m b t w) := by
  have e0 : Host.clampedStart S5x2x128x1920 S1x2x128x1920 h.1 st 0 = n.val := Host.clampedStart_of_le _ _ _ _ h0 (by have := n.isLt; show n.val + 1 ≤ 5; omega)
  have e1 : Host.clampedStart S5x2x128x1920 S1x2x128x1920 h.1 st 1 = 0 := Host.clampedStart_of_le _ _ _ 0 h1 (Nat.le_of_eq (Nat.zero_add _))
  have e2 : Host.clampedStart S5x2x128x1920 S1x2x128x1920 h.1 st 2 = 0 := Host.clampedStart_of_le _ _ _ 0 h2 (Nat.le_of_eq (Nat.zero_add _))
  have e3 : Host.clampedStart S5x2x128x1920 S1x2x128x1920 h.1 st 3 = 0 := Host.clampedStart_of_le _ _ _ 0 h3 (Nat.le_of_eq (Nat.zero_add _))
  rw [Host.dynamicUpdateSlice_apply]
  by_cases hm : m = n
  · subst hm
    rw [if_pos rfl, dif_pos]
    · refine congrArg u (funext fun a => Fin.ext ?_)
      fin_cases a
      · show m.val - Host.clampedStart S5x2x128x1920 S1x2x128x1920 h.1 st 0 = 0
        rw [e0]; omega
      · show b.val - Host.clampedStart S5x2x128x1920 S1x2x128x1920 h.1 st 1 = b.val
        rw [e1]; omega
      · show t.val - Host.clampedStart S5x2x128x1920 S1x2x128x1920 h.1 st 2 = t.val
        rw [e2]; omega
      · show w.val - Host.clampedStart S5x2x128x1920 S1x2x128x1920 h.1 st 3 = w.val
        rw [e3]; omega
    · intro a
      fin_cases a
      · show Host.clampedStart S5x2x128x1920 S1x2x128x1920 h.1 st 0 ≤ m.val ∧ m.val < Host.clampedStart S5x2x128x1920 S1x2x128x1920 h.1 st 0 + 1
        rw [e0]; omega
      · show Host.clampedStart S5x2x128x1920 S1x2x128x1920 h.1 st 1 ≤ b.val ∧ b.val < Host.clampedStart S5x2x128x1920 S1x2x128x1920 h.1 st 1 + 2
        rw [e1]; omega
      · show Host.clampedStart S5x2x128x1920 S1x2x128x1920 h.1 st 2 ≤ t.val ∧ t.val < Host.clampedStart S5x2x128x1920 S1x2x128x1920 h.1 st 2 + 128
        rw [e2]; omega
      · show Host.clampedStart S5x2x128x1920 S1x2x128x1920 h.1 st 3 ≤ w.val ∧ w.val < Host.clampedStart S5x2x128x1920 S1x2x128x1920 h.1 st 3 + 1920
        rw [e3]; omega
  · rw [if_neg hm, dif_neg]
    intro hin
    have := hin 0
    rw [e0] at this
    have h5 : n.val ≤ m.val ∧ m.val < n.val + 1 := this
    exact hm (Fin.ext (by omega))

section
variable (V : Valuation τ sig (Elt Ideal)) (n : Fin 5) (hctr : V (Proc.devRef .tc main_v16_8) = fun _ => BitVec.ofNat 32 n.val)
variable (code : Fin 2 → Fin 3 → Fin 128 → Fin 1024) (hK : ∀ b t k, Kv V (ix4 n b t k) = BitVec.ofNat 32 (code b k t).val)
variable (hC : ∀ t j, CAv V (ix2 t j) = BitVec.ofBool (decide (j.val ≤ t.val)))
include hctr

/-- The reciprocal of a query's sum of weights. -/
abbrev rr (V : Valuation τ sig (Elt Ideal)) (b : Fin 2) (k : Fin 3) (g : Fin 4) (t : Fin 128) : EReal := (res_main_while0b_v66 V : S2x3x4x128x1.Idx → EReal) (ix5 b k g t 0)
/-- The outputs after one step. -/
theorem step11_at (m : Fin 5) (b : Fin 2) (t : Fin 128) (k : Fin 3) (g : Fin 4) (d : Fin 160) :
    (step_main_v16_11 V : S5x2x128x1920.Idx → EReal) (ix4 m b t ⟨160 * (4 * k.val + g.val) + d.val, by omega⟩)
      = if m = n then (∑ j, VBv V (ix5 n b j k d) * (ee V b k g t j * rr V b k g t)) * VSv V (ix3 n b k)
          + ∑ e, Uv V (ix4 b k e d) * (gg V b k g t e * rr V b k g t)
        else Ov V (ix4 m b t ⟨160 * (4 * k.val + g.val) + d.val, by omega⟩) := by
  generalize hw : (⟨160 * (4 * k.val + g.val) + d.val, by omega⟩ : Fin 1920) = w
  have hv : w.val = 160 * (4 * k.val + g.val) + d.val := by rw [← hw]
  have hk' : ∀ h, (⟨w.val / 640, h⟩ : Fin 3) = k := fun h => Fin.ext (by simp only; omega)
  have hg' : ∀ h, (⟨w.val / 160 % 4, h⟩ : Fin 4) = g := fun h => Fin.ext (by simp only; omega)
  have hd' : ∀ h, (⟨w.val % 160, h⟩ : Fin 160) = d := fun h => Fin.ext (by simp only; omega)
  unfold step_main_v16_11
  rw [id_eq]
  clean_types
  rw [update4 _ _ _ _ n (start0 V n hctr _) rfl rfl rfl]
  refine if_congr Iff.rfl ?_ rfl
  pointwise
  simp only [hk', hg', hd']
  rw [v25_at V n hctr]
  refine congrArg (fun z : EReal => z * VSv V (ix3 n b k) + _) (Finset.sum_congr rfl fun x _ => ?_)
  rw [v24_at V n hctr]
end
end Cert.RBody
-- ==== Proof.RB0.lean ====
/- One step of the reference's loop: the row maximum. -/
module

public import proofs.«01_k».proof.Proof.Gen.ReferenceIdeal.Run
public import proofs.«01_k».proof.Proof.RB
public import Idealize.ShloMosaic.PureOps.Ideal
public import Idealize.ShloMosaic.Lib.Pointwise
public import Idealize.ShloMosaic.Lib.ReduceAll
public import Idealize.ShloMosaic.Lib.Tactic.CleanTypes

@[expose] public section

set_option maxRecDepth 16384

noncomputable section

namespace Cert.RBody

open Idealize.ShloMosaic Idealize.ShloMosaic.TcCoe Idealize.ShloMosaic.Tactic
open Cert.ReferenceIdeal Cert.ReferenceIdeal.Gen Cert.ReferenceIdeal.Value

/-- The largest entry along a row of 128. -/
theorem max128_at (x : S2x3x4x128x128.Idx → EReal) (b : Fin 2) (k : Fin 3) (g : Fin 4) (t : Fin 128) :
    (broadcastInDim S2x3x4x128x1 ![0, 1, 2, 3] bcast_S2x3x4x128_S2x3x4x128x1_0_1_2_3 (Host.reduce (FloatOps.maximumf (F := Ideal) (φ := .f32)) x (constant (F := Ideal) S_ .f32 0xFF800000#32) reducesTo_S2x3x4x128x128_S2x3x4x128_d4 h_S_) : S2x3x4x128x1.Idx → EReal) (ix5 b k g t 0)
      = (Finset.univ : Finset (Fin 128)).fold max ⊥ fun j => x (ix5 b k g t j) := by
  rw [← bits_neg_inf]
  pointwise

/-- The largest entry along a row of 1024. -/
theorem max1024_at (x : S2x3x4x128x1024.Idx → EReal) (b : Fin 2) (k : Fin 3) (g : Fin 4) (t : Fin 128) :
    (broadcastInDim S2x3x4x128x1 ![0, 1, 2, 3] bcast_S2x3x4x128_S2x3x4x128x1_0_1_2_3 (Host.reduce (FloatOps.maximumf (F := Ideal) (φ := .f32)) x (constant (F := Ideal) S_ .f32 0xFF800000#32) reducesTo_S2x3x4x128x1024_S2x3x4x128_d4 h_S_) : S2x3x4x128x1.Idx → EReal) (ix5 b k g t 0)
      = (Finset.univ : Finset (Fin 1024)).fold max ⊥ fun e => x (ix5 b k g t e) := by
  rw [← bits_neg_inf]
  pointwise

section
variable (V : Valuation τ sig (Elt Ideal)) (n : Fin 5) (hctr : V (Proc.devRef .tc main_v16_8) = fun _ => BitVec.ofNat 32 n.val)
variable (code : Fin 2 → Fin 3 → Fin 128 → Fin 1024) (hK : ∀ b t k, Kv V (ix4 n b t k) = BitVec.ofNat 32 (code b k t).val)
variable (hC : ∀ t j, CAv V (ix2 t j) = BitVec.ofBool (decide (j.val ≤ t.val)))
include hctr hK hC

/-- The maximum of a row of scores. -/
theorem v49_at (b : Fin 2) (k : Fin 3) (g : Fin 4) (t : Fin 128) :
    (res_main_while0b_v49 V : S2x3x4x128x1.Idx → EReal) (ix5 b k g t 0)
      = max ((Finset.univ : Finset (Fin 128)).fold max ⊥ fun j => if j.val ≤ t.val then xs V b k g t (code b k j) else ⊥)
          ((Finset.univ : Finset (Fin 1024)).fold max ⊥ fun e => if 0 < CNv V (ix3 b k e) then xs V b k g t e else ⊥) := by
  unfold res_main_while0b_v49
  refine congr (congrArg max ((max128_at _ b k g t).trans (Finset.fold_congr fun x _ => ?_))) ((max1024_at _ b k g t).trans (Finset.fold_congr fun x _ => ?_))
  · refine (congr (congr (congrArg Scalar.select ((bcast_tri (CAv V) b k g t x).trans (hC t x))) (v38_at V n hctr code hK b k g t x)) bits_neg_inf).trans ?_
    rw [sel_bool]
  · refine (congr (congr (congrArg Scalar.select (?_ : _ = BitVec.ofBool (decide (0 < CNv V (ix3 b k x))))) rfl) bits_neg_inf).trans ?_
    · refine Eq.trans ?_ (v41_at V b k x)
      pointwise
    · rw [sel_bool]
end
end Cert.RBody
-- ==== Proof.RB1.lean ====
/- One step of the reference's loop: the weights inside the block. -/
module

public import proofs.«01_k».proof.Proof.Gen.ReferenceIdeal.Run
public import proofs.«01_k».proof.Proof.RB
public import Idealize.ShloMosaic.PureOps.Ideal
public import Idealize.ShloMosaic.Lib.Pointwise
public import Idealize.ShloMosaic.Lib.ReduceAll
public import Idealize.ShloMosaic.Lib.Tactic.CleanTypes

@[expose] public section

set_option maxRecDepth 16384

noncomputable section

namespace Cert.RBody

open Idealize.ShloMosaic Idealize.ShloMosaic.TcCoe Idealize.ShloMosaic.Tactic
open Cert.ReferenceIdeal Cert.ReferenceIdeal.Gen Cert.ReferenceIdeal.Value

section
variable (V : Valuation τ sig (Elt Ideal)) (n : Fin 5) (hctr : V (Proc.devRef .tc main_v16_8) = fun _ => BitVec.ofNat 32 n.val)
variable (code : Fin 2 → Fin 3 → Fin 128 → Fin 1024) (hK : ∀ b t k, Kv V (ix4 n b t k) = BitVec.ofNat 32 (code b k t).val)
variable (hC : ∀ t j, CAv V (ix2 t j) = BitVec.ofBool (decide (j.val ≤ t.val)))
include hctr hK hC

/-- The weight of each key inside the block. -/
theorem v53_at (b : Fin 2) (k : Fin 3) (g : Fin 4) (t j : Fin 128) :
    (res_main_while0b_v53 V : S2x3x4x128x128.Idx → EReal) (ix5 b k g t j)
      = if j.val ≤ t.val then Ideal.exp (xs V b k g t (code b k j) - (res_main_while0b_v49 V : S2x3x4x128x1.Idx → EReal) (ix5 b k g t 0)) else 0 := by
  have hB := bcast_tri (CAv V) b k g t j
  rw [hC] at hB
  unfold res_main_while0b_v53
  clean_types
  generalize hT : broadcastInDim S2x3x4x128x128 ![3, 4] bcast_S128x128_S2x3x4x128x128_3_4 (V (Proc.devRef .tc main_v16_7)) = B at hB ⊢
  pointwise
  rw [hB, sel_bool]
  refine (if_congr Iff.rfl (congrArg (fun z : EReal => Ideal.exp (z - (res_main_while0b_v49 V : S2x3x4x128x1.Idx → EReal) (ix5 b k g t 0))) (v38_at V n hctr code hK b k g t j)) ?_)
  exact Ideal.ofBits_zero_f32
end
end Cert.RBody
-- ==== Proof.RCA.lean ====
/- The reference's arguments, by name. -/
module

public import proofs.«01_k».proof.Proof.Gen.ReferenceIdeal.Run
public import proofs.«01_k».proof.Proof.RB
public import Idealize.ShloMosaic.PureOps.Ideal
public import Idealize.ShloMosaic.Lib.Pointwise
public import Idealize.ShloMosaic.Lib.StableHlo.RunRead
public import Idealize.ShloMosaic.Lib.Pipeline.ValueKit
public import Idealize.ShloMosaic.Lib.Tactic.CleanTypes

@[expose] public section

set_option maxRecDepth 16384

noncomputable section

namespace Cert.RBody

open Idealize.ShloMosaic Idealize.ShloMosaic.TcCoe Idealize.ShloMosaic.Tactic Idealize.ShloMosaic.StableHlo
open Cert.ReferenceIdeal Cert.ReferenceIdeal.Gen Cert.ReferenceIdeal.Value

section
variable (m : (ℓ : Loc nD τ sig) → Buf (Elt Ideal) ℓ) (ρ : Dev nD → PrngReg) (c : Dev nD)

/-- The query codes. -/
abbrev A0 : S2x640x12x160.Idx → EReal := m ((c : Thread nD τ).loc main_arg0)
/-- The query scales. -/
abbrev A1 : S2x5x12.Idx → EReal := m ((c : Thread nD τ).loc main_arg1)
/-- The key codes. -/
abbrev A2 : S2x640x3.Idx → BitVec 32 := m ((c : Thread nD τ).loc main_arg2)
/-- The codebook. -/
abbrev A3 : S3x1024x160.Idx → EReal := m ((c : Thread nD τ).loc main_arg3)
/-- The value codes. -/
abbrev A4 : S2x640x3x160.Idx → EReal := m ((c : Thread nD τ).loc main_arg4)
/-- The value scales. -/
abbrev A5 : S2x5x3.Idx → EReal := m ((c : Thread nD τ).loc main_arg5)

end
end Cert.RBody
-- ==== Proof.KA.lean ====
/- The kernel body, buffer by buffer: what each written region holds, element by element. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KBody

open Idealize.ShloMosaic Idealize.ShloMosaic.TcCoe Idealize.ShloMosaic.Tactic
open Cert.KernelIdeal Cert.KernelIdeal.Gen

/-- The batch coordinate of a grid point. -/
abbrev bI (i : grid0.Coords) : Fin 2 := ⟨(i 1).val, (i 1).isLt⟩
/-- The key/value head coordinate of a grid point. -/
abbrev hI (i : grid0.Coords) : Fin 3 := ⟨(i 0).val, (i 0).isLt⟩

/-- The offsets of the load of the grid point's row of key codes. -/
theorem off1 : ∀ i : grid0.Coords, k0_off1 i = ![0, (bI i).val, 0] := by decide +kernel

/-- Two 16-bit words of small numbers are equal exactly when the numbers are. -/
theorem sel_eq {α : Type} (m n : ℕ) (hm : m < 65536) (hn : n < 65536) (a b : α) :
    Scalar.select (IntOp.cmpi CmpIPredicate.eq (BitVec.ofNat 16 m) (BitVec.ofNat 16 n)) a b = if m = n then a else b := by
  have h : (BitVec.ofNat 16 m = BitVec.ofNat 16 n) ↔ m = n := by
    constructor
    · intro h
      have := congrArg BitVec.toNat h
      simpa [BitVec.toNat_ofNat, Nat.mod_eq_of_lt hm, Nat.mod_eq_of_lt hn] using this
    · rintro rfl; rfl
  by_cases hmn : m = n
  · subst hmn; simp [Scalar.select, IntOp.cmpi]
  · have : BitVec.ofNat 16 m ≠ BitVec.ofNat 16 n := fun e => hmn (h.1 e)
    have hb : (BitVec.ofNat 16 m == BitVec.ofNat 16 n) = false := beq_eq_false_iff_ne.2 this
    simp [Scalar.select, IntOp.cmpi, hmn, hb]

/-- The low half of a lane number plus a small offset. -/
theorem trunc_add (m n : ℕ) : BitVec.setWidth 16 (IntOp.addi (BitVec.ofNat 32 m) (BitVec.ofNat 32 n)) = BitVec.ofNat 16 (n + m) := by
  simp only [IntOp.addi]
  apply BitVec.eq_of_toNat_eq
  simp [BitVec.toNat_setWidth, BitVec.toNat_add, BitVec.toNat_ofNat]
  omega

/-- The low half of the word of a number. -/
theorem trunc_ofNat (m : ℕ) : BitVec.setWidth 16 (BitVec.ofNat 32 m) = BitVec.ofNat 16 m := by
  apply BitVec.eq_of_toNat_eq
  simp [BitVec.toNat_setWidth, BitVec.toNat_ofNat]

/-- The row of key codes of a batch, read from the whole array. -/
theorem ld_row {V : Type} (X : S1x2x640.Idx → V) (b : Fin 2) (t : Fin 640) (off : Fin 3 → Nat)
    (inb : ∀ a, off a + S1x1x640.size a ≤ S1x2x640.size a) (h : off = ![0, b.val, 0]) :
    View.ld (Val := fun _ => V) (e' := .i32) X (Rect.unit (s := S1x2x640) off S1x1x640.size inb) (ix3 0 0 t) = X (ix3 0 b t) := by
  subst h
  refine View.ld_unit_apply_of _ _ _ _ _ _ fun a => ?_
  fin_cases a <;> simp

open kernelRun0_A.sl in
/-- The row of key codes at a position. -/
theorem v2_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (t : Fin 640) :
    v2 c i arg4 harg4 x2 (ix2 0 t) = BitVec.ofNat 32 (kc t).val := by
  unfold v2
  pointwise
  rw [View.readAt_eq_ld, harg4.read_unread, ← hk t]
  exact ld_row x2 (bI i) t _ _ (off1 i)

open kernelRun0_A.sl in
/-- Key codes of one block, constant along the lanes. -/
theorem v7_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v7 c i arg4 harg4 x2 (ix2 a b) = BitVec.ofNat 16 (kc ⟨0 + a.val, by omega⟩).val := by
  unfold v7 v6 v5 v4 v3
  pointwise
  rw [← trunc_ofNat, ← v2_at c i arg4 harg4 x2 kc hk]

open kernelRun0_A.sl in
/-- Key codes of one block, constant along the lanes. -/
theorem v12_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v12 c i arg4 harg4 x2 (ix2 a b) = BitVec.ofNat 16 (kc ⟨128 + a.val, by omega⟩).val := by
  unfold v12 v11 v10 v9 v8
  pointwise
  rw [← trunc_ofNat, ← v2_at c i arg4 harg4 x2 kc hk]

open kernelRun0_A.sl in
/-- Key codes of one block, constant along the lanes. -/
theorem v17_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v17 c i arg4 harg4 x2 (ix2 a b) = BitVec.ofNat 16 (kc ⟨256 + a.val, by omega⟩).val := by
  unfold v17 v16 v15 v14 v13
  pointwise
  rw [← trunc_ofNat, ← v2_at c i arg4 harg4 x2 kc hk]

open kernelRun0_A.sl in
/-- Key codes of one block, constant along the lanes. -/
theorem v22_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v22 c i arg4 harg4 x2 (ix2 a b) = BitVec.ofNat 16 (kc ⟨384 + a.val, by omega⟩).val := by
  unfold v22 v21 v20 v19 v18
  pointwise
  rw [← trunc_ofNat, ← v2_at c i arg4 harg4 x2 kc hk]

open kernelRun0_A.sl in
/-- Key codes of one block, constant along the lanes. -/
theorem v27_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v27 c i arg4 harg4 x2 (ix2 a b) = BitVec.ofNat 16 (kc ⟨512 + a.val, by omega⟩).val := by
  unfold v27 v26 v25 v24 v23
  pointwise
  rw [← trunc_ofNat, ← v2_at c i arg4 harg4 x2 kc hk]

open kernelRun0_A.sl in
/-- Key codes of one block, constant along the rows. -/
theorem v31_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v31 c i arg4 harg4 x2 (ix2 a b) = BitVec.ofNat 16 (kc ⟨0 + b.val, by omega⟩).val := by
  unfold v31 v5 v4 v3
  pointwise
  rw [← trunc_ofNat, ← v2_at c i arg4 harg4 x2 kc hk]

open kernelRun0_A.sl in
/-- Key codes of one block, constant along the rows. -/
theorem v35_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v35 c i arg4 harg4 x2 (ix2 a b) = BitVec.ofNat 16 (kc ⟨128 + b.val, by omega⟩).val := by
  unfold v35 v10 v9 v8
  pointwise
  rw [← trunc_ofNat, ← v2_at c i arg4 harg4 x2 kc hk]

open kernelRun0_A.sl in
/-- Key codes of one block, constant along the rows. -/
theorem v39_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v39 c i arg4 harg4 x2 (ix2 a b) = BitVec.ofNat 16 (kc ⟨256 + b.val, by omega⟩).val := by
  unfold v39 v15 v14 v13
  pointwise
  rw [← trunc_ofNat, ← v2_at c i arg4 harg4 x2 kc hk]

open kernelRun0_A.sl in
/-- Key codes of one block, constant along the rows. -/
theorem v43_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v43 c i arg4 harg4 x2 (ix2 a b) = BitVec.ofNat 16 (kc ⟨384 + b.val, by omega⟩).val := by
  unfold v43 v20 v19 v18
  pointwise
  rw [← trunc_ofNat, ← v2_at c i arg4 harg4 x2 kc hk]

open kernelRun0_A.sl in
/-- The codes of one group of lanes. -/
theorem v47_at (a b : Fin 128) : v47 (ix2 a b) = BitVec.ofNat 16 (0 + b.val) := by
  unfold v47 v44 v45
  pointwise
  exact (trunc_add _ 0).trans (by simp)

open kernelRun0_A.sl in
/-- The codes of one group of lanes. -/
theorem v85_at (a b : Fin 128) : v85 (ix2 a b) = BitVec.ofNat 16 (128 + b.val) := by
  unfold v85 v44 v83
  pointwise
  exact trunc_add _ _

open kernelRun0_A.sl in
/-- The codes of one group of lanes. -/
theorem v123_at (a b : Fin 128) : v123 (ix2 a b) = BitVec.ofNat 16 (256 + b.val) := by
  unfold v123 v44 v121
  pointwise
  exact trunc_add _ _

open kernelRun0_A.sl in
/-- The codes of one group of lanes. -/
theorem v161_at (a b : Fin 128) : v161 (ix2 a b) = BitVec.ofNat 16 (384 + b.val) := by
  unfold v161 v44 v159
  pointwise
  exact trunc_add _ _

open kernelRun0_A.sl in
/-- The codes of one group of lanes. -/
theorem v199_at (a b : Fin 128) : v199 (ix2 a b) = BitVec.ofNat 16 (512 + b.val) := by
  unfold v199 v44 v197
  pointwise
  exact trunc_add _ _

open kernelRun0_A.sl in
/-- The codes of one group of lanes. -/
theorem v237_at (a b : Fin 128) : v237 (ix2 a b) = BitVec.ofNat 16 (640 + b.val) := by
  unfold v237 v44 v235
  pointwise
  exact trunc_add _ _

open kernelRun0_A.sl in
/-- The codes of one group of lanes. -/
theorem v275_at (a b : Fin 128) : v275 (ix2 a b) = BitVec.ofNat 16 (768 + b.val) := by
  unfold v275 v44 v273
  pointwise
  exact trunc_add _ _

open kernelRun0_A.sl in
/-- The codes of one group of lanes. -/
theorem v313_at (a b : Fin 128) : v313 (ix2 a b) = BitVec.ofNat 16 (896 + b.val) := by
  unfold v313 v44 v311
  pointwise
  exact trunc_add _ _

open kernelRun0_A.sl in
/-- One tile of the one-hot rows of the key codes. -/
theorem v348_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v348 c i arg4 harg4 x2 (ix2 a b) = if (kc ⟨512 + a.val, by omega⟩).val = 896 + b.val then (1 : EReal) else 0 := by
  generalize hR : (if (kc ⟨512 + a.val, by omega⟩).val = 896 + b.val then (1 : EReal) else 0) = R
  unfold v348 v345 v342 v49 cst v50 cst_1
  pointwise
  rw [v27_at c i arg4 harg4 x2 kc hk, v313_at, ← hR]
  exact sel_eq _ (896 + b.val) (lt_trans (kc _).isLt (by norm_num)) (by omega) _ _

open kernelRun0_A.sl in
/-- One tile of the one-hot rows of the key codes. -/
theorem v341_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v341 c i arg4 harg4 x2 (ix2 a b) = if (kc ⟨384 + a.val, by omega⟩).val = 896 + b.val then (1 : EReal) else 0 := by
  generalize hR : (if (kc ⟨384 + a.val, by omega⟩).val = 896 + b.val then (1 : EReal) else 0) = R
  unfold v341 v338 v335 v49 cst v50 cst_1
  pointwise
  rw [v22_at c i arg4 harg4 x2 kc hk, v313_at, ← hR]
  exact sel_eq _ (896 + b.val) (lt_trans (kc _).isLt (by norm_num)) (by omega) _ _

open kernelRun0_A.sl in
/-- One tile of the one-hot rows of the key codes. -/
theorem v334_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v334 c i arg4 harg4 x2 (ix2 a b) = if (kc ⟨256 + a.val, by omega⟩).val = 896 + b.val then (1 : EReal) else 0 := by
  generalize hR : (if (kc ⟨256 + a.val, by omega⟩).val = 896 + b.val then (1 : EReal) else 0) = R
  unfold v334 v331 v328 v49 cst v50 cst_1
  pointwise
  rw [v17_at c i arg4 harg4 x2 kc hk, v313_at, ← hR]
  exact sel_eq _ (896 + b.val) (lt_trans (kc _).isLt (by norm_num)) (by omega) _ _

open kernelRun0_A.sl in
/-- One tile of the one-hot rows of the key codes. -/
theorem v327_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v327 c i arg4 harg4 x2 (ix2 a b) = if (kc ⟨128 + a.val, by omega⟩).val = 896 + b.val then (1 : EReal) else 0 := by
  generalize hR : (if (kc ⟨128 + a.val, by omega⟩).val = 896 + b.val then (1 : EReal) else 0) = R
  unfold v327 v324 v321 v49 cst v50 cst_1
  pointwise
  rw [v12_at c i arg4 harg4 x2 kc hk, v313_at, ← hR]
  exact sel_eq _ (896 + b.val) (lt_trans (kc _).isLt (by norm_num)) (by omega) _ _

open kernelRun0_A.sl in
/-- One tile of the one-hot rows of the key codes. -/
theorem v320_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v320 c i arg4 harg4 x2 (ix2 a b) = if (kc ⟨0 + a.val, by omega⟩).val = 896 + b.val then (1 : EReal) else 0 := by
  generalize hR : (if (kc ⟨0 + a.val, by omega⟩).val = 896 + b.val then (1 : EReal) else 0) = R
  unfold v320 v317 v314 v49 cst v50 cst_1
  pointwise
  rw [v7_at c i arg4 harg4 x2 kc hk, v313_at, ← hR]
  exact sel_eq _ (896 + b.val) (lt_trans (kc _).isLt (by norm_num)) (by omega) _ _

open kernelRun0_A.sl in
/-- One tile of the one-hot rows of the key codes. -/
theorem v310_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v310 c i arg4 harg4 x2 (ix2 a b) = if (kc ⟨512 + a.val, by omega⟩).val = 768 + b.val then (1 : EReal) else 0 := by
  generalize hR : (if (kc ⟨512 + a.val, by omega⟩).val = 768 + b.val then (1 : EReal) else 0) = R
  unfold v310 v307 v304 v49 cst v50 cst_1
  pointwise
  rw [v27_at c i arg4 harg4 x2 kc hk, v275_at, ← hR]
  exact sel_eq _ (768 + b.val) (lt_trans (kc _).isLt (by norm_num)) (by omega) _ _

open kernelRun0_A.sl in
/-- One tile of the one-hot rows of the key codes. -/
theorem v303_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v303 c i arg4 harg4 x2 (ix2 a b) = if (kc ⟨384 + a.val, by omega⟩).val = 768 + b.val then (1 : EReal) else 0 := by
  generalize hR : (if (kc ⟨384 + a.val, by omega⟩).val = 768 + b.val then (1 : EReal) else 0) = R
  unfold v303 v300 v297 v49 cst v50 cst_1
  pointwise
  rw [v22_at c i arg4 harg4 x2 kc hk, v275_at, ← hR]
  exact sel_eq _ (768 + b.val) (lt_trans (kc _).isLt (by norm_num)) (by omega) _ _

open kernelRun0_A.sl in
/-- One tile of the one-hot rows of the key codes. -/
theorem v296_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v296 c i arg4 harg4 x2 (ix2 a b) = if (kc ⟨256 + a.val, by omega⟩).val = 768 + b.val then (1 : EReal) else 0 := by
  generalize hR : (if (kc ⟨256 + a.val, by omega⟩).val = 768 + b.val then (1 : EReal) else 0) = R
  unfold v296 v293 v290 v49 cst v50 cst_1
  pointwise
  rw [v17_at c i arg4 harg4 x2 kc hk, v275_at, ← hR]
  exact sel_eq _ (768 + b.val) (lt_trans (kc _).isLt (by norm_num)) (by omega) _ _

open kernelRun0_A.sl in
/-- One tile of the one-hot rows of the key codes. -/
theorem v289_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v289 c i arg4 harg4 x2 (ix2 a b) = if (kc ⟨128 + a.val, by omega⟩).val = 768 + b.val then (1 : EReal) else 0 := by
  generalize hR : (if (kc ⟨128 + a.val, by omega⟩).val = 768 + b.val then (1 : EReal) else 0) = R
  unfold v289 v286 v283 v49 cst v50 cst_1
  pointwise
  rw [v12_at c i arg4 harg4 x2 kc hk, v275_at, ← hR]
  exact sel_eq _ (768 + b.val) (lt_trans (kc _).isLt (by norm_num)) (by omega) _ _

open kernelRun0_A.sl in
/-- One tile of the one-hot rows of the key codes. -/
theorem v282_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v282 c i arg4 harg4 x2 (ix2 a b) = if (kc ⟨0 + a.val, by omega⟩).val = 768 + b.val then (1 : EReal) else 0 := by
  generalize hR : (if (kc ⟨0 + a.val, by omega⟩).val = 768 + b.val then (1 : EReal) else 0) = R
  unfold v282 v279 v276 v49 cst v50 cst_1
  pointwise
  rw [v7_at c i arg4 harg4 x2 kc hk, v275_at, ← hR]
  exact sel_eq _ (768 + b.val) (lt_trans (kc _).isLt (by norm_num)) (by omega) _ _

open kernelRun0_A.sl in
/-- One tile of the one-hot rows of the key codes. -/
theorem v272_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v272 c i arg4 harg4 x2 (ix2 a b) = if (kc ⟨512 + a.val, by omega⟩).val = 640 + b.val then (1 : EReal) else 0 := by
  generalize hR : (if (kc ⟨512 + a.val, by omega⟩).val = 640 + b.val then (1 : EReal) else 0) = R
  unfold v272 v269 v266 v49 cst v50 cst_1
  pointwise
  rw [v27_at c i arg4 harg4 x2 kc hk, v237_at, ← hR]
  exact sel_eq _ (640 + b.val) (lt_trans (kc _).isLt (by norm_num)) (by omega) _ _

open kernelRun0_A.sl in
/-- One tile of the one-hot rows of the key codes. -/
theorem v265_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v265 c i arg4 harg4 x2 (ix2 a b) = if (kc ⟨384 + a.val, by omega⟩).val = 640 + b.val then (1 : EReal) else 0 := by
  generalize hR : (if (kc ⟨384 + a.val, by omega⟩).val = 640 + b.val then (1 : EReal) else 0) = R
  unfold v265 v262 v259 v49 cst v50 cst_1
  pointwise
  rw [v22_at c i arg4 harg4 x2 kc hk, v237_at, ← hR]
  exact sel_eq _ (640 + b.val) (lt_trans (kc _).isLt (by norm_num)) (by omega) _ _

open kernelRun0_A.sl in
/-- One tile of the one-hot rows of the key codes. -/
theorem v258_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v258 c i arg4 harg4 x2 (ix2 a b) = if (kc ⟨256 + a.val, by omega⟩).val = 640 + b.val then (1 : EReal) else 0 := by
  generalize hR : (if (kc ⟨256 + a.val, by omega⟩).val = 640 + b.val then (1 : EReal) else 0) = R
  unfold v258 v255 v252 v49 cst v50 cst_1
  pointwise
  rw [v17_at c i arg4 harg4 x2 kc hk, v237_at, ← hR]
  exact sel_eq _ (640 + b.val) (lt_trans (kc _).isLt (by norm_num)) (by omega) _ _

open kernelRun0_A.sl in
/-- One tile of the one-hot rows of the key codes. -/
theorem v251_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v251 c i arg4 harg4 x2 (ix2 a b) = if (kc ⟨128 + a.val, by omega⟩).val = 640 + b.val then (1 : EReal) else 0 := by
  generalize hR : (if (kc ⟨128 + a.val, by omega⟩).val = 640 + b.val then (1 : EReal) else 0) = R
  unfold v251 v248 v245 v49 cst v50 cst_1
  pointwise
  rw [v12_at c i arg4 harg4 x2 kc hk, v237_at, ← hR]
  exact sel_eq _ (640 + b.val) (lt_trans (kc _).isLt (by norm_num)) (by omega) _ _

open kernelRun0_A.sl in
/-- One tile of the one-hot rows of the key codes. -/
theorem v244_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v244 c i arg4 harg4 x2 (ix2 a b) = if (kc ⟨0 + a.val, by omega⟩).val = 640 + b.val then (1 : EReal) else 0 := by
  generalize hR : (if (kc ⟨0 + a.val, by omega⟩).val = 640 + b.val then (1 : EReal) else 0) = R
  unfold v244 v241 v238 v49 cst v50 cst_1
  pointwise
  rw [v7_at c i arg4 harg4 x2 kc hk, v237_at, ← hR]
  exact sel_eq _ (640 + b.val) (lt_trans (kc _).isLt (by norm_num)) (by omega) _ _

open kernelRun0_A.sl in
/-- One tile of the one-hot rows of the key codes. -/
theorem v234_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v234 c i arg4 harg4 x2 (ix2 a b) = if (kc ⟨512 + a.val, by omega⟩).val = 512 + b.val then (1 : EReal) else 0 := by
  generalize hR : (if (kc ⟨512 + a.val, by omega⟩).val = 512 + b.val then (1 : EReal) else 0) = R
  unfold v234 v231 v228 v49 cst v50 cst_1
  pointwise
  rw [v27_at c i arg4 harg4 x2 kc hk, v199_at, ← hR]
  exact sel_eq _ (512 + b.val) (lt_trans (kc _).isLt (by norm_num)) (by omega) _ _

open kernelRun0_A.sl in
/-- One tile of the one-hot rows of the key codes. -/
theorem v227_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v227 c i arg4 harg4 x2 (ix2 a b) = if (kc ⟨384 + a.val, by omega⟩).val = 512 + b.val then (1 : EReal) else 0 := by
  generalize hR : (if (kc ⟨384 + a.val, by omega⟩).val = 512 + b.val then (1 : EReal) else 0) = R
  unfold v227 v224 v221 v49 cst v50 cst_1
  pointwise
  rw [v22_at c i arg4 harg4 x2 kc hk, v199_at, ← hR]
  exact sel_eq _ (512 + b.val) (lt_trans (kc _).isLt (by norm_num)) (by omega) _ _

open kernelRun0_A.sl in
/-- One tile of the one-hot rows of the key codes. -/
theorem v220_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v220 c i arg4 harg4 x2 (ix2 a b) = if (kc ⟨256 + a.val, by omega⟩).val = 512 + b.val then (1 : EReal) else 0 := by
  generalize hR : (if (kc ⟨256 + a.val, by omega⟩).val = 512 + b.val then (1 : EReal) else 0) = R
  unfold v220 v217 v214 v49 cst v50 cst_1
  pointwise
  rw [v17_at c i arg4 harg4 x2 kc hk, v199_at, ← hR]
  exact sel_eq _ (512 + b.val) (lt_trans (kc _).isLt (by norm_num)) (by omega) _ _

open kernelRun0_A.sl in
/-- One tile of the one-hot rows of the key codes. -/
theorem v213_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v213 c i arg4 harg4 x2 (ix2 a b) = if (kc ⟨128 + a.val, by omega⟩).val = 512 + b.val then (1 : EReal) else 0 := by
  generalize hR : (if (kc ⟨128 + a.val, by omega⟩).val = 512 + b.val then (1 : EReal) else 0) = R
  unfold v213 v210 v207 v49 cst v50 cst_1
  pointwise
  rw [v12_at c i arg4 harg4 x2 kc hk, v199_at, ← hR]
  exact sel_eq _ (512 + b.val) (lt_trans (kc _).isLt (by norm_num)) (by omega) _ _

open kernelRun0_A.sl in
/-- One tile of the one-hot rows of the key codes. -/
theorem v206_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v206 c i arg4 harg4 x2 (ix2 a b) = if (kc ⟨0 + a.val, by omega⟩).val = 512 + b.val then (1 : EReal) else 0 := by
  generalize hR : (if (kc ⟨0 + a.val, by omega⟩).val = 512 + b.val then (1 : EReal) else 0) = R
  unfold v206 v203 v200 v49 cst v50 cst_1
  pointwise
  rw [v7_at c i arg4 harg4 x2 kc hk, v199_at, ← hR]
  exact sel_eq _ (512 + b.val) (lt_trans (kc _).isLt (by norm_num)) (by omega) _ _

open kernelRun0_A.sl in
/-- One tile of the one-hot rows of the key codes. -/
theorem v196_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v196 c i arg4 harg4 x2 (ix2 a b) = if (kc ⟨512 + a.val, by omega⟩).val = 384 + b.val then (1 : EReal) else 0 := by
  generalize hR : (if (kc ⟨512 + a.val, by omega⟩).val = 384 + b.val then (1 : EReal) else 0) = R
  unfold v196 v193 v190 v49 cst v50 cst_1
  pointwise
  rw [v27_at c i arg4 harg4 x2 kc hk, v161_at, ← hR]
  exact sel_eq _ (384 + b.val) (lt_trans (kc _).isLt (by norm_num)) (by omega) _ _

open kernelRun0_A.sl in
/-- One tile of the one-hot rows of the key codes. -/
theorem v189_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v189 c i arg4 harg4 x2 (ix2 a b) = if (kc ⟨384 + a.val, by omega⟩).val = 384 + b.val then (1 : EReal) else 0 := by
  generalize hR : (if (kc ⟨384 + a.val, by omega⟩).val = 384 + b.val then (1 : EReal) else 0) = R
  unfold v189 v186 v183 v49 cst v50 cst_1
  pointwise
  rw [v22_at c i arg4 harg4 x2 kc hk, v161_at, ← hR]
  exact sel_eq _ (384 + b.val) (lt_trans (kc _).isLt (by norm_num)) (by omega) _ _

open kernelRun0_A.sl in
/-- One tile of the one-hot rows of the key codes. -/
theorem v182_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v182 c i arg4 harg4 x2 (ix2 a b) = if (kc ⟨256 + a.val, by omega⟩).val = 384 + b.val then (1 : EReal) else 0 := by
  generalize hR : (if (kc ⟨256 + a.val, by omega⟩).val = 384 + b.val then (1 : EReal) else 0) = R
  unfold v182 v179 v176 v49 cst v50 cst_1
  pointwise
  rw [v17_at c i arg4 harg4 x2 kc hk, v161_at, ← hR]
  exact sel_eq _ (384 + b.val) (lt_trans (kc _).isLt (by norm_num)) (by omega) _ _

open kernelRun0_A.sl in
/-- One tile of the one-hot rows of the key codes. -/
theorem v175_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v175 c i arg4 harg4 x2 (ix2 a b) = if (kc ⟨128 + a.val, by omega⟩).val = 384 + b.val then (1 : EReal) else 0 := by
  generalize hR : (if (kc ⟨128 + a.val, by omega⟩).val = 384 + b.val then (1 : EReal) else 0) = R
  unfold v175 v172 v169 v49 cst v50 cst_1
  pointwise
  rw [v12_at c i arg4 harg4 x2 kc hk, v161_at, ← hR]
  exact sel_eq _ (384 + b.val) (lt_trans (kc _).isLt (by norm_num)) (by omega) _ _

open kernelRun0_A.sl in
/-- One tile of the one-hot rows of the key codes. -/
theorem v168_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v168 c i arg4 harg4 x2 (ix2 a b) = if (kc ⟨0 + a.val, by omega⟩).val = 384 + b.val then (1 : EReal) else 0 := by
  generalize hR : (if (kc ⟨0 + a.val, by omega⟩).val = 384 + b.val then (1 : EReal) else 0) = R
  unfold v168 v165 v162 v49 cst v50 cst_1
  pointwise
  rw [v7_at c i arg4 harg4 x2 kc hk, v161_at, ← hR]
  exact sel_eq _ (384 + b.val) (lt_trans (kc _).isLt (by norm_num)) (by omega) _ _

open kernelRun0_A.sl in
/-- One tile of the one-hot rows of the key codes. -/
theorem v158_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v158 c i arg4 harg4 x2 (ix2 a b) = if (kc ⟨512 + a.val, by omega⟩).val = 256 + b.val then (1 : EReal) else 0 := by
  generalize hR : (if (kc ⟨512 + a.val, by omega⟩).val = 256 + b.val then (1 : EReal) else 0) = R
  unfold v158 v155 v152 v49 cst v50 cst_1
  pointwise
  rw [v27_at c i arg4 harg4 x2 kc hk, v123_at, ← hR]
  exact sel_eq _ (256 + b.val) (lt_trans (kc _).isLt (by norm_num)) (by omega) _ _

open kernelRun0_A.sl in
/-- One tile of the one-hot rows of the key codes. -/
theorem v151_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v151 c i arg4 harg4 x2 (ix2 a b) = if (kc ⟨384 + a.val, by omega⟩).val = 256 + b.val then (1 : EReal) else 0 := by
  generalize hR : (if (kc ⟨384 + a.val, by omega⟩).val = 256 + b.val then (1 : EReal) else 0) = R
  unfold v151 v148 v145 v49 cst v50 cst_1
  pointwise
  rw [v22_at c i arg4 harg4 x2 kc hk, v123_at, ← hR]
  exact sel_eq _ (256 + b.val) (lt_trans (kc _).isLt (by norm_num)) (by omega) _ _

open kernelRun0_A.sl in
/-- One tile of the one-hot rows of the key codes. -/
theorem v144_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v144 c i arg4 harg4 x2 (ix2 a b) = if (kc ⟨256 + a.val, by omega⟩).val = 256 + b.val then (1 : EReal) else 0 := by
  generalize hR : (if (kc ⟨256 + a.val, by omega⟩).val = 256 + b.val then (1 : EReal) else 0) = R
  unfold v144 v141 v138 v49 cst v50 cst_1
  pointwise
  rw [v17_at c i arg4 harg4 x2 kc hk, v123_at, ← hR]
  exact sel_eq _ (256 + b.val) (lt_trans (kc _).isLt (by norm_num)) (by omega) _ _

open kernelRun0_A.sl in
/-- One tile of the one-hot rows of the key codes. -/
theorem v137_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v137 c i arg4 harg4 x2 (ix2 a b) = if (kc ⟨128 + a.val, by omega⟩).val = 256 + b.val then (1 : EReal) else 0 := by
  generalize hR : (if (kc ⟨128 + a.val, by omega⟩).val = 256 + b.val then (1 : EReal) else 0) = R
  unfold v137 v134 v131 v49 cst v50 cst_1
  pointwise
  rw [v12_at c i arg4 harg4 x2 kc hk, v123_at, ← hR]
  exact sel_eq _ (256 + b.val) (lt_trans (kc _).isLt (by norm_num)) (by omega) _ _

open kernelRun0_A.sl in
/-- One tile of the one-hot rows of the key codes. -/
theorem v130_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v130 c i arg4 harg4 x2 (ix2 a b) = if (kc ⟨0 + a.val, by omega⟩).val = 256 + b.val then (1 : EReal) else 0 := by
  generalize hR : (if (kc ⟨0 + a.val, by omega⟩).val = 256 + b.val then (1 : EReal) else 0) = R
  unfold v130 v127 v124 v49 cst v50 cst_1
  pointwise
  rw [v7_at c i arg4 harg4 x2 kc hk, v123_at, ← hR]
  exact sel_eq _ (256 + b.val) (lt_trans (kc _).isLt (by norm_num)) (by omega) _ _

open kernelRun0_A.sl in
/-- One tile of the one-hot rows of the key codes. -/
theorem v120_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v120 c i arg4 harg4 x2 (ix2 a b) = if (kc ⟨512 + a.val, by omega⟩).val = 128 + b.val then (1 : EReal) else 0 := by
  generalize hR : (if (kc ⟨512 + a.val, by omega⟩).val = 128 + b.val then (1 : EReal) else 0) = R
  unfold v120 v117 v114 v49 cst v50 cst_1
  pointwise
  rw [v27_at c i arg4 harg4 x2 kc hk, v85_at, ← hR]
  exact sel_eq _ (128 + b.val) (lt_trans (kc _).isLt (by norm_num)) (by omega) _ _

open kernelRun0_A.sl in
/-- One tile of the one-hot rows of the key codes. -/
theorem v113_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v113 c i arg4 harg4 x2 (ix2 a b) = if (kc ⟨384 + a.val, by omega⟩).val = 128 + b.val then (1 : EReal) else 0 := by
  generalize hR : (if (kc ⟨384 + a.val, by omega⟩).val = 128 + b.val then (1 : EReal) else 0) = R
  unfold v113 v110 v107 v49 cst v50 cst_1
  pointwise
  rw [v22_at c i arg4 harg4 x2 kc hk, v85_at, ← hR]
  exact sel_eq _ (128 + b.val) (lt_trans (kc _).isLt (by norm_num)) (by omega) _ _

open kernelRun0_A.sl in
/-- One tile of the one-hot rows of the key codes. -/
theorem v106_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v106 c i arg4 harg4 x2 (ix2 a b) = if (kc ⟨256 + a.val, by omega⟩).val = 128 + b.val then (1 : EReal) else 0 := by
  generalize hR : (if (kc ⟨256 + a.val, by omega⟩).val = 128 + b.val then (1 : EReal) else 0) = R
  unfold v106 v103 v100 v49 cst v50 cst_1
  pointwise
  rw [v17_at c i arg4 harg4 x2 kc hk, v85_at, ← hR]
  exact sel_eq _ (128 + b.val) (lt_trans (kc _).isLt (by norm_num)) (by omega) _ _

open kernelRun0_A.sl in
/-- One tile of the one-hot rows of the key codes. -/
theorem v99_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v99 c i arg4 harg4 x2 (ix2 a b) = if (kc ⟨128 + a.val, by omega⟩).val = 128 + b.val then (1 : EReal) else 0 := by
  generalize hR : (if (kc ⟨128 + a.val, by omega⟩).val = 128 + b.val then (1 : EReal) else 0) = R
  unfold v99 v96 v93 v49 cst v50 cst_1
  pointwise
  rw [v12_at c i arg4 harg4 x2 kc hk, v85_at, ← hR]
  exact sel_eq _ (128 + b.val) (lt_trans (kc _).isLt (by norm_num)) (by omega) _ _

open kernelRun0_A.sl in
/-- One tile of the one-hot rows of the key codes. -/
theorem v92_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v92 c i arg4 harg4 x2 (ix2 a b) = if (kc ⟨0 + a.val, by omega⟩).val = 128 + b.val then (1 : EReal) else 0 := by
  generalize hR : (if (kc ⟨0 + a.val, by omega⟩).val = 128 + b.val then (1 : EReal) else 0) = R
  unfold v92 v89 v86 v49 cst v50 cst_1
  pointwise
  rw [v7_at c i arg4 harg4 x2 kc hk, v85_at, ← hR]
  exact sel_eq _ (128 + b.val) (lt_trans (kc _).isLt (by norm_num)) (by omega) _ _

open kernelRun0_A.sl in
/-- One tile of the one-hot rows of the key codes. -/
theorem v82_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v82 c i arg4 harg4 x2 (ix2 a b) = if (kc ⟨512 + a.val, by omega⟩).val = 0 + b.val then (1 : EReal) else 0 := by
  generalize hR : (if (kc ⟨512 + a.val, by omega⟩).val = 0 + b.val then (1 : EReal) else 0) = R
  unfold v82 v79 v76 v49 cst v50 cst_1
  pointwise
  rw [v27_at c i arg4 harg4 x2 kc hk, v47_at, ← hR]
  exact sel_eq _ (0 + b.val) (lt_trans (kc _).isLt (by norm_num)) (by omega) _ _

open kernelRun0_A.sl in
/-- One tile of the one-hot rows of the key codes. -/
theorem v75_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v75 c i arg4 harg4 x2 (ix2 a b) = if (kc ⟨384 + a.val, by omega⟩).val = 0 + b.val then (1 : EReal) else 0 := by
  generalize hR : (if (kc ⟨384 + a.val, by omega⟩).val = 0 + b.val then (1 : EReal) else 0) = R
  unfold v75 v72 v69 v49 cst v50 cst_1
  pointwise
  rw [v22_at c i arg4 harg4 x2 kc hk, v47_at, ← hR]
  exact sel_eq _ (0 + b.val) (lt_trans (kc _).isLt (by norm_num)) (by omega) _ _

open kernelRun0_A.sl in
/-- One tile of the one-hot rows of the key codes. -/
theorem v68_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v68 c i arg4 harg4 x2 (ix2 a b) = if (kc ⟨256 + a.val, by omega⟩).val = 0 + b.val then (1 : EReal) else 0 := by
  generalize hR : (if (kc ⟨256 + a.val, by omega⟩).val = 0 + b.val then (1 : EReal) else 0) = R
  unfold v68 v65 v62 v49 cst v50 cst_1
  pointwise
  rw [v17_at c i arg4 harg4 x2 kc hk, v47_at, ← hR]
  exact sel_eq _ (0 + b.val) (lt_trans (kc _).isLt (by norm_num)) (by omega) _ _

open kernelRun0_A.sl in
/-- One tile of the one-hot rows of the key codes. -/
theorem v61_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v61 c i arg4 harg4 x2 (ix2 a b) = if (kc ⟨128 + a.val, by omega⟩).val = 0 + b.val then (1 : EReal) else 0 := by
  generalize hR : (if (kc ⟨128 + a.val, by omega⟩).val = 0 + b.val then (1 : EReal) else 0) = R
  unfold v61 v58 v55 v49 cst v50 cst_1
  pointwise
  rw [v12_at c i arg4 harg4 x2 kc hk, v47_at, ← hR]
  exact sel_eq _ (0 + b.val) (lt_trans (kc _).isLt (by norm_num)) (by omega) _ _

open kernelRun0_A.sl in
/-- One tile of the one-hot rows of the key codes. -/
theorem v54_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v54 c i arg4 harg4 x2 (ix2 a b) = if (kc ⟨0 + a.val, by omega⟩).val = 0 + b.val then (1 : EReal) else 0 := by
  generalize hR : (if (kc ⟨0 + a.val, by omega⟩).val = 0 + b.val then (1 : EReal) else 0) = R
  unfold v54 v51 v48 v49 cst v50 cst_1
  pointwise
  rw [v7_at c i arg4 harg4 x2 kc hk, v47_at, ← hR]
  exact sel_eq _ (0 + b.val) (lt_trans (kc _).isLt (by norm_num)) (by omega) _ _

/-- A one-hot entry read in its tile. -/
theorem one_hot_shift (kc : Fin 640 → Fin 1024) (t : Fin 640) (e : Fin 1024) (r k a b : ℕ) (ha : r + a < 640)
    (h0 : t.val = r + a) (h1 : e.val = k + b) :
    (if (kc ⟨r + a, ha⟩).val = k + b then (1 : EReal) else 0) = if kc t = e then (1 : EReal) else 0 := by
  have ht : (⟨r + a, ha⟩ : Fin 640) = t := Fin.ext h0.symm
  rw [ht]
  simp only [Fin.ext_iff, h1]

open kernelRun0_A.sl in
/-- The one-hot matrix of the key codes: row `t` holds a one at the code of position `t`. -/
theorem HS0_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (t : Fin 640) (e : Fin 1024) :
    View.canon (Val := Elt Ideal) (HS0_40 c i arg4 harg4 x2) (ix2 t e) = if kc t = e then (1 : EReal) else 0 := by
  unfold HS0_40
  canon_tiles x h
  · rw [show x = ix2 (x 0) (x 1) from by ext a; fin_cases a <;> rfl]
    refine (v348_at c i arg4 harg4 x2 kc hk (x 0) (x 1)).trans (one_hot_shift kc t e 512 896 _ _ _ ?_ ?_)
    · simpa using h0
    · simpa using h1
  · rw [show x = ix2 (x 0) (x 1) from by ext a; fin_cases a <;> rfl]
    refine (v341_at c i arg4 harg4 x2 kc hk (x 0) (x 1)).trans (one_hot_shift kc t e 384 896 _ _ _ ?_ ?_)
    · simpa using h0
    · simpa using h1
  · rw [show x = ix2 (x 0) (x 1) from by ext a; fin_cases a <;> rfl]
    refine (v334_at c i arg4 harg4 x2 kc hk (x 0) (x 1)).trans (one_hot_shift kc t e 256 896 _ _ _ ?_ ?_)
    · simpa using h0
    · simpa using h1
  · rw [show x = ix2 (x 0) (x 1) from by ext a; fin_cases a <;> rfl]
    refine (v327_at c i arg4 harg4 x2 kc hk (x 0) (x 1)).trans (one_hot_shift kc t e 128 896 _ _ _ ?_ ?_)
    · simpa using h0
    · simpa using h1
  · rw [show x = ix2 (x 0) (x 1) from by ext a; fin_cases a <;> rfl]
    refine (v320_at c i arg4 harg4 x2 kc hk (x 0) (x 1)).trans (one_hot_shift kc t e 0 896 _ _ _ ?_ ?_)
    · simpa using h0
    · simpa using h1
  · rw [show x = ix2 (x 0) (x 1) from by ext a; fin_cases a <;> rfl]
    refine (v310_at c i arg4 harg4 x2 kc hk (x 0) (x 1)).trans (one_hot_shift kc t e 512 768 _ _ _ ?_ ?_)
    · simpa using h0
    · simpa using h1
  · rw [show x = ix2 (x 0) (x 1) from by ext a; fin_cases a <;> rfl]
    refine (v303_at c i arg4 harg4 x2 kc hk (x 0) (x 1)).trans (one_hot_shift kc t e 384 768 _ _ _ ?_ ?_)
    · simpa using h0
    · simpa using h1
  · rw [show x = ix2 (x 0) (x 1) from by ext a; fin_cases a <;> rfl]
    refine (v296_at c i arg4 harg4 x2 kc hk (x 0) (x 1)).trans (one_hot_shift kc t e 256 768 _ _ _ ?_ ?_)
    · simpa using h0
    · simpa using h1
  · rw [show x = ix2 (x 0) (x 1) from by ext a; fin_cases a <;> rfl]
    refine (v289_at c i arg4 harg4 x2 kc hk (x 0) (x 1)).trans (one_hot_shift kc t e 128 768 _ _ _ ?_ ?_)
    · simpa using h0
    · simpa using h1
  · rw [show x = ix2 (x 0) (x 1) from by ext a; fin_cases a <;> rfl]
    refine (v282_at c i arg4 harg4 x2 kc hk (x 0) (x 1)).trans (one_hot_shift kc t e 0 768 _ _ _ ?_ ?_)
    · simpa using h0
    · simpa using h1
  · rw [show x = ix2 (x 0) (x 1) from by ext a; fin_cases a <;> rfl]
    refine (v272_at c i arg4 harg4 x2 kc hk (x 0) (x 1)).trans (one_hot_shift kc t e 512 640 _ _ _ ?_ ?_)
    · simpa using h0
    · simpa using h1
  · rw [show x = ix2 (x 0) (x 1) from by ext a; fin_cases a <;> rfl]
    refine (v265_at c i arg4 harg4 x2 kc hk (x 0) (x 1)).trans (one_hot_shift kc t e 384 640 _ _ _ ?_ ?_)
    · simpa using h0
    · simpa using h1
  · rw [show x = ix2 (x 0) (x 1) from by ext a; fin_cases a <;> rfl]
    refine (v258_at c i arg4 harg4 x2 kc hk (x 0) (x 1)).trans (one_hot_shift kc t e 256 640 _ _ _ ?_ ?_)
    · simpa using h0
    · simpa using h1
  · rw [show x = ix2 (x 0) (x 1) from by ext a; fin_cases a <;> rfl]
    refine (v251_at c i arg4 harg4 x2 kc hk (x 0) (x 1)).trans (one_hot_shift kc t e 128 640 _ _ _ ?_ ?_)
    · simpa using h0
    · simpa using h1
  · rw [show x = ix2 (x 0) (x 1) from by ext a; fin_cases a <;> rfl]
    refine (v244_at c i arg4 harg4 x2 kc hk (x 0) (x 1)).trans (one_hot_shift kc t e 0 640 _ _ _ ?_ ?_)
    · simpa using h0
    · simpa using h1
  · rw [show x = ix2 (x 0) (x 1) from by ext a; fin_cases a <;> rfl]
    refine (v234_at c i arg4 harg4 x2 kc hk (x 0) (x 1)).trans (one_hot_shift kc t e 512 512 _ _ _ ?_ ?_)
    · simpa using h0
    · simpa using h1
  · rw [show x = ix2 (x 0) (x 1) from by ext a; fin_cases a <;> rfl]
    refine (v227_at c i arg4 harg4 x2 kc hk (x 0) (x 1)).trans (one_hot_shift kc t e 384 512 _ _ _ ?_ ?_)
    · simpa using h0
    · simpa using h1
  · rw [show x = ix2 (x 0) (x 1) from by ext a; fin_cases a <;> rfl]
    refine (v220_at c i arg4 harg4 x2 kc hk (x 0) (x 1)).trans (one_hot_shift kc t e 256 512 _ _ _ ?_ ?_)
    · simpa using h0
    · simpa using h1
  · rw [show x = ix2 (x 0) (x 1) from by ext a; fin_cases a <;> rfl]
    refine (v213_at c i arg4 harg4 x2 kc hk (x 0) (x 1)).trans (one_hot_shift kc t e 128 512 _ _ _ ?_ ?_)
    · simpa using h0
    · simpa using h1
  · rw [show x = ix2 (x 0) (x 1) from by ext a; fin_cases a <;> rfl]
    refine (v206_at c i arg4 harg4 x2 kc hk (x 0) (x 1)).trans (one_hot_shift kc t e 0 512 _ _ _ ?_ ?_)
    · simpa using h0
    · simpa using h1
  · rw [show x = ix2 (x 0) (x 1) from by ext a; fin_cases a <;> rfl]
    refine (v196_at c i arg4 harg4 x2 kc hk (x 0) (x 1)).trans (one_hot_shift kc t e 512 384 _ _ _ ?_ ?_)
    · simpa using h0
    · simpa using h1
  · rw [show x = ix2 (x 0) (x 1) from by ext a; fin_cases a <;> rfl]
    refine (v189_at c i arg4 harg4 x2 kc hk (x 0) (x 1)).trans (one_hot_shift kc t e 384 384 _ _ _ ?_ ?_)
    · simpa using h0
    · simpa using h1
  · rw [show x = ix2 (x 0) (x 1) from by ext a; fin_cases a <;> rfl]
    refine (v182_at c i arg4 harg4 x2 kc hk (x 0) (x 1)).trans (one_hot_shift kc t e 256 384 _ _ _ ?_ ?_)
    · simpa using h0
    · simpa using h1
  · rw [show x = ix2 (x 0) (x 1) from by ext a; fin_cases a <;> rfl]
    refine (v175_at c i arg4 harg4 x2 kc hk (x 0) (x 1)).trans (one_hot_shift kc t e 128 384 _ _ _ ?_ ?_)
    · simpa using h0
    · simpa using h1
  · rw [show x = ix2 (x 0) (x 1) from by ext a; fin_cases a <;> rfl]
    refine (v168_at c i arg4 harg4 x2 kc hk (x 0) (x 1)).trans (one_hot_shift kc t e 0 384 _ _ _ ?_ ?_)
    · simpa using h0
    · simpa using h1
  · rw [show x = ix2 (x 0) (x 1) from by ext a; fin_cases a <;> rfl]
    refine (v158_at c i arg4 harg4 x2 kc hk (x 0) (x 1)).trans (one_hot_shift kc t e 512 256 _ _ _ ?_ ?_)
    · simpa using h0
    · simpa using h1
  · rw [show x = ix2 (x 0) (x 1) from by ext a; fin_cases a <;> rfl]
    refine (v151_at c i arg4 harg4 x2 kc hk (x 0) (x 1)).trans (one_hot_shift kc t e 384 256 _ _ _ ?_ ?_)
    · simpa using h0
    · simpa using h1
  · rw [show x = ix2 (x 0) (x 1) from by ext a; fin_cases a <;> rfl]
    refine (v144_at c i arg4 harg4 x2 kc hk (x 0) (x 1)).trans (one_hot_shift kc t e 256 256 _ _ _ ?_ ?_)
    · simpa using h0
    · simpa using h1
  · rw [show x = ix2 (x 0) (x 1) from by ext a; fin_cases a <;> rfl]
    refine (v137_at c i arg4 harg4 x2 kc hk (x 0) (x 1)).trans (one_hot_shift kc t e 128 256 _ _ _ ?_ ?_)
    · simpa using h0
    · simpa using h1
  · rw [show x = ix2 (x 0) (x 1) from by ext a; fin_cases a <;> rfl]
    refine (v130_at c i arg4 harg4 x2 kc hk (x 0) (x 1)).trans (one_hot_shift kc t e 0 256 _ _ _ ?_ ?_)
    · simpa using h0
    · simpa using h1
  · rw [show x = ix2 (x 0) (x 1) from by ext a; fin_cases a <;> rfl]
    refine (v120_at c i arg4 harg4 x2 kc hk (x 0) (x 1)).trans (one_hot_shift kc t e 512 128 _ _ _ ?_ ?_)
    · simpa using h0
    · simpa using h1
  · rw [show x = ix2 (x 0) (x 1) from by ext a; fin_cases a <;> rfl]
    refine (v113_at c i arg4 harg4 x2 kc hk (x 0) (x 1)).trans (one_hot_shift kc t e 384 128 _ _ _ ?_ ?_)
    · simpa using h0
    · simpa using h1
  · rw [show x = ix2 (x 0) (x 1) from by ext a; fin_cases a <;> rfl]
    refine (v106_at c i arg4 harg4 x2 kc hk (x 0) (x 1)).trans (one_hot_shift kc t e 256 128 _ _ _ ?_ ?_)
    · simpa using h0
    · simpa using h1
  · rw [show x = ix2 (x 0) (x 1) from by ext a; fin_cases a <;> rfl]
    refine (v99_at c i arg4 harg4 x2 kc hk (x 0) (x 1)).trans (one_hot_shift kc t e 128 128 _ _ _ ?_ ?_)
    · simpa using h0
    · simpa using h1
  · rw [show x = ix2 (x 0) (x 1) from by ext a; fin_cases a <;> rfl]
    refine (v92_at c i arg4 harg4 x2 kc hk (x 0) (x 1)).trans (one_hot_shift kc t e 0 128 _ _ _ ?_ ?_)
    · simpa using h0
    · simpa using h1
  · rw [show x = ix2 (x 0) (x 1) from by ext a; fin_cases a <;> rfl]
    refine (v82_at c i arg4 harg4 x2 kc hk (x 0) (x 1)).trans (one_hot_shift kc t e 512 0 _ _ _ ?_ ?_)
    · simpa using h0
    · simpa using h1
  · rw [show x = ix2 (x 0) (x 1) from by ext a; fin_cases a <;> rfl]
    refine (v75_at c i arg4 harg4 x2 kc hk (x 0) (x 1)).trans (one_hot_shift kc t e 384 0 _ _ _ ?_ ?_)
    · simpa using h0
    · simpa using h1
  · rw [show x = ix2 (x 0) (x 1) from by ext a; fin_cases a <;> rfl]
    refine (v68_at c i arg4 harg4 x2 kc hk (x 0) (x 1)).trans (one_hot_shift kc t e 256 0 _ _ _ ?_ ?_)
    · simpa using h0
    · simpa using h1
  · rw [show x = ix2 (x 0) (x 1) from by ext a; fin_cases a <;> rfl]
    refine (v61_at c i arg4 harg4 x2 kc hk (x 0) (x 1)).trans (one_hot_shift kc t e 128 0 _ _ _ ?_ ?_)
    · simpa using h0
    · simpa using h1
  · rw [show x = ix2 (x 0) (x 1) from by ext a; fin_cases a <;> rfl]
    refine (v54_at c i arg4 harg4 x2 kc hk (x 0) (x 1)).trans (one_hot_shift kc t e 0 0 _ _ _ ?_ ?_)
    · simpa using h0
    · simpa using h1

end Cert.KBody
-- ==== Proof.KB.lean ====
/- Comparing codes as machine words, and the kernel's first-occurrence rows. -/
module

public import proofs.«01_k».proof.Proof.KA
public import Idealize.ShloMosaic.Lib.SortNet.Extract

@[expose] public section

set_option maxRecDepth 16384

noncomputable section

namespace Cert.KBody

open Idealize.ShloMosaic Idealize.ShloMosaic.TcCoe Idealize.ShloMosaic.Tactic
open Cert.KernelIdeal Cert.KernelIdeal.Gen

/-- An earlier position holds the same key code. -/
def early (kc : Fin 640 → Fin 1024) (t : Fin 640) : Prop := ∃ s : Fin 640, s < t ∧ kc s = kc t

/-- Whether a code occurred earlier is decidable. -/
instance (kc : Fin 640 → Fin 1024) (t : Fin 640) : Decidable (early kc t) := by unfold early; infer_instance

/-- One where `t` is the first position of the code of position `s`, else zero. -/
def selm (kc : Fin 640 → Fin 1024) (s t : Fin 640) : EReal := if kc s = kc t ∧ ¬ early kc t then 1 else 0

/-- The scaled value of position `t` in dimension `d`. -/
def valf (x1 : Vec Ideal S3x2x5 .f32) (x5 : Vec Ideal S1x1x160x640 .fp8e4m3) (i : grid0.Coords) (d : Fin 160) (t : Fin 640) : EReal :=
  x5 (ix4 0 0 d t) * x1 (ix3 (hI i) (bI i) ⟨t.val / 128, by omega⟩)

/-- A small number as a 16-bit word reads back as itself. -/
theorem toInt_small16 (m : ℕ) (hm : m < 32768) : (BitVec.ofNat 16 m).toInt = m := by
  have h : (BitVec.ofNat 16 m).toNat = m := by rw [BitVec.toNat_ofNat]; omega
  rw [BitVec.toInt_eq_toNat_of_lt (by omega), h]

/-- A small number as a 32-bit word reads back as itself. -/
theorem toInt_small (m : ℕ) (hm : m < 2 ^ 31) : (BitVec.ofNat 32 m).toInt = m := by
  have h : (BitVec.ofNat 32 m).toNat = m := by rw [BitVec.toNat_ofNat]; omega
  rw [BitVec.toInt_eq_toNat_of_lt (by omega), h]

/-- A 16-bit code widened to 32 bits. -/
theorem ext_ofNat (m : ℕ) (hm : m < 32768) : BitVec.signExtend 32 (BitVec.ofNat 16 m) = BitVec.ofNat 32 m := by
  apply BitVec.eq_of_toInt_eq
  rw [BitVec.toInt_signExtend_of_le (by norm_num), toInt_small16 m hm, toInt_small m (by omega)]

/-- Small numbers are equal as words exactly when they are equal. -/
theorem ofNat_inj (m n : ℕ) (hm : m < 2 ^ 31) (hn : n < 2 ^ 31) : (BitVec.ofNat 32 m = BitVec.ofNat 32 n) ↔ m = n := by
  constructor
  · intro h
    have := congrArg BitVec.toNat h
    simp only [BitVec.toNat_ofNat] at this
    omega
  · rintro rfl; rfl

/-- Comparing two small words for equality compares the numbers. -/
theorem cmp_eq (m n : ℕ) (hm : m < 2 ^ 31) (hn : n < 2 ^ 31) :
    IntOp.cmpi CmpIPredicate.eq (BitVec.ofNat 32 m) (BitVec.ofNat 32 n) = BitVec.ofBool (decide (m = n)) := by
  simp only [IntOp.cmpi]
  congr 1
  rw [Bool.eq_iff_iff, beq_iff_eq, decide_eq_true_iff, ofNat_inj m n hm hn]

/-- The signed less-than of two small words compares the numbers. -/
theorem cmp_lt (m n : ℕ) (hm : m < 2 ^ 31) (hn : n < 2 ^ 31) :
    IntOp.cmpi CmpIPredicate.slt (BitVec.ofNat 32 m) (BitVec.ofNat 32 n) = BitVec.ofBool (decide (m < n)) := by
  simp only [IntOp.cmpi, BitVec.slt, toInt_small m hm, toInt_small n hn]
  congr 1
  simp

/-- The signed at-most of two small words compares the numbers. -/
theorem cmp_le (m n : ℕ) (hm : m < 2 ^ 31) (hn : n < 2 ^ 31) :
    IntOp.cmpi CmpIPredicate.sle (BitVec.ofNat 32 m) (BitVec.ofNat 32 n) = BitVec.ofBool (decide (m ≤ n)) := by
  simp only [IntOp.cmpi, BitVec.sle, toInt_small m hm, toInt_small n hn]
  congr 1
  simp

/-- The word conjunction of two truth bits. -/
theorem and_bool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- Selecting by a truth bit is a case distinction. -/
theorem sel_bool {α : Type} (p : Prop) [Decidable p] (a b : α) : Scalar.select (BitVec.ofBool (decide p)) a b = if p then a else b := by
  by_cases hp : p <;> simp [Scalar.select, hp]

/-- The maximum of two zero-or-one words is their disjunction. -/
theorem max_bool (p q : Prop) [Decidable p] [Decidable q] :
    IntOp.maxsi (if p then 1#32 else 0#32) (if q then 1#32 else 0#32) = if p ∨ q then 1#32 else 0#32 := by
  by_cases hp : p <;> by_cases hq : q <;> simp [hp, hq] <;> decide

/-- The largest of a family of zeros and ones is positive exactly when one of them is a one. -/
theorem fold_bool (p : Fin 128 → Prop) [DecidablePred p] :
    IntOp.cmpi CmpIPredicate.sgt (Finset.fold IntOp.maxsi (2147483648#32) (fun x => if p x then 1#32 else 0#32) Finset.univ) 0#32
      = BitVec.ofBool (decide (∃ x, p x)) := by
  obtain ⟨-, h2, h3⟩ := SortNet.fold_maxsi_spec (fun x : Fin 128 => if p x then 1#32 else 0#32) Finset.univ (2147483648#32)
  generalize Finset.fold IntOp.maxsi (2147483648#32) (fun x => if p x then 1#32 else 0#32) Finset.univ = F at h2 h3 ⊢
  by_cases hp : ∃ x, p x
  · obtain ⟨x, hx⟩ := hp
    have h := h2 x (Finset.mem_univ x)
    have hF : F = 1#32 := by
      rcases h3 with h3 | ⟨y, -, h3⟩
      · subst h3; simp [hx] at h
      · by_cases hy : p y
        · simpa [hy] using h3
        · simp only [hy, if_false] at h3; subst h3; simp [hx] at h
    subst hF
    rw [decide_eq_true (⟨x, hx⟩ : ∃ x, p x)]; decide
  · rw [decide_eq_false hp]
    rcases h3 with h3 | ⟨y, -, h3⟩
    · subst h3; decide
    · have hy : ¬ p y := fun h => hp ⟨y, h⟩
      simp only [hy, if_false] at h3; subst h3; decide

/-- The word kept at a first occurrence: the code there, minus one elsewhere. -/
theorem first_word (p : Prop) [Decidable p] (m : ℕ) :
    BitVec.setWidth 16 (if p then 4294967295#32 else BitVec.ofNat 32 m) = if p then 65535#16 else BitVec.ofNat 16 m := by
  by_cases hp : p
  · simp [hp]
  · simp only [hp, if_false]; exact trunc_ofNat m

/-- A code equals the code kept for a first position exactly when the position is one and the codes agree. -/
theorem sel_first {α : Type} (m n : ℕ) (hm : m < 1024) (hn : n < 1024) (p : Prop) [Decidable p] (a b : α) :
    Scalar.select (IntOp.cmpi CmpIPredicate.eq (BitVec.ofNat 16 m) (if p then 65535#16 else BitVec.ofNat 16 n)) a b
      = if m = n ∧ ¬ p then a else b := by
  by_cases hp : p
  · simp only [hp, if_true, not_true, and_false, if_false]
    exact (sel_eq m 65535 (by omega) (by norm_num) a b).trans (if_neg (by omega))
  · simp only [hp, if_false, not_false_iff, and_true]
    exact sel_eq m n (by omega) (by omega) a b

open kernelRun0_A.sl in
/-- The code of a first position, minus one elsewhere. -/
theorem v441_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v441 c i arg4 harg4 x2 (ix2 a b) = if early kc ⟨0 + b.val, by omega⟩ then 65535#16 else BitVec.ofNat 16 (kc ⟨0 + b.val, by omega⟩).val := by
  generalize hR : (if early kc ⟨0 + b.val, by omega⟩ then 65535#16 else BitVec.ofNat 16 (kc ⟨0 + b.val, by omega⟩).val) = R
  unfold v441 v440 v439 v438 v3 v437 v435 v434 v433 v432 v431 v45 v429 v428 v44 v423 v427 v426 v425
  pointwise
  have e1 : ∀ x : Fin 128, (kc ⟨0 + x.val, by omega⟩).val < 1024 := fun x => (kc _).isLt
  have e2 : ∀ t : Fin 640, (kc t).val < 2 ^ 31 := fun t => lt_trans (kc t).isLt (by norm_num)
  have e3 : ∀ t : Fin 640, (kc t).val < 32768 := fun t => lt_trans (kc t).isLt (by norm_num)
  have e4 : ∀ x : Fin 128, x.val < 2 ^ 31 := fun x => lt_trans x.isLt (by norm_num)
  simp only [v7_at c i arg4 harg4 x2 kc hk, v31_at c i arg4 harg4 x2 kc hk, v2_at c i arg4 harg4 x2 kc hk, ext_ofNat _ (e3 _), cmp_eq _ _ (e2 _) (e2 _),
    cmp_lt _ _ (e4 _) (e4 _), and_bool, sel_bool, max_bool, fold_bool, first_word]
  rw [← hR]
  simp only [Nat.zero_add]
  congr 1
  apply propext
  constructor
  · rintro ⟨x, h, hx⟩
    exact ⟨⟨0 + x.val, by omega⟩, by simpa using hx, Fin.ext (by simpa using h)⟩
  · rintro ⟨s, hs, h⟩
    simp only [Fin.lt_def] at hs
    refine ⟨⟨s.val - 0, by omega⟩, ⟨?_, ?_⟩⟩
    · rw [← h]; congr 2
    · simp only; omega

open kernelRun0_A.sl in
/-- The code of a first position, minus one elsewhere. -/
theorem v465_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v465 c i arg4 harg4 x2 (ix2 a b) = if early kc ⟨128 + b.val, by omega⟩ then 65535#16 else BitVec.ofNat 16 (kc ⟨128 + b.val, by omega⟩).val := by
  generalize hR : (if early kc ⟨128 + b.val, by omega⟩ then 65535#16 else BitVec.ofNat 16 (kc ⟨128 + b.val, by omega⟩).val) = R
  unfold v465 v464 v463 v462 v8 v437 v459 v434 v457 v456 v455 v454 v451 v425 v448 v45 v429 v445 v44 v423 v444 v443 v442
  pointwise
  have e1 : ∀ x : Fin 128, (kc ⟨128 + x.val, by omega⟩).val < 1024 := fun x => (kc _).isLt
  have e2 : ∀ t : Fin 640, (kc t).val < 2 ^ 31 := fun t => lt_trans (kc t).isLt (by norm_num)
  have e3 : ∀ t : Fin 640, (kc t).val < 32768 := fun t => lt_trans (kc t).isLt (by norm_num)
  have e4 : ∀ x : Fin 128, x.val < 2 ^ 31 := fun x => lt_trans x.isLt (by norm_num)
  simp only [v12_at c i arg4 harg4 x2 kc hk, v7_at c i arg4 harg4 x2 kc hk, v35_at c i arg4 harg4 x2 kc hk, v2_at c i arg4 harg4 x2 kc hk, ext_ofNat _ (e3 _), cmp_eq _ _ (e2 _) (e2 _),
    cmp_lt _ _ (e4 _) (e4 _), and_bool, sel_bool, max_bool, fold_bool, first_word]
  rw [← hR]

  congr 1
  apply propext
  constructor
  · rintro ⟨x, ⟨h, hx⟩ | h⟩
    · exact ⟨⟨128 + x.val, by omega⟩, by simp only [Fin.lt_def]; omega, Fin.ext h⟩
    · exact ⟨⟨0 + x.val, by omega⟩, by simp only [Fin.lt_def]; omega, Fin.ext (by simpa using h)⟩
  · rintro ⟨s, hs, h⟩
    simp only [Fin.lt_def] at hs
    by_cases h0 : s.val < 128
    · refine ⟨⟨s.val - 0, by omega⟩, Or.inr ?_⟩
      rw [← h]; congr 2; apply Fin.ext; simp only; omega
    refine ⟨⟨s.val - 128, by omega⟩, Or.inl (⟨?_, ?_⟩)⟩
    · rw [← h]; congr 2; apply Fin.ext; simp only; omega
    · simp only; omega

open kernelRun0_A.sl in
/-- The code of a first position, minus one elsewhere. -/
theorem v496_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v496 c i arg4 harg4 x2 (ix2 a b) = if early kc ⟨256 + b.val, by omega⟩ then 65535#16 else BitVec.ofNat 16 (kc ⟨256 + b.val, by omega⟩).val := by
  generalize hR : (if early kc ⟨256 + b.val, by omega⟩ then 65535#16 else BitVec.ofNat 16 (kc ⟨256 + b.val, by omega⟩).val) = R
  unfold v496 v495 v494 v493 v13 v437 v490 v434 v488 v487 v486 v485 v482 v442 v479 v478 v475 v425 v472 v45 v429 v469 v44 v423 v468 v467 v466
  pointwise
  have e1 : ∀ x : Fin 128, (kc ⟨256 + x.val, by omega⟩).val < 1024 := fun x => (kc _).isLt
  have e2 : ∀ t : Fin 640, (kc t).val < 2 ^ 31 := fun t => lt_trans (kc t).isLt (by norm_num)
  have e3 : ∀ t : Fin 640, (kc t).val < 32768 := fun t => lt_trans (kc t).isLt (by norm_num)
  have e4 : ∀ x : Fin 128, x.val < 2 ^ 31 := fun x => lt_trans x.isLt (by norm_num)
  simp only [v17_at c i arg4 harg4 x2 kc hk, v7_at c i arg4 harg4 x2 kc hk, v12_at c i arg4 harg4 x2 kc hk, v39_at c i arg4 harg4 x2 kc hk, v2_at c i arg4 harg4 x2 kc hk, ext_ofNat _ (e3 _), cmp_eq _ _ (e2 _) (e2 _),
    cmp_lt _ _ (e4 _) (e4 _), and_bool, sel_bool, max_bool, fold_bool, first_word]
  rw [← hR]

  congr 1
  apply propext
  constructor
  · rintro ⟨x, (⟨h, hx⟩ | h) | h⟩
    · exact ⟨⟨256 + x.val, by omega⟩, by simp only [Fin.lt_def]; omega, Fin.ext h⟩
    · exact ⟨⟨0 + x.val, by omega⟩, by simp only [Fin.lt_def]; omega, Fin.ext (by simpa using h)⟩
    · exact ⟨⟨128 + x.val, by omega⟩, by simp only [Fin.lt_def]; omega, Fin.ext (by simpa using h)⟩
  · rintro ⟨s, hs, h⟩
    simp only [Fin.lt_def] at hs
    by_cases h0 : s.val < 128
    · refine ⟨⟨s.val - 0, by omega⟩, Or.inl (Or.inr ?_)⟩
      rw [← h]; congr 2; apply Fin.ext; simp only; omega
    by_cases h1 : s.val < 256
    · refine ⟨⟨s.val - 128, by omega⟩, Or.inr ?_⟩
      rw [← h]; congr 2; apply Fin.ext; simp only; omega
    refine ⟨⟨s.val - 256, by omega⟩, Or.inl (Or.inl (⟨?_, ?_⟩))⟩
    · rw [← h]; congr 2; apply Fin.ext; simp only; omega
    · simp only; omega

open kernelRun0_A.sl in
/-- The code of a first position, minus one elsewhere. -/
theorem v534_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a b : Fin 128) :
    v534 c i arg4 harg4 x2 (ix2 a b) = if early kc ⟨384 + b.val, by omega⟩ then 65535#16 else BitVec.ofNat 16 (kc ⟨384 + b.val, by omega⟩).val := by
  generalize hR : (if early kc ⟨384 + b.val, by omega⟩ then 65535#16 else BitVec.ofNat 16 (kc ⟨384 + b.val, by omega⟩).val) = R
  unfold v534 v533 v532 v531 v18 v437 v528 v434 v526 v525 v524 v523 v520 v466 v517 v516 v513 v442 v510 v509 v506 v425 v503 v45 v429 v500 v44 v423 v499 v498 v497
  pointwise
  have e1 : ∀ x : Fin 128, (kc ⟨384 + x.val, by omega⟩).val < 1024 := fun x => (kc _).isLt
  have e2 : ∀ t : Fin 640, (kc t).val < 2 ^ 31 := fun t => lt_trans (kc t).isLt (by norm_num)
  have e3 : ∀ t : Fin 640, (kc t).val < 32768 := fun t => lt_trans (kc t).isLt (by norm_num)
  have e4 : ∀ x : Fin 128, x.val < 2 ^ 31 := fun x => lt_trans x.isLt (by norm_num)
  simp only [v22_at c i arg4 harg4 x2 kc hk, v7_at c i arg4 harg4 x2 kc hk, v12_at c i arg4 harg4 x2 kc hk, v17_at c i arg4 harg4 x2 kc hk, v43_at c i arg4 harg4 x2 kc hk, v2_at c i arg4 harg4 x2 kc hk, ext_ofNat _ (e3 _), cmp_eq _ _ (e2 _) (e2 _),
    cmp_lt _ _ (e4 _) (e4 _), and_bool, sel_bool, max_bool, fold_bool, first_word]
  rw [← hR]

  congr 1
  apply propext
  constructor
  · rintro ⟨x, ((⟨h, hx⟩ | h) | h) | h⟩
    · exact ⟨⟨384 + x.val, by omega⟩, by simp only [Fin.lt_def]; omega, Fin.ext h⟩
    · exact ⟨⟨0 + x.val, by omega⟩, by simp only [Fin.lt_def]; omega, Fin.ext (by simpa using h)⟩
    · exact ⟨⟨128 + x.val, by omega⟩, by simp only [Fin.lt_def]; omega, Fin.ext (by simpa using h)⟩
    · exact ⟨⟨256 + x.val, by omega⟩, by simp only [Fin.lt_def]; omega, Fin.ext (by simpa using h)⟩
  · rintro ⟨s, hs, h⟩
    simp only [Fin.lt_def] at hs
    by_cases h0 : s.val < 128
    · refine ⟨⟨s.val - 0, by omega⟩, Or.inl (Or.inl (Or.inr ?_))⟩
      rw [← h]; congr 2; apply Fin.ext; simp only; omega
    by_cases h1 : s.val < 256
    · refine ⟨⟨s.val - 128, by omega⟩, Or.inl (Or.inr ?_)⟩
      rw [← h]; congr 2; apply Fin.ext; simp only; omega
    by_cases h2 : s.val < 384
    · refine ⟨⟨s.val - 256, by omega⟩, Or.inr ?_⟩
      rw [← h]; congr 2; apply Fin.ext; simp only; omega
    refine ⟨⟨s.val - 384, by omega⟩, Or.inl (Or.inl (Or.inl (⟨?_, ?_⟩)))⟩
    · rw [← h]; congr 2; apply Fin.ext; simp only; omega
    · simp only; omega

open kernelRun0_A.sl in
/-- Which of a block of positions hold the code of which first positions. -/
theorem v648_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a : Fin 128) (b : Fin 512) :
    v648 c i arg4 harg4 x2 (ix2 a b) = selm kc ⟨0 + a.val, by omega⟩ ⟨b.val, by omega⟩ := by
  generalize hR : selm kc ⟨0 + a.val, by omega⟩ ⟨b.val, by omega⟩ = R
  have e1 : ∀ t : Fin 640, (kc t).val < 1024 := fun t => (kc t).isLt
  unfold v648 v647 v644 v643 v640 v639 v636 v635 v50 cst_1 v49 cst v632
  pointwise
  simp only [v7_at c i arg4 harg4 x2 kc hk, v441_at c i arg4 harg4 x2 kc hk, v465_at c i arg4 harg4 x2 kc hk, v496_at c i arg4 harg4 x2 kc hk, v534_at c i arg4 harg4 x2 kc hk, sel_first _ _ (e1 _) (e1 _)]
  rw [← hR]
  have key : ∀ t : Fin 640, t.val = b.val → selm kc ⟨0 + a.val, by omega⟩ ⟨b.val, by omega⟩
      = if (kc ⟨0 + a.val, by omega⟩).val = (kc t).val ∧ ¬ early kc t then (1 : EReal) else 0 := by
    intro t ht
    have : t = ⟨b.val, by omega⟩ := Fin.ext ht
    rw [← this]
    simp only [selm, Fin.ext_iff]
  by_cases h1 : b.val < 128
  · rw [dif_pos h1]; exact (key _ (by first | omega | (simp only; omega))).symm
  rw [dif_neg h1]
  by_cases h2 : b.val - 128 < 128
  · rw [dif_pos h2]; exact (key _ (by first | omega | (simp only; omega))).symm
  rw [dif_neg h2]
  by_cases h3 : b.val - 128 - 128 < 128
  · rw [dif_pos h3]; exact (key _ (by first | omega | (simp only; omega))).symm
  rw [dif_neg h3]
  exact (key _ (by first | omega | (simp only; omega))).symm

open kernelRun0_A.sl in
/-- Which of a block of positions hold the code of which first positions. -/
theorem v773_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a : Fin 128) (b : Fin 512) :
    v773 c i arg4 harg4 x2 (ix2 a b) = selm kc ⟨128 + a.val, by omega⟩ ⟨b.val, by omega⟩ := by
  generalize hR : selm kc ⟨128 + a.val, by omega⟩ ⟨b.val, by omega⟩ = R
  have e1 : ∀ t : Fin 640, (kc t).val < 1024 := fun t => (kc t).isLt
  unfold v773 v772 v769 v768 v765 v764 v761 v760 v50 cst_1 v49 cst v757
  pointwise
  simp only [v12_at c i arg4 harg4 x2 kc hk, v441_at c i arg4 harg4 x2 kc hk, v465_at c i arg4 harg4 x2 kc hk, v496_at c i arg4 harg4 x2 kc hk, v534_at c i arg4 harg4 x2 kc hk, sel_first _ _ (e1 _) (e1 _)]
  rw [← hR]
  have key : ∀ t : Fin 640, t.val = b.val → selm kc ⟨128 + a.val, by omega⟩ ⟨b.val, by omega⟩
      = if (kc ⟨128 + a.val, by omega⟩).val = (kc t).val ∧ ¬ early kc t then (1 : EReal) else 0 := by
    intro t ht
    have : t = ⟨b.val, by omega⟩ := Fin.ext ht
    rw [← this]
    simp only [selm, Fin.ext_iff]
  by_cases h1 : b.val < 128
  · rw [dif_pos h1]; exact (key _ (by first | omega | (simp only; omega))).symm
  rw [dif_neg h1]
  by_cases h2 : b.val - 128 < 128
  · rw [dif_pos h2]; exact (key _ (by first | omega | (simp only; omega))).symm
  rw [dif_neg h2]
  by_cases h3 : b.val - 128 - 128 < 128
  · rw [dif_pos h3]; exact (key _ (by first | omega | (simp only; omega))).symm
  rw [dif_neg h3]
  exact (key _ (by first | omega | (simp only; omega))).symm

open kernelRun0_A.sl in
/-- Which of a block of positions hold the code of which first positions. -/
theorem v900_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a : Fin 128) (b : Fin 512) :
    v900 c i arg4 harg4 x2 (ix2 a b) = selm kc ⟨256 + a.val, by omega⟩ ⟨b.val, by omega⟩ := by
  generalize hR : selm kc ⟨256 + a.val, by omega⟩ ⟨b.val, by omega⟩ = R
  have e1 : ∀ t : Fin 640, (kc t).val < 1024 := fun t => (kc t).isLt
  unfold v900 v899 v896 v895 v892 v891 v888 v887 v50 cst_1 v49 cst r_34 k0_pay117
  pointwise
  simp only [v17_at c i arg4 harg4 x2 kc hk, v441_at c i arg4 harg4 x2 kc hk, v465_at c i arg4 harg4 x2 kc hk, v496_at c i arg4 harg4 x2 kc hk, v534_at c i arg4 harg4 x2 kc hk, sel_first _ _ (e1 _) (e1 _)]
  rw [← hR]
  have key : ∀ t : Fin 640, t.val = b.val → selm kc ⟨256 + a.val, by omega⟩ ⟨b.val, by omega⟩
      = if (kc ⟨256 + a.val, by omega⟩).val = (kc t).val ∧ ¬ early kc t then (1 : EReal) else 0 := by
    intro t ht
    have : t = ⟨b.val, by omega⟩ := Fin.ext ht
    rw [← this]
    simp only [selm, Fin.ext_iff]
  by_cases h1 : b.val < 128
  · rw [dif_pos h1]; exact (key _ (by first | omega | (simp only; omega))).symm
  rw [dif_neg h1]
  by_cases h2 : b.val - 128 < 128
  · rw [dif_pos h2]; exact (key _ (by first | omega | (simp only; omega))).symm
  rw [dif_neg h2]
  by_cases h3 : b.val - 128 - 128 < 128
  · rw [dif_pos h3]; exact (key _ (by first | omega | (simp only; omega))).symm
  rw [dif_neg h3]
  exact (key _ (by first | omega | (simp only; omega))).symm

open kernelRun0_A.sl in
/-- Which of a block of positions hold the code of which first positions. -/
theorem v1027_at (c : Dev nD) (i : grid0.Coords) (arg4 : Memref sig .tc .vmem S1x2x640 .i32) (harg4 : arg4.IsWhole) (x2 : Vec Ideal S1x2x640 .i32) (kc : Fin 640 → Fin 1024) (hk : ∀ t, x2 (ix3 0 (bI i) t) = BitVec.ofNat 32 (kc t).val) (a : Fin 128) (b : Fin 512) :
    v1027 c i arg4 harg4 x2 (ix2 a b) = selm kc ⟨384 + a.val, by omega⟩ ⟨b.val, by omega⟩ := by
  generalize hR : selm kc ⟨384 + a.val, by omega⟩ ⟨b.val, by omega⟩ = R
  have e1 : ∀ t : Fin 640, (kc t).val < 1024 := fun t => (kc t).isLt
  unfold v1027 v1026 v1023 v1022 v1019 v1018 v1015 v1014 v50 cst_1 v49 cst v1011
  pointwise
  simp only [v22_at c i arg4 harg4 x2 kc hk, v441_at c i arg4 harg4 x2 kc hk, v465_at c i arg4 harg4 x2 kc hk, v496_at c i arg4 harg4 x2 kc hk, v534_at c i arg4 harg4 x2 kc hk, sel_first _ _ (e1 _) (e1 _)]
  rw [← hR]
  have key : ∀ t : Fin 640, t.val = b.val → selm kc ⟨384 + a.val, by omega⟩ ⟨b.val, by omega⟩
      = if (kc ⟨384 + a.val, by omega⟩).val = (kc t).val ∧ ¬ early kc t then (1 : EReal) else 0 := by
    intro t ht
    have : t = ⟨b.val, by omega⟩ := Fin.ext ht
    rw [← this]
    simp only [selm, Fin.ext_iff]
  by_cases h1 : b.val < 128
  · rw [dif_pos h1]; exact (key _ (by first | omega | (simp only; omega))).symm
  rw [dif_neg h1]
  by_cases h2 : b.val - 128 < 128
  · rw [dif_pos h2]; exact (key _ (by first | omega | (simp only; omega))).symm
  rw [dif_neg h2]
  by_cases h3 : b.val - 128 - 128 < 128
  · rw [dif_pos h3]; exact (key _ (by first | omega | (simp only; omega))).symm
  rw [dif_neg h3]
  exact (key _ (by first | omega | (simp only; omega))).symm

end Cert.KBody
-- ==== Proof.KC.lean ====
/- Reading the buffers of the kernel body that hold keys, values and one-hot rows. -/
module

public import proofs.«01_k».proof.Proof.KB

@[expose] public section

set_option maxRecDepth 16384

noncomputable section

namespace Cert.KBody

open Idealize.ShloMosaic Idealize.ShloMosaic.TcCoe Idealize.ShloMosaic.Tactic
open Cert.KernelIdeal Cert.KernelIdeal.Gen

open kernelRun0_A.sl in
/-- The one-hot matrix read back. -/
theorem v349_at (c : Dev nD) (i : grid0.Coords) (arg4 : Memref sig .tc .vmem S1x2x640 .i32) (harg4 : arg4.IsWhole) (arg10 : Memref sig .tc .vmem S640x1024 .bf16) (x2 : Vec Ideal S1x2x640 .i32) (kc : Fin 640 → Fin 1024) (hk : ∀ t, x2 (ix3 0 (bI i) t) = BitVec.ofNat 32 (kc t).val) (t : Fin 640) (e : Fin 1024) :
    v349 c i arg4 harg4 arg10 x2 (ix2 t e) = if kc t = e then (1 : EReal) else 0 := by
  unfold v349
  rw [View.readCov_eq_canon']
  refine Eq.trans (congrArg (View.canon _) ?_) (HS0_at c i arg4 harg4 x2 kc hk t e)
  funext a
  apply Fin.ext
  fin_cases a <;> simp [Rect.toLoadRect, LoadRect.idx]

open kernelRun0_A.sl in
/-- The key of a position is the codebook row its code names. -/
theorem v356_at (c : Dev nD) (i : grid0.Coords) (arg4 : Memref sig .tc .vmem S1x2x640 .i32) (harg4 : arg4.IsWhole) (arg6 : Memref sig .tc .vmem S1x160x1024 .bf16) (harg6 : arg6.IsWhole) (arg10 : Memref sig .tc .vmem S640x1024 .bf16) (x2 : Vec Ideal S1x2x640 .i32) (x4 : Vec Ideal S1x160x1024 .bf16) (kc : Fin 640 → Fin 1024) (hk : ∀ t, x2 (ix3 0 (bI i) t) = BitVec.ofNat 32 (kc t).val) (t : Fin 640) (d : Fin 160) :
    v356 c i arg4 harg4 arg6 harg6 arg10 x2 x4 (ix2 t d) = x4 (ix3 0 d (kc t)) := by
  unfold v356 v353 v352 cst_158 v351
  pointwise
  rw [View.readAt_eq_ld, harg6.read_unread]
  rw [Finset.sum_eq_single (kc t)]
  · rw [v349_at c i arg4 harg4 arg10 x2 kc hk, if_pos rfl, one_mul]
    exact View.ld_unit_apply_of _ _ _ _ _ _ fun a => by fin_cases a <;> simp
  · intro e _ he
    rw [v349_at c i arg4 harg4 arg10 x2 kc hk, if_neg (fun h => he h.symm), zero_mul]
  · intro h; exact absurd (Finset.mem_univ _) h

open kernelRun0_A.sl in
/-- The first 128 keys read back. -/
theorem v561_at (c : Dev nD) (i : grid0.Coords) (arg4 : Memref sig .tc .vmem S1x2x640 .i32) (harg4 : arg4.IsWhole) (arg6 : Memref sig .tc .vmem S1x160x1024 .bf16) (harg6 : arg6.IsWhole) (arg10 : Memref sig .tc .vmem S640x1024 .bf16) (arg11 : Memref sig .tc .vmem S640x160 .bf16) (x2 : Vec Ideal S1x2x640 .i32) (x4 : Vec Ideal S1x160x1024 .bf16) (kc : Fin 640 → Fin 1024) (hk : ∀ t, x2 (ix3 0 (bI i) t) = BitVec.ofNat 32 (kc t).val) (t : Fin 128) (d : Fin 160) :
    v561 c i arg4 harg4 arg6 harg6 arg10 arg11 x2 x4 (ix2 t d) = x4 (ix3 0 d (kc ⟨t.val, by omega⟩)) := by
  unfold v561 HS1_1
  rw [View.readCov_fill _ _ _ _ _ (by decide)]
  refine (View.ld_unit_apply_of _ _ _ _ _ (ix2 ⟨t.val, by omega⟩ d) fun a => ?_).trans (v356_at c i arg4 harg4 arg6 harg6 arg10 x2 x4 kc hk _ d)
  fin_cases a <;> simp

open kernelRun0_A.sl in
/-- The first 256 keys read back. -/
theorem v680_at (c : Dev nD) (i : grid0.Coords) (arg4 : Memref sig .tc .vmem S1x2x640 .i32) (harg4 : arg4.IsWhole) (arg6 : Memref sig .tc .vmem S1x160x1024 .bf16) (harg6 : arg6.IsWhole) (arg10 : Memref sig .tc .vmem S640x1024 .bf16) (arg11 : Memref sig .tc .vmem S640x160 .bf16) (x2 : Vec Ideal S1x2x640 .i32) (x4 : Vec Ideal S1x160x1024 .bf16) (kc : Fin 640 → Fin 1024) (hk : ∀ t, x2 (ix3 0 (bI i) t) = BitVec.ofNat 32 (kc t).val) (t : Fin 256) (d : Fin 160) :
    v680 c i arg4 harg4 arg6 harg6 arg10 arg11 x2 x4 (ix2 t d) = x4 (ix3 0 d (kc ⟨t.val, by omega⟩)) := by
  unfold v680 HS1_1
  rw [View.readCov_fill _ _ _ _ _ (by decide)]
  refine (View.ld_unit_apply_of _ _ _ _ _ (ix2 ⟨t.val, by omega⟩ d) fun a => ?_).trans (v356_at c i arg4 harg4 arg6 harg6 arg10 x2 x4 kc hk _ d)
  fin_cases a <;> simp

open kernelRun0_A.sl in
/-- The first 256 keys read back. -/
theorem v727_at (c : Dev nD) (i : grid0.Coords) (arg4 : Memref sig .tc .vmem S1x2x640 .i32) (harg4 : arg4.IsWhole) (arg6 : Memref sig .tc .vmem S1x160x1024 .bf16) (harg6 : arg6.IsWhole) (arg10 : Memref sig .tc .vmem S640x1024 .bf16) (arg11 : Memref sig .tc .vmem S640x160 .bf16) (x2 : Vec Ideal S1x2x640 .i32) (x4 : Vec Ideal S1x160x1024 .bf16) (kc : Fin 640 → Fin 1024) (hk : ∀ t, x2 (ix3 0 (bI i) t) = BitVec.ofNat 32 (kc t).val) (t : Fin 256) (d : Fin 160) :
    v727 c i arg4 harg4 arg6 harg6 arg10 arg11 x2 x4 (ix2 t d) = x4 (ix3 0 d (kc ⟨t.val, by omega⟩)) := by
  unfold v727 HS1_1
  rw [View.readCov_fill _ _ _ _ _ (by decide)]
  refine (View.ld_unit_apply_of _ _ _ _ _ (ix2 ⟨t.val, by omega⟩ d) fun a => ?_).trans (v356_at c i arg4 harg4 arg6 harg6 arg10 x2 x4 kc hk _ d)
  fin_cases a <;> simp

open kernelRun0_A.sl in
/-- The first 384 keys read back. -/
theorem v807_at (c : Dev nD) (i : grid0.Coords) (arg4 : Memref sig .tc .vmem S1x2x640 .i32) (harg4 : arg4.IsWhole) (arg6 : Memref sig .tc .vmem S1x160x1024 .bf16) (harg6 : arg6.IsWhole) (arg10 : Memref sig .tc .vmem S640x1024 .bf16) (arg11 : Memref sig .tc .vmem S640x160 .bf16) (x2 : Vec Ideal S1x2x640 .i32) (x4 : Vec Ideal S1x160x1024 .bf16) (kc : Fin 640 → Fin 1024) (hk : ∀ t, x2 (ix3 0 (bI i) t) = BitVec.ofNat 32 (kc t).val) (t : Fin 384) (d : Fin 160) :
    v807 c i arg4 harg4 arg6 harg6 arg10 arg11 x2 x4 (ix2 t d) = x4 (ix3 0 d (kc ⟨t.val, by omega⟩)) := by
  unfold v807 HS1_1
  rw [View.readCov_fill _ _ _ _ _ (by decide)]
  refine (View.ld_unit_apply_of _ _ _ _ _ (ix2 ⟨t.val, by omega⟩ d) fun a => ?_).trans (v356_at c i arg4 harg4 arg6 harg6 arg10 x2 x4 kc hk _ d)
  fin_cases a <;> simp

open kernelRun0_A.sl in
/-- The first 512 keys read back. -/
theorem v934_at (c : Dev nD) (i : grid0.Coords) (arg4 : Memref sig .tc .vmem S1x2x640 .i32) (harg4 : arg4.IsWhole) (arg6 : Memref sig .tc .vmem S1x160x1024 .bf16) (harg6 : arg6.IsWhole) (arg10 : Memref sig .tc .vmem S640x1024 .bf16) (arg11 : Memref sig .tc .vmem S640x160 .bf16) (x2 : Vec Ideal S1x2x640 .i32) (x4 : Vec Ideal S1x160x1024 .bf16) (kc : Fin 640 → Fin 1024) (hk : ∀ t, x2 (ix3 0 (bI i) t) = BitVec.ofNat 32 (kc t).val) (t : Fin 512) (d : Fin 160) :
    v934 c i arg4 harg4 arg6 harg6 arg10 arg11 x2 x4 (ix2 t d) = x4 (ix3 0 d (kc ⟨t.val, by omega⟩)) := by
  unfold v934 HS1_1
  rw [View.readCov_fill _ _ _ _ _ (by decide)]
  refine (View.ld_unit_apply_of _ _ _ _ _ (ix2 ⟨t.val, by omega⟩ d) fun a => ?_).trans (v356_at c i arg4 harg4 arg6 harg6 arg10 x2 x4 kc hk _ d)
  fin_cases a <;> simp

open kernelRun0_A.sl in
/-- The first 640 keys read back. -/
theorem v1061_at (c : Dev nD) (i : grid0.Coords) (arg4 : Memref sig .tc .vmem S1x2x640 .i32) (harg4 : arg4.IsWhole) (arg6 : Memref sig .tc .vmem S1x160x1024 .bf16) (harg6 : arg6.IsWhole) (arg10 : Memref sig .tc .vmem S640x1024 .bf16) (arg11 : Memref sig .tc .vmem S640x160 .bf16) (x2 : Vec Ideal S1x2x640 .i32) (x4 : Vec Ideal S1x160x1024 .bf16) (kc : Fin 640 → Fin 1024) (hk : ∀ t, x2 (ix3 0 (bI i) t) = BitVec.ofNat 32 (kc t).val) (t : Fin 640) (d : Fin 160) :
    v1061 c i arg4 harg4 arg6 harg6 arg10 arg11 x2 x4 (ix2 t d) = x4 (ix3 0 d (kc ⟨t.val, by omega⟩)) := by
  unfold v1061 HS1_1
  rw [View.readCov_fill _ _ _ _ _ (by decide)]
  refine (View.ld_unit_apply_of _ _ _ _ _ (ix2 ⟨t.val, by omega⟩ d) fun a => ?_).trans (v356_at c i arg4 harg4 arg6 harg6 arg10 x2 x4 kc hk _ d)
  fin_cases a <;> simp

/-- Where the load of a value scale starts, at each grid point. -/
theorem off_r : ∀ i : grid0.Coords, k0_off2 i = ![(hI i).val, (bI i).val, 0] := by decide +kernel

/-- Where the load of a value scale starts, at each grid point. -/
theorem off_r_1 : ∀ i : grid0.Coords, k0_off3 i = ![(hI i).val, (bI i).val, 1] := by decide +kernel

/-- Where the load of a value scale starts, at each grid point. -/
theorem off_r_2 : ∀ i : grid0.Coords, k0_off4 i = ![(hI i).val, (bI i).val, 2] := by decide +kernel

/-- Where the load of a value scale starts, at each grid point. -/
theorem off_r_3 : ∀ i : grid0.Coords, k0_off5 i = ![(hI i).val, (bI i).val, 3] := by decide +kernel

/-- Where the load of a value scale starts, at each grid point. -/
theorem off_r_4 : ∀ i : grid0.Coords, k0_off6 i = ![(hI i).val, (bI i).val, 4] := by decide +kernel

/-- One entry of the value scales, read through a one-element load. -/
theorem ld_vs {V : Type} (X : S3x2x5.Idx → V) (h : Fin 3) (b : Fin 2) (n : Fin 5) (off : Fin 3 → Nat)
    (inb : ∀ a, off a + S1x1x1.size a ≤ S3x2x5.size a) (e : off = ![h.val, b.val, n.val]) (j : S1x1x1.Idx) :
    View.ld (Val := fun _ => V) (e' := .f32) X (Rect.unit (s := S3x2x5) off S1x1x1.size inb) j = X (ix3 h b n) := by
  subst e
  refine View.ld_unit_apply_of _ _ _ _ _ _ fun a => ?_
  fin_cases a
  · simp
  · simp
  · simp

open kernelRun0_A.sl in
/-- The value scale of a block. -/
theorem r_at (c : Dev nD) (i : grid0.Coords) (arg3 : Memref sig .tc .smem S3x2x5 .f32) (harg3 : arg3.IsWhole) (x1 : Vec Ideal S3x2x5 .f32)  :
    r c i arg3 harg3 x1 = x1 (ix3 (hI i) (bI i) 0) := by
  unfold r
  rw [View.readAt_eq_ld, harg3.read_unread]
  exact ld_vs x1 (hI i) (bI i) 0 _ _ (off_r i) _

open kernelRun0_A.sl in
/-- The value scale of a block. -/
theorem r_1_at (c : Dev nD) (i : grid0.Coords) (arg3 : Memref sig .tc .smem S3x2x5 .f32) (harg3 : arg3.IsWhole) (x1 : Vec Ideal S3x2x5 .f32)  :
    r_1 c i arg3 harg3 x1 = x1 (ix3 (hI i) (bI i) 1) := by
  unfold r_1
  rw [View.readAt_eq_ld, harg3.read_unread]
  exact ld_vs x1 (hI i) (bI i) 1 _ _ (off_r_1 i) _

open kernelRun0_A.sl in
/-- The value scale of a block. -/
theorem r_2_at (c : Dev nD) (i : grid0.Coords) (arg3 : Memref sig .tc .smem S3x2x5 .f32) (harg3 : arg3.IsWhole) (x1 : Vec Ideal S3x2x5 .f32)  :
    r_2 c i arg3 harg3 x1 = x1 (ix3 (hI i) (bI i) 2) := by
  unfold r_2
  rw [View.readAt_eq_ld, harg3.read_unread]
  exact ld_vs x1 (hI i) (bI i) 2 _ _ (off_r_2 i) _

open kernelRun0_A.sl in
/-- The value scale of a block. -/
theorem r_3_at (c : Dev nD) (i : grid0.Coords) (arg3 : Memref sig .tc .smem S3x2x5 .f32) (harg3 : arg3.IsWhole) (x1 : Vec Ideal S3x2x5 .f32)  :
    r_3 c i arg3 harg3 x1 = x1 (ix3 (hI i) (bI i) 3) := by
  unfold r_3
  rw [View.readAt_eq_ld, harg3.read_unread]
  exact ld_vs x1 (hI i) (bI i) 3 _ _ (off_r_3 i) _

open kernelRun0_A.sl in
/-- The value scale of a block. -/
theorem r_4_at (c : Dev nD) (i : grid0.Coords) (arg3 : Memref sig .tc .smem S3x2x5 .f32) (harg3 : arg3.IsWhole) (x1 : Vec Ideal S3x2x5 .f32)  :
    r_4 c i arg3 harg3 x1 = x1 (ix3 (hI i) (bI i) 4) := by
  unfold r_4
  rw [View.readAt_eq_ld, harg3.read_unread]
  exact ld_vs x1 (hI i) (bI i) 4 _ _ (off_r_4 i) _

open kernelRun0_A.sl in
/-- One block of scaled values. -/
theorem v368_at (c : Dev nD) (i : grid0.Coords) (arg3 : Memref sig .tc .smem S3x2x5 .f32) (harg3 : arg3.IsWhole) (arg7 : Memref sig .tc .vmem S1x1x160x640 .fp8e4m3) (harg7 : arg7.IsWhole) (x1 : Vec Ideal S3x2x5 .f32) (x5 : Vec Ideal S1x1x160x640 .fp8e4m3) (d : Fin 160) (a : Fin 128) :
    v368 c i arg3 harg3 arg7 harg7 x1 x5 (ix2 d a) = valf x1 x5 i d ⟨0 + a.val, by omega⟩ := by
  generalize hR : valf x1 x5 i d ⟨0 + a.val, by omega⟩ = R
  unfold v368 v365 v364 v363 v359 v358
  pointwise
  rw [r_at, View.readAt_eq_ld, harg7.read_unread, ← hR, valf]
  congr 1
  · exact View.ld_unit_apply_of _ _ _ _ _ _ fun a => by fin_cases a <;> simp
  · congr 2; apply Fin.ext; simp only; omega

open kernelRun0_A.sl in
/-- One block of scaled values. -/
theorem v380_at (c : Dev nD) (i : grid0.Coords) (arg3 : Memref sig .tc .smem S3x2x5 .f32) (harg3 : arg3.IsWhole) (arg7 : Memref sig .tc .vmem S1x1x160x640 .fp8e4m3) (harg7 : arg7.IsWhole) (x1 : Vec Ideal S3x2x5 .f32) (x5 : Vec Ideal S1x1x160x640 .fp8e4m3) (d : Fin 160) (a : Fin 128) :
    v380 c i arg3 harg3 arg7 harg7 x1 x5 (ix2 d a) = valf x1 x5 i d ⟨128 + a.val, by omega⟩ := by
  generalize hR : valf x1 x5 i d ⟨128 + a.val, by omega⟩ = R
  unfold v380 v377 v376 v375 v371 v370
  pointwise
  rw [r_1_at, View.readAt_eq_ld, harg7.read_unread, ← hR, valf]
  congr 1
  · exact View.ld_unit_apply_of _ _ _ _ _ _ fun a => by fin_cases a <;> simp
  · congr 2; apply Fin.ext; simp only; omega

open kernelRun0_A.sl in
/-- One block of scaled values. -/
theorem v392_at (c : Dev nD) (i : grid0.Coords) (arg3 : Memref sig .tc .smem S3x2x5 .f32) (harg3 : arg3.IsWhole) (arg7 : Memref sig .tc .vmem S1x1x160x640 .fp8e4m3) (harg7 : arg7.IsWhole) (x1 : Vec Ideal S3x2x5 .f32) (x5 : Vec Ideal S1x1x160x640 .fp8e4m3) (d : Fin 160) (a : Fin 128) :
    v392 c i arg3 harg3 arg7 harg7 x1 x5 (ix2 d a) = valf x1 x5 i d ⟨256 + a.val, by omega⟩ := by
  generalize hR : valf x1 x5 i d ⟨256 + a.val, by omega⟩ = R
  unfold v392 v389 v388 v387 v383 v382
  pointwise
  rw [r_2_at, View.readAt_eq_ld, harg7.read_unread, ← hR, valf]
  congr 1
  · exact View.ld_unit_apply_of _ _ _ _ _ _ fun a => by fin_cases a <;> simp
  · congr 2; apply Fin.ext; simp only; omega

open kernelRun0_A.sl in
/-- One block of scaled values. -/
theorem v404_at (c : Dev nD) (i : grid0.Coords) (arg3 : Memref sig .tc .smem S3x2x5 .f32) (harg3 : arg3.IsWhole) (arg7 : Memref sig .tc .vmem S1x1x160x640 .fp8e4m3) (harg7 : arg7.IsWhole) (x1 : Vec Ideal S3x2x5 .f32) (x5 : Vec Ideal S1x1x160x640 .fp8e4m3) (d : Fin 160) (a : Fin 128) :
    v404 c i arg3 harg3 arg7 harg7 x1 x5 (ix2 d a) = valf x1 x5 i d ⟨384 + a.val, by omega⟩ := by
  generalize hR : valf x1 x5 i d ⟨384 + a.val, by omega⟩ = R
  unfold v404 v401 v400 v399 v395 v394
  pointwise
  rw [r_3_at, View.readAt_eq_ld, harg7.read_unread, ← hR, valf]
  congr 1
  · exact View.ld_unit_apply_of _ _ _ _ _ _ fun a => by fin_cases a <;> simp
  · congr 2; apply Fin.ext; simp only; omega

open kernelRun0_A.sl in
/-- One block of scaled values. -/
theorem v416_at (c : Dev nD) (i : grid0.Coords) (arg3 : Memref sig .tc .smem S3x2x5 .f32) (harg3 : arg3.IsWhole) (arg7 : Memref sig .tc .vmem S1x1x160x640 .fp8e4m3) (harg7 : arg7.IsWhole) (x1 : Vec Ideal S3x2x5 .f32) (x5 : Vec Ideal S1x1x160x640 .fp8e4m3) (d : Fin 160) (a : Fin 128) :
    v416 c i arg3 harg3 arg7 harg7 x1 x5 (ix2 d a) = valf x1 x5 i d ⟨512 + a.val, by omega⟩ := by
  generalize hR : valf x1 x5 i d ⟨512 + a.val, by omega⟩ = R
  unfold v416 v413 v412 v411 v407 v406
  pointwise
  rw [r_4_at, View.readAt_eq_ld, harg7.read_unread, ← hR, valf]
  congr 1
  · exact View.ld_unit_apply_of _ _ _ _ _ _ fun a => by fin_cases a <;> simp
  · congr 2; apply Fin.ext; simp only; omega

open kernelRun0_A.sl in
/-- The scaled values, as the five stores leave them. -/
theorem HS2_at (c : Dev nD) (i : grid0.Coords) (arg3 : Memref sig .tc .smem S3x2x5 .f32) (harg3 : arg3.IsWhole) (arg7 : Memref sig .tc .vmem S1x1x160x640 .fp8e4m3) (harg7 : arg7.IsWhole) (x1 : Vec Ideal S3x2x5 .f32) (x5 : Vec Ideal S1x1x160x640 .fp8e4m3) (d : Fin 160) (t : Fin 640) :
    View.canon (Val := Elt Ideal) (HS2_5 c i arg3 harg3 arg7 harg7 x1 x5) (ix2 d t) = valf x1 x5 i d t := by
  unfold HS2_5
  canon_tiles x h
  · rw [show x = ix2 (x 0) (x 1) from by ext a; fin_cases a <;> rfl]
    refine (v416_at c i arg3 harg3 arg7 harg7 x1 x5 (x 0) (x 1)).trans ?_
    congr 1
    · apply Fin.ext; simpa using h0.symm
    · apply Fin.ext; simpa using h1.symm
  · rw [show x = ix2 (x 0) (x 1) from by ext a; fin_cases a <;> rfl]
    refine (v404_at c i arg3 harg3 arg7 harg7 x1 x5 (x 0) (x 1)).trans ?_
    congr 1
    · apply Fin.ext; simpa using h0.symm
    · apply Fin.ext; simpa using h1.symm
  · rw [show x = ix2 (x 0) (x 1) from by ext a; fin_cases a <;> rfl]
    refine (v392_at c i arg3 harg3 arg7 harg7 x1 x5 (x 0) (x 1)).trans ?_
    congr 1
    · apply Fin.ext; simpa using h0.symm
    · apply Fin.ext; simpa using h1.symm
  · rw [show x = ix2 (x 0) (x 1) from by ext a; fin_cases a <;> rfl]
    refine (v380_at c i arg3 harg3 arg7 harg7 x1 x5 (x 0) (x 1)).trans ?_
    congr 1
    · apply Fin.ext; simpa using h0.symm
    · apply Fin.ext; simpa using h1.symm
  · rw [show x = ix2 (x 0) (x 1) from by ext a; fin_cases a <;> rfl]
    refine (v368_at c i arg3 harg3 arg7 harg7 x1 x5 (x 0) (x 1)).trans ?_
    congr 1
    · apply Fin.ext; simpa using h0.symm
    · apply Fin.ext; simpa using h1.symm

open kernelRun0_A.sl in
/-- Scaled values read back. -/
theorem v417_at (c : Dev nD) (i : grid0.Coords) (arg3 : Memref sig .tc .smem S3x2x5 .f32) (harg3 : arg3.IsWhole) (arg7 : Memref sig .tc .vmem S1x1x160x640 .fp8e4m3) (harg7 : arg7.IsWhole) (arg12 : Memref sig .tc .vmem S160x640 .bf16) (x1 : Vec Ideal S3x2x5 .f32) (x5 : Vec Ideal S1x1x160x640 .fp8e4m3) (d : Fin 160) (a : Fin 640) :
    v417 c i arg3 harg3 arg7 harg7 arg12 x1 x5 (ix2 d a) = valf x1 x5 i d ⟨0 + a.val, by omega⟩ := by
  unfold v417
  rw [View.readCov_eq_canon']
  refine Eq.trans (congrArg (View.canon _) ?_) (HS2_at c i arg3 harg3 arg7 harg7 x1 x5 d ⟨0 + a.val, by omega⟩)
  funext b
  apply Fin.ext
  fin_cases b <;> simp [Rect.toLoadRect, LoadRect.idx]

open kernelRun0_A.sl in
/-- Scaled values read back. -/
theorem v538_at (c : Dev nD) (i : grid0.Coords) (arg3 : Memref sig .tc .smem S3x2x5 .f32) (harg3 : arg3.IsWhole) (arg7 : Memref sig .tc .vmem S1x1x160x640 .fp8e4m3) (harg7 : arg7.IsWhole) (arg12 : Memref sig .tc .vmem S160x640 .bf16) (x1 : Vec Ideal S3x2x5 .f32) (x5 : Vec Ideal S1x1x160x640 .fp8e4m3) (d : Fin 160) (a : Fin 128) :
    v538 c i arg3 harg3 arg7 harg7 arg12 x1 x5 (ix2 d a) = valf x1 x5 i d ⟨0 + a.val, by omega⟩ := by
  unfold v538
  rw [View.readCov_eq_canon']
  refine Eq.trans (congrArg (View.canon _) ?_) (HS2_at c i arg3 harg3 arg7 harg7 x1 x5 d ⟨0 + a.val, by omega⟩)
  funext b
  apply Fin.ext
  fin_cases b <;> simp [Rect.toLoadRect, LoadRect.idx]

open kernelRun0_A.sl in
/-- Scaled values read back. -/
theorem v649_at (c : Dev nD) (i : grid0.Coords) (arg3 : Memref sig .tc .smem S3x2x5 .f32) (harg3 : arg3.IsWhole) (arg7 : Memref sig .tc .vmem S1x1x160x640 .fp8e4m3) (harg7 : arg7.IsWhole) (arg12 : Memref sig .tc .vmem S160x640 .bf16) (x1 : Vec Ideal S3x2x5 .f32) (x5 : Vec Ideal S1x1x160x640 .fp8e4m3) (d : Fin 160) (a : Fin 128) :
    v649 c i arg3 harg3 arg7 harg7 arg12 x1 x5 (ix2 d a) = valf x1 x5 i d ⟨0 + a.val, by omega⟩ := by
  unfold v649
  rw [View.readCov_eq_canon']
  refine Eq.trans (congrArg (View.canon _) ?_) (HS2_at c i arg3 harg3 arg7 harg7 x1 x5 d ⟨0 + a.val, by omega⟩)
  funext b
  apply Fin.ext
  fin_cases b <;> simp [Rect.toLoadRect, LoadRect.idx]

open kernelRun0_A.sl in
/-- Scaled values read back. -/
theorem v656_at (c : Dev nD) (i : grid0.Coords) (arg3 : Memref sig .tc .smem S3x2x5 .f32) (harg3 : arg3.IsWhole) (arg7 : Memref sig .tc .vmem S1x1x160x640 .fp8e4m3) (harg7 : arg7.IsWhole) (arg12 : Memref sig .tc .vmem S160x640 .bf16) (x1 : Vec Ideal S3x2x5 .f32) (x5 : Vec Ideal S1x1x160x640 .fp8e4m3) (d : Fin 160) (a : Fin 128) :
    v656 c i arg3 harg3 arg7 harg7 arg12 x1 x5 (ix2 d a) = valf x1 x5 i d ⟨128 + a.val, by omega⟩ := by
  unfold v656
  rw [View.readCov_eq_canon']
  refine Eq.trans (congrArg (View.canon _) ?_) (HS2_at c i arg3 harg3 arg7 harg7 x1 x5 d ⟨128 + a.val, by omega⟩)
  funext b
  apply Fin.ext
  fin_cases b <;> simp [Rect.toLoadRect, LoadRect.idx]

open kernelRun0_A.sl in
/-- Scaled values read back. -/
theorem v774_at (c : Dev nD) (i : grid0.Coords) (arg3 : Memref sig .tc .smem S3x2x5 .f32) (harg3 : arg3.IsWhole) (arg7 : Memref sig .tc .vmem S1x1x160x640 .fp8e4m3) (harg7 : arg7.IsWhole) (arg12 : Memref sig .tc .vmem S160x640 .bf16) (x1 : Vec Ideal S3x2x5 .f32) (x5 : Vec Ideal S1x1x160x640 .fp8e4m3) (d : Fin 160) (a : Fin 128) :
    v774 c i arg3 harg3 arg7 harg7 arg12 x1 x5 (ix2 d a) = valf x1 x5 i d ⟨128 + a.val, by omega⟩ := by
  unfold v774
  rw [View.readCov_eq_canon']
  refine Eq.trans (congrArg (View.canon _) ?_) (HS2_at c i arg3 harg3 arg7 harg7 x1 x5 d ⟨128 + a.val, by omega⟩)
  funext b
  apply Fin.ext
  fin_cases b <;> simp [Rect.toLoadRect, LoadRect.idx]

open kernelRun0_A.sl in
/-- Scaled values read back. -/
theorem v783_at (c : Dev nD) (i : grid0.Coords) (arg3 : Memref sig .tc .smem S3x2x5 .f32) (harg3 : arg3.IsWhole) (arg7 : Memref sig .tc .vmem S1x1x160x640 .fp8e4m3) (harg7 : arg7.IsWhole) (arg12 : Memref sig .tc .vmem S160x640 .bf16) (x1 : Vec Ideal S3x2x5 .f32) (x5 : Vec Ideal S1x1x160x640 .fp8e4m3) (d : Fin 160) (a : Fin 128) :
    v783 c i arg3 harg3 arg7 harg7 arg12 x1 x5 (ix2 d a) = valf x1 x5 i d ⟨256 + a.val, by omega⟩ := by
  unfold v783
  rw [View.readCov_eq_canon']
  refine Eq.trans (congrArg (View.canon _) ?_) (HS2_at c i arg3 harg3 arg7 harg7 x1 x5 d ⟨256 + a.val, by omega⟩)
  funext b
  apply Fin.ext
  fin_cases b <;> simp [Rect.toLoadRect, LoadRect.idx]

open kernelRun0_A.sl in
/-- Scaled values read back. -/
theorem v910_at (c : Dev nD) (i : grid0.Coords) (arg3 : Memref sig .tc .smem S3x2x5 .f32) (harg3 : arg3.IsWhole) (arg7 : Memref sig .tc .vmem S1x1x160x640 .fp8e4m3) (harg7 : arg7.IsWhole) (arg12 : Memref sig .tc .vmem S160x640 .bf16) (x1 : Vec Ideal S3x2x5 .f32) (x5 : Vec Ideal S1x1x160x640 .fp8e4m3) (d : Fin 160) (a : Fin 128) :
    v910 c i arg3 harg3 arg7 harg7 arg12 x1 x5 (ix2 d a) = valf x1 x5 i d ⟨384 + a.val, by omega⟩ := by
  unfold v910
  rw [View.readCov_eq_canon']
  refine Eq.trans (congrArg (View.canon _) ?_) (HS2_at c i arg3 harg3 arg7 harg7 x1 x5 d ⟨384 + a.val, by omega⟩)
  funext b
  apply Fin.ext
  fin_cases b <;> simp [Rect.toLoadRect, LoadRect.idx]

open kernelRun0_A.sl in
/-- Scaled values read back. -/
theorem v1037_at (c : Dev nD) (i : grid0.Coords) (arg3 : Memref sig .tc .smem S3x2x5 .f32) (harg3 : arg3.IsWhole) (arg7 : Memref sig .tc .vmem S1x1x160x640 .fp8e4m3) (harg7 : arg7.IsWhole) (arg12 : Memref sig .tc .vmem S160x640 .bf16) (x1 : Vec Ideal S3x2x5 .f32) (x5 : Vec Ideal S1x1x160x640 .fp8e4m3) (d : Fin 160) (a : Fin 128) :
    v1037 c i arg3 harg3 arg7 harg7 arg12 x1 x5 (ix2 d a) = valf x1 x5 i d ⟨512 + a.val, by omega⟩ := by
  unfold v1037
  rw [View.readCov_eq_canon']
  refine Eq.trans (congrArg (View.canon _) ?_) (HS2_at c i arg3 harg3 arg7 harg7 x1 x5 d ⟨512 + a.val, by omega⟩)
  funext b
  apply Fin.ext
  fin_cases b <;> simp [Rect.toLoadRect, LoadRect.idx]

open kernelRun0_A.sl in
/-- The value sums per code. -/
theorem v422_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg10 : Memref sig .tc .vmem S640x1024 .bf16) (arg12 : Memref sig .tc .vmem S160x640 .bf16) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (e : Fin 1024) :
    v422 c i arg3 harg3 arg4 harg4 arg7 harg7 arg10 arg12 x1 x2 x5 (ix4 0 0 d e) = ∑ t : Fin 640, valf x1 x5 i d t * (if kc t = e then (1 : EReal) else 0) := by
  unfold v422 v419 cst_196
  pointwise
  refine Finset.sum_congr rfl fun t _ => ?_
  rw [v349_at c i arg4 harg4 arg10 x2 kc hk, v417_at]
  congr 2; apply Fin.ext; simp

/-- What one block of values adds to the sums at the first positions. -/
def wadd (kc : Fin 640 → Fin 1024) (x1 : Vec Ideal S3x2x5 .f32) (x5 : Vec Ideal S1x1x160x640 .fp8e4m3) (i : grid0.Coords) (n : Fin 5) (d : Fin 160) (t : Fin 640) : EReal :=
  ∑ a : Fin 128, valf x1 x5 i d ⟨128 * n.val + a.val, by omega⟩ * selm kc ⟨128 * n.val + a.val, by omega⟩ t

open kernelRun0_A.sl in
/-- What one block of values adds to the sums at the first positions. -/
theorem v650_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v650 c i arg3 harg3 arg4 harg4 arg7 harg7 arg12 x1 x2 x5 (ix2 d t) = wadd kc x1 x5 i 0 d ⟨t.val, by omega⟩ := by
  generalize hR : wadd kc x1 x5 i 0 d ⟨t.val, by omega⟩ = R
  unfold v650 cst_290
  pointwise
  rw [← hR, wadd]
  refine Finset.sum_congr rfl fun a _ => ?_
  rw [v649_at, v648_at c i arg4 harg4 x2 kc hk]
  rfl

open kernelRun0_A.sl in
/-- What one block of values adds to the sums at the first positions. -/
theorem v775_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v775 c i arg3 harg3 arg4 harg4 arg7 harg7 arg12 x1 x2 x5 (ix2 d t) = wadd kc x1 x5 i 1 d ⟨t.val, by omega⟩ := by
  generalize hR : wadd kc x1 x5 i 1 d ⟨t.val, by omega⟩ = R
  unfold v775 cst_290
  pointwise
  rw [← hR, wadd]
  refine Finset.sum_congr rfl fun a _ => ?_
  rw [v774_at, v773_at c i arg4 harg4 x2 kc hk]
  rfl

open kernelRun0_A.sl in
/-- What one block of values adds to the sums at the first positions. -/
theorem v902_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v902 c i arg3 harg3 arg4 harg4 arg7 harg7 arg12 x1 x2 x5 (ix2 d t) = wadd kc x1 x5 i 2 d ⟨t.val, by omega⟩ := by
  generalize hR : wadd kc x1 x5 i 2 d ⟨t.val, by omega⟩ = R
  unfold v902 cst_290
  pointwise
  rw [← hR, wadd]
  refine Finset.sum_congr rfl fun a _ => ?_
  rw [v783_at, v900_at c i arg4 harg4 x2 kc hk]
  rfl

open kernelRun0_A.sl in
/-- What one block of values adds to the sums at the first positions. -/
theorem v1029_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v1029 c i arg3 harg3 arg4 harg4 arg7 harg7 arg12 x1 x2 x5 (ix2 d t) = wadd kc x1 x5 i 3 d ⟨t.val, by omega⟩ := by
  generalize hR : wadd kc x1 x5 i 3 d ⟨t.val, by omega⟩ = R
  unfold v1029 cst_290
  pointwise
  rw [← hR, wadd]
  refine Finset.sum_congr rfl fun a _ => ?_
  rw [v910_at, v1027_at c i arg4 harg4 x2 kc hk]
  rfl

open kernelRun0_A.sl in
/-- The running sums at the first positions, read back. -/
theorem v776_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v776 c i arg3 harg3 arg4 harg4 arg7 harg7 arg12 arg13 x1 x2 x5 (ix2 d t) = (wadd kc x1 x5 i 0 d ⟨t.val, by omega⟩) := by
  unfold v776 HS3_1
  rw [View.readCov_fill _ _ _ _ _ (by decide)]
  refine (View.ld_unit_apply_of _ _ _ _ _ (ix2 d t) fun a => by fin_cases a <;> simp).trans ?_
  unfold k0_pay91
  pointwise
  exact v650_at c i arg3 harg3 arg4 harg4 arg7 harg7 arg12 x1 x2 x5 kc hk d t

open kernelRun0_A.sl in
/-- The running sums at the first positions after one more block. -/
theorem v780_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v780 c i arg3 harg3 arg4 harg4 arg7 harg7 arg12 arg13 x1 x2 x5 (ix2 d t) = (wadd kc x1 x5 i 0 d ⟨t.val, by omega⟩ + wadd kc x1 x5 i 1 d ⟨t.val, by omega⟩) := by
  unfold v780 v777
  pointwise
  rw [v776_at c i arg3 harg3 arg4 harg4 arg7 harg7 arg12 arg13 x1 x2 x5 kc hk d t, v775_at c i arg3 harg3 arg4 harg4 arg7 harg7 arg12 x1 x2 x5 kc hk d t]

open kernelRun0_A.sl in
/-- The running sums at the first positions, read back. -/
theorem v903_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v903 c i arg3 harg3 arg4 harg4 arg7 harg7 arg12 arg13 x1 x2 x5 (ix2 d t) = (wadd kc x1 x5 i 0 d ⟨t.val, by omega⟩ + wadd kc x1 x5 i 1 d ⟨t.val, by omega⟩) := by
  unfold v903 HS3_2
  rw [View.readCov_fill _ _ _ _ _ (by decide)]
  refine (View.ld_unit_apply_of _ _ _ _ _ (ix2 d t) fun a => by fin_cases a <;> simp).trans ?_
  exact v780_at c i arg3 harg3 arg4 harg4 arg7 harg7 arg12 arg13 x1 x2 x5 kc hk d t

open kernelRun0_A.sl in
/-- The running sums at the first positions after one more block. -/
theorem v907_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v907 c i arg3 harg3 arg4 harg4 arg7 harg7 arg12 arg13 x1 x2 x5 (ix2 d t) = ((wadd kc x1 x5 i 0 d ⟨t.val, by omega⟩ + wadd kc x1 x5 i 1 d ⟨t.val, by omega⟩) + wadd kc x1 x5 i 2 d ⟨t.val, by omega⟩) := by
  unfold v907 v904
  pointwise
  rw [v903_at c i arg3 harg3 arg4 harg4 arg7 harg7 arg12 arg13 x1 x2 x5 kc hk d t, v902_at c i arg3 harg3 arg4 harg4 arg7 harg7 arg12 x1 x2 x5 kc hk d t]

open kernelRun0_A.sl in
/-- The running sums at the first positions, read back. -/
theorem v1030_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v1030 c i arg3 harg3 arg4 harg4 arg7 harg7 arg12 arg13 x1 x2 x5 (ix2 d t) = ((wadd kc x1 x5 i 0 d ⟨t.val, by omega⟩ + wadd kc x1 x5 i 1 d ⟨t.val, by omega⟩) + wadd kc x1 x5 i 2 d ⟨t.val, by omega⟩) := by
  unfold v1030 HS3_3
  rw [View.readCov_fill _ _ _ _ _ (by decide)]
  refine (View.ld_unit_apply_of _ _ _ _ _ (ix2 d t) fun a => by fin_cases a <;> simp).trans ?_
  exact v907_at c i arg3 harg3 arg4 harg4 arg7 harg7 arg12 arg13 x1 x2 x5 kc hk d t

open kernelRun0_A.sl in
/-- The running sums at the first positions after one more block. -/
theorem v1034_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v1034 c i arg3 harg3 arg4 harg4 arg7 harg7 arg12 arg13 x1 x2 x5 (ix2 d t) = (((wadd kc x1 x5 i 0 d ⟨t.val, by omega⟩ + wadd kc x1 x5 i 1 d ⟨t.val, by omega⟩) + wadd kc x1 x5 i 2 d ⟨t.val, by omega⟩) + wadd kc x1 x5 i 3 d ⟨t.val, by omega⟩) := by
  unfold v1034 v1031
  pointwise
  rw [v1030_at c i arg3 harg3 arg4 harg4 arg7 harg7 arg12 arg13 x1 x2 x5 kc hk d t, v1029_at c i arg3 harg3 arg4 harg4 arg7 harg7 arg12 x1 x2 x5 kc hk d t]

open kernelRun0_A.sl in
/-- The sums at the first positions, as the block of queries reads them. -/
theorem v654_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 128) :
    v654 c i arg3 harg3 arg4 harg4 arg7 harg7 arg12 arg13 x1 x2 x5 (ix2 d t) = (wadd kc x1 x5 i 0 d ⟨t.val, by omega⟩) := by
  unfold v654 HS3_1
  rw [View.readCov_fill _ _ _ _ _ (by decide)]
  refine (View.ld_unit_apply_of _ _ _ _ _ (ix2 d ⟨t.val, by omega⟩) fun a => by fin_cases a <;> simp).trans ?_
  unfold k0_pay91
  pointwise
  exact v650_at c i arg3 harg3 arg4 harg4 arg7 harg7 arg12 x1 x2 x5 kc hk d _

open kernelRun0_A.sl in
/-- The sums at the first positions, as the block of queries reads them. -/
theorem v781_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 256) :
    v781 c i arg3 harg3 arg4 harg4 arg7 harg7 arg12 arg13 x1 x2 x5 (ix2 d t) = (wadd kc x1 x5 i 0 d ⟨t.val, by omega⟩ + wadd kc x1 x5 i 1 d ⟨t.val, by omega⟩) := by
  unfold v781 HS3_2
  rw [View.readCov_fill _ _ _ _ _ (by decide)]
  refine (View.ld_unit_apply_of _ _ _ _ _ (ix2 d ⟨t.val, by omega⟩) fun a => by fin_cases a <;> simp).trans ?_
  exact v780_at c i arg3 harg3 arg4 harg4 arg7 harg7 arg12 arg13 x1 x2 x5 kc hk d _

open kernelRun0_A.sl in
/-- The sums at the first positions, as the block of queries reads them. -/
theorem v908_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 384) :
    v908 c i arg3 harg3 arg4 harg4 arg7 harg7 arg12 arg13 x1 x2 x5 (ix2 d t) = ((wadd kc x1 x5 i 0 d ⟨t.val, by omega⟩ + wadd kc x1 x5 i 1 d ⟨t.val, by omega⟩) + wadd kc x1 x5 i 2 d ⟨t.val, by omega⟩) := by
  unfold v908 HS3_3
  rw [View.readCov_fill _ _ _ _ _ (by decide)]
  refine (View.ld_unit_apply_of _ _ _ _ _ (ix2 d ⟨t.val, by omega⟩) fun a => by fin_cases a <;> simp).trans ?_
  exact v907_at c i arg3 harg3 arg4 harg4 arg7 harg7 arg12 arg13 x1 x2 x5 kc hk d _

open kernelRun0_A.sl in
/-- The sums at the first positions, as the block of queries reads them. -/
theorem v1035_at (c : Dev nD) (i : grid0.Coords) (arg3 : Memref sig .tc .smem S3x2x5 .f32) (harg3 : arg3.IsWhole) (arg4 : Memref sig .tc .vmem S1x2x640 .i32) (harg4 : arg4.IsWhole) (arg7 : Memref sig .tc .vmem S1x1x160x640 .fp8e4m3) (harg7 : arg7.IsWhole) (arg12 : Memref sig .tc .vmem S160x640 .bf16) (arg13 : Memref sig .tc .vmem S160x512 .f32) (x1 : Vec Ideal S3x2x5 .f32) (x2 : Vec Ideal S1x2x640 .i32) (x5 : Vec Ideal S1x1x160x640 .fp8e4m3) (kc : Fin 640 → Fin 1024) (hk : ∀ t, x2 (ix3 0 (bI i) t) = BitVec.ofNat 32 (kc t).val) (d : Fin 160) (t : Fin 512) :
    v1035 c i arg3 harg3 arg4 harg4 arg7 harg7 arg12 arg13 x1 x2 x5 (ix2 d t) = (((wadd kc x1 x5 i 0 d ⟨t.val, by omega⟩ + wadd kc x1 x5 i 1 d ⟨t.val, by omega⟩) + wadd kc x1 x5 i 2 d ⟨t.val, by omega⟩) + wadd kc x1 x5 i 3 d ⟨t.val, by omega⟩) := by
  unfold v1035 HS3_4
  rw [View.readCov_fill _ _ _ _ _ (by decide)]
  refine (View.ld_unit_apply_of _ _ _ _ _ (ix2 d ⟨t.val, by omega⟩) fun a => by fin_cases a <;> simp).trans ?_
  exact v1034_at c i arg3 harg3 arg4 harg4 arg7 harg7 arg12 arg13 x1 x2 x5 kc hk d _

end Cert.KBody
-- ==== Proof.KD.lean ====
/- The scalars the kernel loads and the multipliers of its scores. -/
module

public import proofs.«01_k».proof.Proof.KC

@[expose] public section

set_option maxRecDepth 16384

noncomputable section

namespace Cert.KBody

open Idealize.ShloMosaic Idealize.ShloMosaic.TcCoe Idealize.ShloMosaic.Tactic
open Cert.KernelIdeal Cert.KernelIdeal.Gen

/-- The query scales of one key/value head's group of four. -/
abbrev hQ (i : grid0.Coords) (h : Fin 4) : Fin 12 := ⟨4 * (hI i).val + h.val, by have := (hI i).isLt; omega⟩

/-- The scaled score of query `a` of block `n` in head `h` against the key of position `t`. -/
def dm (kc : Fin 640 → Fin 1024) (x0 : Vec Ideal S5x2x12 .f32) (x3 : Vec Ideal S1x4x160x640 .fp8e4m3) (x4 : Vec Ideal S1x160x1024 .bf16)
    (i : grid0.Coords) (n : Fin 5) (h : Fin 4) (a : Fin 128) (t : Fin 640) : EReal :=
  (∑ e : Fin 160, x4 (ix3 0 e (kc t)) * x3 (ix4 0 h e ⟨128 * n.val + a.val, by omega⟩))
    * (x0 (ix3 n (bI i) (hQ i h)) * (Named.named (F := Ideal) (φ := .f32) κ "scale_log2e" 0x3DE995B3#32))

/-- The largest score of a query, over the positions before its block and the ones of its block up to it. -/
def amax (p N : ℕ) (hN : N ≤ 640) (hp : p + 128 = N) (D : Fin 640 → EReal) (a : Fin 128) : EReal :=
  (Finset.univ : Finset (Fin N)).fold max ⊥ fun t =>
    if t.val < p then D ⟨t.val, by omega⟩ else if t.val - p ≤ a.val then D ⟨p + (t.val - p), by omega⟩ else ⊥

/-- One output entry: the weighted values over the positions before the block and the ones of the block, times the
    reciprocal of the sum of the weights. -/
def att (p N : ℕ) (hN : N ≤ 640) (hp : p + 128 = N) (D : Fin 640 → EReal) (a : Fin 128) (W V : Fin 640 → EReal) : EReal :=
  ((∑ t : Fin p, W ⟨t.val, by omega⟩ * Ideal.exp2 (D ⟨t.val, by omega⟩ - amax p N hN hp D a))
      + ∑ j : Fin 128, V ⟨p + j.val, by omega⟩ * Ideal.exp2 ((if j.val ≤ a.val then D ⟨p + j.val, by omega⟩ else ⊥) - amax p N hN hp D a))
    * Ideal.div 1 ((∑ t : Fin p, Ideal.exp2 (D ⟨t.val, by omega⟩ - amax p N hN hp D a))
      + ∑ j : Fin 128, Ideal.exp2 ((if j.val ≤ a.val then D ⟨p + j.val, by omega⟩ else ⊥) - amax p N hN hp D a))

/-- The same for the first block, which has no positions before it. -/
def att0 (D : Fin 640 → EReal) (a : Fin 128) (V : Fin 640 → EReal) : EReal :=
  let M := (Finset.univ : Finset (Fin 128)).fold max ⊥ fun j : Fin 128 => if j.val ≤ a.val then D ⟨j.val, by omega⟩ else ⊥
  (∑ j : Fin 128, V ⟨0 + j.val, by omega⟩ * Ideal.exp2 ((if j.val ≤ a.val then D ⟨j.val, by omega⟩ else ⊥) - M))
    * Ideal.div 1 (∑ j : Fin 128, Ideal.exp2 ((if j.val ≤ a.val then D ⟨j.val, by omega⟩ else ⊥) - M))

/-- One entry of the query scales, read through a one-element load. -/
theorem ld_qs {V : Type} (X : S5x2x12.Idx → V) (n : Fin 5) (b : Fin 2) (h : Fin 12) (off : Fin 3 → Nat)
    (inb : ∀ a, off a + S1x1x1.size a ≤ S5x2x12.size a) (e : off = ![n.val, b.val, h.val]) (j : S1x1x1.Idx) :
    View.ld (Val := fun _ => V) (e' := .f32) X (Rect.unit (s := S5x2x12) off S1x1x1.size inb) j = X (ix3 n b h) := by
  subst e
  refine View.ld_unit_apply_of _ _ _ _ _ _ fun a => ?_
  fin_cases a
  · simp
  · simp
  · simp

/-- One block of queries of a head, read from the transposed array. -/
theorem q_at (arg5 : Memref sig .tc .vmem S1x4x160x640 .fp8e4m3) (harg5 : arg5.IsWhole) (x3 : Vec Ideal S1x4x160x640 .fp8e4m3)
    (h m : ℕ) (inb) (d : Fin 160) (a : Fin 128) (hh : h < 4) (hm : m + a.val < 640) :
    View.readAt (Elt Ideal) arg5.view (Rect.unit (s := S1x4x160x640) ![0, h, 0, m] ![1, 1, 160, 128] inb).toLoadRect (harg5.unread x3) (ix4 0 0 d a)
      = x3 (ix4 0 ⟨h, hh⟩ d ⟨m + a.val, hm⟩) := by
  rw [View.readAt_eq_ld, harg5.read_unread]
  refine View.ld_unit_apply_of _ _ _ _ _ _ fun a => ?_
  fin_cases a <;> simp
/-- The bits of negative infinity. -/
theorem bits_neg_inf : Ideal.ofBits FTy.f32 4286578688#32 = ⊥ := by
  simp only [Ideal.ofBits]
  unfold Ideal.ieee
  have h1 : (4286578688#32 : BitVec 32).extractLsb' 23 8 = 255#8 := by decide +kernel
  simp

/-- Where the load of a query scale starts, at each grid point. -/
theorem off_r_5 : ∀ i : grid0.Coords, k0_off7 i 0#32 = ![0, (bI i).val, (hQ i 0).val] := by decide +kernel

open kernelRun0_A.sl in
/-- The query scale of a block and head. -/
theorem r_5_at (c : Dev nD) (i : grid0.Coords) (arg2 : Memref sig .tc .smem S5x2x12 .f32) (harg2 : arg2.IsWhole) (x0 : Vec Ideal S5x2x12 .f32)  :
    r_5 c i arg2 harg2 x0 = x0 (ix3 0 (bI i) (hQ i 0)) := by
  unfold r_5
  rw [View.readAt_eq_ld, harg2.read_unread]
  exact ld_qs x0 0 (bI i) (hQ i 0) _ _ (off_r_5 i) _

/-- Where the load of a query scale starts, at each grid point. -/
theorem off_r_6 : ∀ i : grid0.Coords, k0_off8 i 0#32 = ![0, (bI i).val, (hQ i 1).val] := by decide +kernel

open kernelRun0_A.sl in
/-- The query scale of a block and head. -/
theorem r_6_at (c : Dev nD) (i : grid0.Coords) (arg2 : Memref sig .tc .smem S5x2x12 .f32) (harg2 : arg2.IsWhole) (x0 : Vec Ideal S5x2x12 .f32)  :
    r_6 c i arg2 harg2 x0 = x0 (ix3 0 (bI i) (hQ i 1)) := by
  unfold r_6
  rw [View.readAt_eq_ld, harg2.read_unread]
  exact ld_qs x0 0 (bI i) (hQ i 1) _ _ (off_r_6 i) _

/-- Where the load of a query scale starts, at each grid point. -/
theorem off_r_9 : ∀ i : grid0.Coords, k0_off7 i 2#32 = ![0, (bI i).val, (hQ i 2).val] := by decide +kernel

open kernelRun0_A.sl in
/-- The query scale of a block and head. -/
theorem r_9_at (c : Dev nD) (i : grid0.Coords) (arg2 : Memref sig .tc .smem S5x2x12 .f32) (harg2 : arg2.IsWhole) (x0 : Vec Ideal S5x2x12 .f32)  :
    r_9 c i arg2 harg2 x0 = x0 (ix3 0 (bI i) (hQ i 2)) := by
  unfold r_9
  rw [View.readAt_eq_ld, harg2.read_unread]
  exact ld_qs x0 0 (bI i) (hQ i 2) _ _ (off_r_9 i) _

/-- Where the load of a query scale starts, at each grid point. -/
theorem off_r_10 : ∀ i : grid0.Coords, k0_off8 i 2#32 = ![0, (bI i).val, (hQ i 3).val] := by decide +kernel

open kernelRun0_A.sl in
/-- The query scale of a block and head. -/
theorem r_10_at (c : Dev nD) (i : grid0.Coords) (arg2 : Memref sig .tc .smem S5x2x12 .f32) (harg2 : arg2.IsWhole) (x0 : Vec Ideal S5x2x12 .f32)  :
    r_10 c i arg2 harg2 x0 = x0 (ix3 0 (bI i) (hQ i 3)) := by
  unfold r_10
  rw [View.readAt_eq_ld, harg2.read_unread]
  exact ld_qs x0 0 (bI i) (hQ i 3) _ _ (off_r_10 i) _

/-- Where the load of a query scale starts, at each grid point. -/
theorem off_r_16 : ∀ i : grid0.Coords, k0_off9 i 0#32 = ![1, (bI i).val, (hQ i 0).val] := by decide +kernel

open kernelRun0_A.sl in
/-- The query scale of a block and head. -/
theorem r_16_at (c : Dev nD) (i : grid0.Coords) (arg2 : Memref sig .tc .smem S5x2x12 .f32) (harg2 : arg2.IsWhole) (x0 : Vec Ideal S5x2x12 .f32)  :
    r_16 c i arg2 harg2 x0 = x0 (ix3 1 (bI i) (hQ i 0)) := by
  unfold r_16
  rw [View.readAt_eq_ld, harg2.read_unread]
  exact ld_qs x0 1 (bI i) (hQ i 0) _ _ (off_r_16 i) _

/-- Where the load of a query scale starts, at each grid point. -/
theorem off_r_17 : ∀ i : grid0.Coords, k0_off10 i 0#32 = ![1, (bI i).val, (hQ i 1).val] := by decide +kernel

open kernelRun0_A.sl in
/-- The query scale of a block and head. -/
theorem r_17_at (c : Dev nD) (i : grid0.Coords) (arg2 : Memref sig .tc .smem S5x2x12 .f32) (harg2 : arg2.IsWhole) (x0 : Vec Ideal S5x2x12 .f32)  :
    r_17 c i arg2 harg2 x0 = x0 (ix3 1 (bI i) (hQ i 1)) := by
  unfold r_17
  rw [View.readAt_eq_ld, harg2.read_unread]
  exact ld_qs x0 1 (bI i) (hQ i 1) _ _ (off_r_17 i) _

/-- Where the load of a query scale starts, at each grid point. -/
theorem off_r_21 : ∀ i : grid0.Coords, k0_off9 i 2#32 = ![1, (bI i).val, (hQ i 2).val] := by decide +kernel

open kernelRun0_A.sl in
/-- The query scale of a block and head. -/
theorem r_21_at (c : Dev nD) (i : grid0.Coords) (arg2 : Memref sig .tc .smem S5x2x12 .f32) (harg2 : arg2.IsWhole) (x0 : Vec Ideal S5x2x12 .f32)  :
    r_21 c i arg2 harg2 x0 = x0 (ix3 1 (bI i) (hQ i 2)) := by
  unfold r_21
  rw [View.readAt_eq_ld, harg2.read_unread]
  exact ld_qs x0 1 (bI i) (hQ i 2) _ _ (off_r_21 i) _

/-- Where the load of a query scale starts, at each grid point. -/
theorem off_r_22 : ∀ i : grid0.Coords, k0_off10 i 2#32 = ![1, (bI i).val, (hQ i 3).val] := by decide +kernel

open kernelRun0_A.sl in
/-- The query scale of a block and head. -/
theorem r_22_at (c : Dev nD) (i : grid0.Coords) (arg2 : Memref sig .tc .smem S5x2x12 .f32) (harg2 : arg2.IsWhole) (x0 : Vec Ideal S5x2x12 .f32)  :
    r_22 c i arg2 harg2 x0 = x0 (ix3 1 (bI i) (hQ i 3)) := by
  unfold r_22
  rw [View.readAt_eq_ld, harg2.read_unread]
  exact ld_qs x0 1 (bI i) (hQ i 3) _ _ (off_r_22 i) _

/-- Where the load of a query scale starts, at each grid point. -/
theorem off_r_27 : ∀ i : grid0.Coords, k0_off11 i 0#32 = ![2, (bI i).val, (hQ i 0).val] := by decide +kernel

open kernelRun0_A.sl in
/-- The query scale of a block and head. -/
theorem r_27_at (c : Dev nD) (i : grid0.Coords) (arg2 : Memref sig .tc .smem S5x2x12 .f32) (harg2 : arg2.IsWhole) (x0 : Vec Ideal S5x2x12 .f32)  :
    r_27 c i arg2 harg2 x0 = x0 (ix3 2 (bI i) (hQ i 0)) := by
  unfold r_27
  rw [View.readAt_eq_ld, harg2.read_unread]
  exact ld_qs x0 2 (bI i) (hQ i 0) _ _ (off_r_27 i) _

/-- Where the load of a query scale starts, at each grid point. -/
theorem off_r_28 : ∀ i : grid0.Coords, k0_off12 i 0#32 = ![2, (bI i).val, (hQ i 1).val] := by decide +kernel

open kernelRun0_A.sl in
/-- The query scale of a block and head. -/
theorem r_28_at (c : Dev nD) (i : grid0.Coords) (arg2 : Memref sig .tc .smem S5x2x12 .f32) (harg2 : arg2.IsWhole) (x0 : Vec Ideal S5x2x12 .f32)  :
    r_28 c i arg2 harg2 x0 = x0 (ix3 2 (bI i) (hQ i 1)) := by
  unfold r_28
  rw [View.readAt_eq_ld, harg2.read_unread]
  exact ld_qs x0 2 (bI i) (hQ i 1) _ _ (off_r_28 i) _

/-- Where the load of a query scale starts, at each grid point. -/
theorem off_r_32 : ∀ i : grid0.Coords, k0_off11 i 2#32 = ![2, (bI i).val, (hQ i 2).val] := by decide +kernel

open kernelRun0_A.sl in
/-- The query scale of a block and head. -/
theorem r_32_at (c : Dev nD) (i : grid0.Coords) (arg2 : Memref sig .tc .smem S5x2x12 .f32) (harg2 : arg2.IsWhole) (x0 : Vec Ideal S5x2x12 .f32)  :
    r_32 c i arg2 harg2 x0 = x0 (ix3 2 (bI i) (hQ i 2)) := by
  unfold r_32
  rw [View.readAt_eq_ld, harg2.read_unread]
  exact ld_qs x0 2 (bI i) (hQ i 2) _ _ (off_r_32 i) _

/-- Where the load of a query scale starts, at each grid point. -/
theorem off_r_33 : ∀ i : grid0.Coords, k0_off12 i 2#32 = ![2, (bI i).val, (hQ i 3).val] := by decide +kernel

open kernelRun0_A.sl in
/-- The query scale of a block and head. -/
theorem r_33_at (c : Dev nD) (i : grid0.Coords) (arg2 : Memref sig .tc .smem S5x2x12 .f32) (harg2 : arg2.IsWhole) (x0 : Vec Ideal S5x2x12 .f32)  :
    r_33 c i arg2 harg2 x0 = x0 (ix3 2 (bI i) (hQ i 3)) := by
  unfold r_33
  rw [View.readAt_eq_ld, harg2.read_unread]
  exact ld_qs x0 2 (bI i) (hQ i 3) _ _ (off_r_33 i) _

/-- Where the load of a query scale starts, at each grid point. -/
theorem off_r_35 : ∀ i : grid0.Coords, k0_off13 i 0#32 = ![3, (bI i).val, (hQ i 0).val] := by decide +kernel

open kernelRun0_A.sl in
/-- The query scale of a block and head. -/
theorem r_35_at (c : Dev nD) (i : grid0.Coords) (arg2 : Memref sig .tc .smem S5x2x12 .f32) (harg2 : arg2.IsWhole) (x0 : Vec Ideal S5x2x12 .f32)  :
    r_35 c i arg2 harg2 x0 = x0 (ix3 3 (bI i) (hQ i 0)) := by
  unfold r_35
  rw [View.readAt_eq_ld, harg2.read_unread]
  exact ld_qs x0 3 (bI i) (hQ i 0) _ _ (off_r_35 i) _

/-- Where the load of a query scale starts, at each grid point. -/
theorem off_r_36 : ∀ i : grid0.Coords, k0_off14 i 0#32 = ![3, (bI i).val, (hQ i 1).val] := by decide +kernel

open kernelRun0_A.sl in
/-- The query scale of a block and head. -/
theorem r_36_at (c : Dev nD) (i : grid0.Coords) (arg2 : Memref sig .tc .smem S5x2x12 .f32) (harg2 : arg2.IsWhole) (x0 : Vec Ideal S5x2x12 .f32)  :
    r_36 c i arg2 harg2 x0 = x0 (ix3 3 (bI i) (hQ i 1)) := by
  unfold r_36
  rw [View.readAt_eq_ld, harg2.read_unread]
  exact ld_qs x0 3 (bI i) (hQ i 1) _ _ (off_r_36 i) _

/-- Where the load of a query scale starts, at each grid point. -/
theorem off_r_40 : ∀ i : grid0.Coords, k0_off13 i 2#32 = ![3, (bI i).val, (hQ i 2).val] := by decide +kernel

open kernelRun0_A.sl in
/-- The query scale of a block and head. -/
theorem r_40_at (c : Dev nD) (i : grid0.Coords) (arg2 : Memref sig .tc .smem S5x2x12 .f32) (harg2 : arg2.IsWhole) (x0 : Vec Ideal S5x2x12 .f32)  :
    r_40 c i arg2 harg2 x0 = x0 (ix3 3 (bI i) (hQ i 2)) := by
  unfold r_40
  rw [View.readAt_eq_ld, harg2.read_unread]
  exact ld_qs x0 3 (bI i) (hQ i 2) _ _ (off_r_40 i) _

/-- Where the load of a query scale starts, at each grid point. -/
theorem off_r_41 : ∀ i : grid0.Coords, k0_off14 i 2#32 = ![3, (bI i).val, (hQ i 3).val] := by decide +kernel

open kernelRun0_A.sl in
/-- The query scale of a block and head. -/
theorem r_41_at (c : Dev nD) (i : grid0.Coords) (arg2 : Memref sig .tc .smem S5x2x12 .f32) (harg2 : arg2.IsWhole) (x0 : Vec Ideal S5x2x12 .f32)  :
    r_41 c i arg2 harg2 x0 = x0 (ix3 3 (bI i) (hQ i 3)) := by
  unfold r_41
  rw [View.readAt_eq_ld, harg2.read_unread]
  exact ld_qs x0 3 (bI i) (hQ i 3) _ _ (off_r_41 i) _

/-- Where the load of a query scale starts, at each grid point. -/
theorem off_r_44 : ∀ i : grid0.Coords, k0_off15 i 0#32 = ![4, (bI i).val, (hQ i 0).val] := by decide +kernel

open kernelRun0_A.sl in
/-- The query scale of a block and head. -/
theorem r_44_at (c : Dev nD) (i : grid0.Coords) (arg2 : Memref sig .tc .smem S5x2x12 .f32) (harg2 : arg2.IsWhole) (x0 : Vec Ideal S5x2x12 .f32)  :
    r_44 c i arg2 harg2 x0 = x0 (ix3 4 (bI i) (hQ i 0)) := by
  unfold r_44
  rw [View.readAt_eq_ld, harg2.read_unread]
  exact ld_qs x0 4 (bI i) (hQ i 0) _ _ (off_r_44 i) _

/-- Where the load of a query scale starts, at each grid point. -/
theorem off_r_45 : ∀ i : grid0.Coords, k0_off16 i 0#32 = ![4, (bI i).val, (hQ i 1).val] := by decide +kernel

open kernelRun0_A.sl in
/-- The query scale of a block and head. -/
theorem r_45_at (c : Dev nD) (i : grid0.Coords) (arg2 : Memref sig .tc .smem S5x2x12 .f32) (harg2 : arg2.IsWhole) (x0 : Vec Ideal S5x2x12 .f32)  :
    r_45 c i arg2 harg2 x0 = x0 (ix3 4 (bI i) (hQ i 1)) := by
  unfold r_45
  rw [View.readAt_eq_ld, harg2.read_unread]
  exact ld_qs x0 4 (bI i) (hQ i 1) _ _ (off_r_45 i) _

/-- Where the load of a query scale starts, at each grid point. -/
theorem off_r_49 : ∀ i : grid0.Coords, k0_off15 i 2#32 = ![4, (bI i).val, (hQ i 2).val] := by decide +kernel

open kernelRun0_A.sl in
/-- The query scale of a block and head. -/
theorem r_49_at (c : Dev nD) (i : grid0.Coords) (arg2 : Memref sig .tc .smem S5x2x12 .f32) (harg2 : arg2.IsWhole) (x0 : Vec Ideal S5x2x12 .f32)  :
    r_49 c i arg2 harg2 x0 = x0 (ix3 4 (bI i) (hQ i 2)) := by
  unfold r_49
  rw [View.readAt_eq_ld, harg2.read_unread]
  exact ld_qs x0 4 (bI i) (hQ i 2) _ _ (off_r_49 i) _

/-- Where the load of a query scale starts, at each grid point. -/
theorem off_r_50 : ∀ i : grid0.Coords, k0_off16 i 2#32 = ![4, (bI i).val, (hQ i 3).val] := by decide +kernel

open kernelRun0_A.sl in
/-- The query scale of a block and head. -/
theorem r_50_at (c : Dev nD) (i : grid0.Coords) (arg2 : Memref sig .tc .smem S5x2x12 .f32) (harg2 : arg2.IsWhole) (x0 : Vec Ideal S5x2x12 .f32)  :
    r_50 c i arg2 harg2 x0 = x0 (ix3 4 (bI i) (hQ i 3)) := by
  unfold r_50
  rw [View.readAt_eq_ld, harg2.read_unread]
  exact ld_qs x0 4 (bI i) (hQ i 3) _ _ (off_r_50 i) _

end Cert.KBody
-- ==== Proof.KCore.lean ====
/- The mathematics both programs share: attention weights and sums of extended reals. -/
module

public import Idealize.ShloMosaic.PureOps.Ideal
public import Idealize.ShloMosaic.Lib.Pointwise

@[expose] public section

set_option maxRecDepth 16384

namespace Cert.Core

open Idealize.ShloMosaic

/-- Multiplication by a nonnegative finite factor distributes over a finite sum of extended reals. -/
theorem sum_mul_nn {ι : Type*} (s : Finset ι) (f : ι → EReal) (c : EReal) (h0 : 0 ≤ c)
    (h1 : c ≠ ⊤) : (∑ i ∈ s, f i) * c = ∑ i ∈ s, f i * c := by
  classical
  induction s using Finset.induction_on with
  | empty => simp
  | insert a s ha ih =>
    rw [Finset.sum_insert ha, Finset.sum_insert ha,
      EReal.right_distrib_of_nonneg_of_ne_top h0 h1, ih]

/-- The exponential is nonnegative. -/
theorem exp_nonneg (x : EReal) : 0 ≤ Ideal.exp x := by
  induction x using EReal.rec with
  | bot => exact le_rfl
  | top => exact le_top
  | coe r => exact EReal.coe_nonneg.2 (Real.exp_pos r).le

/-- The exponential of a score minus a bound of it is at most one. -/
theorem exp_sub_le_one (x X : EReal) (h : x ≤ X) : Ideal.exp (x - X) ≤ 1 := by
  induction X using EReal.rec with
  | bot =>
    obtain rfl : x = ⊥ := le_bot_iff.1 h
    rw [EReal.bot_sub]; exact zero_le_one
  | top => rw [EReal.sub_top]; exact zero_le_one
  | coe R =>
    induction x using EReal.rec with
    | bot => rw [EReal.bot_sub]; exact zero_le_one
    | top => simp at h
    | coe r =>
      rw [← EReal.coe_sub]
      show ((Real.exp (r - R) : ℝ) : EReal) ≤ 1
      have h' : r ≤ R := EReal.coe_le_coe_iff.1 h
      rw [← EReal.coe_one, EReal.coe_le_coe_iff]
      exact Real.exp_le_one_iff.2 (by linarith)

/-- The base-two exponential of a score in base-two units is the exponential of the score. -/
theorem exp2_mul (y : EReal) : Ideal.exp2 (y * (((Real.log 2)⁻¹ : ℝ) : EReal)) = Ideal.exp y := by
  have hL : 0 < (Real.log 2)⁻¹ := inv_pos.2 (Real.log_pos (by norm_num))
  induction y using EReal.rec with
  | bot => rw [EReal.bot_mul_coe_of_pos hL]; rfl
  | top => rw [EReal.top_mul_coe_of_pos hL]; rfl
  | coe r =>
    rw [← EReal.coe_mul]
    show ((Real.rpow 2 (r * (Real.log 2)⁻¹) : ℝ) : EReal) = ((Real.exp r : ℝ) : EReal)
    congr 1
    show (2:ℝ) ^ (r * (Real.log 2)⁻¹) = _
    rw [Real.rpow_def_of_pos (by norm_num)]
    congr 1
    have : Real.log 2 ≠ 0 := (Real.log_pos (by norm_num)).ne'
    field_simp

/-- A positive real factor distributes over a difference. -/
theorem sub_mul_pos (x y : EReal) (L : ℝ) (hL : 0 < L) :
    x * (L : EReal) - y * (L : EReal) = (x - y) * (L : EReal) := by
  rw [sub_eq_add_neg, sub_eq_add_neg, ← EReal.neg_mul,
    EReal.right_distrib_of_nonneg_of_ne_top (EReal.coe_nonneg.2 hL.le) (EReal.coe_ne_top L)]

/-- A maximum of scaled scores is the scaled maximum. -/
theorem sup_mul_pos {ι : Type*} (s : Finset ι) (f : ι → EReal) (L : ℝ) (hL : 0 < L) :
    s.sup (fun i => f i * (L : EReal)) = s.sup f * (L : EReal) := by
  have hm : Monotone (fun x : EReal => x * (L : EReal)) := fun a b h =>
    mul_le_mul_of_nonneg_right h (EReal.coe_nonneg.2 hL.le)
  symm
  exact Finset.apply_sup_eq_sup_comp (g := fun x : EReal => x * (L : EReal)) (f := f)
    (fun x y => hm.map_max) (EReal.bot_mul_coe_of_pos hL)

section
variable {P B C : Type*} [Fintype P] [Fintype B] [Fintype C] [DecidableEq P] [DecidableEq C]

/-- The softmax weight of a score `x` against the bound `X`. -/
noncomputable def wt (X x : EReal) : EReal := Ideal.exp (x - X)

/-- A weight is not negative. -/
theorem wt_nonneg (X x : EReal) : 0 ≤ wt X x := exp_nonneg _
/-- A masked score weighs nothing. -/
theorem wt_bot (X : EReal) : wt X ⊥ = 0 := by rw [wt, EReal.bot_sub]; rfl
/-- A weight is finite when the score is at most the bound. -/
theorem wt_ne_top (X x : EReal) (h : x ≤ X) : wt X x ≠ ⊤ :=
  ne_top_of_le_ne_top (EReal.coe_ne_top 1) (exp_sub_le_one x X h)

/-- The weight times the reciprocal of a finite denominator it is a part of is nonnegative and
finite: where the denominator is zero the weight is. -/
theorem wt_inv (w d : EReal) (hw : 0 ≤ w) (hle : w ≤ d) (hd : d ≠ ⊤) :
    0 ≤ w * Ideal.div 1 d ∧ w * Ideal.div 1 d ≠ ⊤ := by
  rcases eq_or_ne d 0 with rfl | h0
  · obtain rfl : w = 0 := le_antisymm hle hw
    simp
  · have hd0 : 0 ≤ d := hw.trans hle
    have hdp : 0 < d := lt_of_le_of_ne hd0 (Ne.symm h0)
    unfold Ideal.div
    rw [if_neg h0, one_mul]
    induction d using EReal.rec with
    | bot => simp at hd0
    | top => exact absurd rfl hd
    | coe r =>
      have hr : 0 < r := EReal.coe_pos.1 hdp
      have hwt : w ≠ ⊤ := ne_top_of_le_ne_top hd hle
      induction w using EReal.rec with
      | bot => simp at hw
      | top => exact absurd rfl hwt
      | coe v =>
        rw [← EReal.coe_inv, ← EReal.coe_mul]
        exact ⟨EReal.coe_nonneg.2 (mul_nonneg (EReal.coe_nonneg.1 hw) (inv_pos.2 hr).le),
          EReal.coe_ne_top _⟩

/-- A weighted sum times the reciprocal of the denominator is the sum with normalized weights. -/
theorem sum_mul_inv {ι : Type*} (s : Finset ι) (v w : ι → EReal) (d : EReal)
    (hw : ∀ i ∈ s, 0 ≤ w i) (hle : ∀ i ∈ s, w i ≤ d) (hd : d ≠ ⊤) :
    (∑ i ∈ s, v i * w i) * Ideal.div 1 d = ∑ i ∈ s, v i * (w i * Ideal.div 1 d) := by
  rcases eq_or_ne d 0 with rfl | h0
  · have hz : ∀ i ∈ s, w i = 0 := fun i hi => le_antisymm (hle i hi) (hw i hi)
    rw [Finset.sum_eq_zero (fun i hi => by rw [hz i hi, mul_zero]),
      Finset.sum_eq_zero (fun i hi => by rw [hz i hi, zero_mul, mul_zero]), zero_mul]
  · rcases s.eq_empty_or_nonempty with rfl | ⟨i, hi⟩
    · simp
    have hd0 : 0 ≤ d := (hw i hi).trans (hle i hi)
    have h1 := wt_inv d d hd0 le_rfl hd
    have hi0 : 0 ≤ Ideal.div 1 d ∧ Ideal.div 1 d ≠ ⊤ := by
      unfold Ideal.div
      rw [if_neg h0, one_mul]
      induction d using EReal.rec with
      | bot => simp at hd0
      | top => exact absurd rfl hd
      | coe r =>
        rw [← EReal.coe_inv]
        exact ⟨EReal.coe_nonneg.2 (inv_nonneg.2 (EReal.coe_nonneg.1 hd0)), EReal.coe_ne_top _⟩
    rw [sum_mul_nn _ _ _ hi0.1 hi0.2]
    exact Finset.sum_congr rfl fun i _ => mul_assoc _ _ _

/-- A finite sum of terms below infinity is below infinity. -/
theorem sum_ne_top {ι : Type*} (s : Finset ι) (f : ι → EReal) (h : ∀ i ∈ s, f i ≠ ⊤) :
    ∑ i ∈ s, f i ≠ ⊤ := by
  classical
  induction s using Finset.induction_on with
  | empty => simp
  | insert a s ha ih =>
    rw [Finset.sum_insert ha]
    exact EReal.add_ne_top (h a (Finset.mem_insert_self a s))
      (ih fun i hi => h i (Finset.mem_insert_of_mem hi))

/-- The largest score over the codes that occur is the largest over the past positions. -/
theorem sup_codes (k : P → C) (xs : C → EReal) (occ : C → Prop) [DecidablePred occ]
    (hocc : ∀ c, occ c ↔ ∃ s, k s = c) :
    (Finset.univ.sup fun c => if occ c then xs c else ⊥) = Finset.univ.sup fun s => xs (k s) := by
  apply le_antisymm
  · refine Finset.sup_le fun c _ => ?_
    split_ifs with h
    · obtain ⟨s, rfl⟩ := (hocc c).1 h
      exact Finset.le_sup (f := fun s => xs (k s)) (Finset.mem_univ s)
    · exact bot_le
  · refine Finset.sup_le fun s _ => ?_
    have := Finset.le_sup (f := fun c => if occ c then xs c else ⊥) (Finset.mem_univ (k s))
    rwa [if_pos ((hocc _).2 ⟨s, rfl⟩)] at this

/-- A sum over codes of a nonnegative finite weight times the code's total is the sum over the
positions. -/
theorem sum_codes (k : P → C) (v : P → EReal) (f : C → EReal) (h0 : ∀ s, 0 ≤ f (k s))
    (h1 : ∀ s, f (k s) ≠ ⊤) (hz : ∀ c, (∀ s, k s ≠ c) → f c = 0) :
    ∑ c, (∑ s, if k s = c then v s else 0) * f c = ∑ s, v s * f (k s) := by
  have : ∀ c, (∑ s, if k s = c then v s else 0) * f c
      = ∑ s, if k s = c then v s * f (k s) else 0 := by
    intro c
    by_cases hc : ∃ s, k s = c
    · obtain ⟨s, rfl⟩ := hc
      rw [sum_mul_nn _ _ _ (h0 s) (h1 s)]
      refine Finset.sum_congr rfl fun t _ => ?_
      split_ifs with h
      · rw [h]
      · exact zero_mul _
    · push Not at hc
      rw [hz c hc, mul_zero]
      symm
      exact Finset.sum_eq_zero fun s _ => if_neg (hc s)
  rw [Finset.sum_congr rfl fun c _ => this c, Finset.sum_comm]
  exact Finset.sum_congr rfl fun s _ => by simp

/-- The same over the first occurrences of the codes. -/
theorem sum_firsts (δ : P → P → Prop) [∀ t s, Decidable (δ t s)] (v f : P → EReal)
    (h0 : ∀ s, 0 ≤ f s) (h1 : ∀ s, f s ≠ ⊤) (φ : P → P)
    (hδ : ∀ s t, δ t s ↔ t = φ s) (hf : ∀ s, f (φ s) = f s) :
    ∑ t, (∑ s, if δ t s then v s else 0) * f t = ∑ s, v s * f s := by
  rw [Finset.sum_congr rfl fun t _ => sum_mul_nn _ _ _ (h0 t) (h1 t), Finset.sum_comm]
  refine Finset.sum_congr rfl fun s _ => ?_
  rw [Finset.sum_eq_single (φ s)]
  · rw [if_pos ((hδ s _).2 rfl), hf]
  · intro t _ ht
    rw [if_neg (fun h => ht ((hδ s t).1 h)), zero_mul]
  · exact fun h => absurd (Finset.mem_univ _) h

/-- **Attention over folded keys.** The kernel sums, over the past positions, the totals of the
first occurrence of each code, and over the current block the scaled values, and multiplies by the
reciprocal of the softmax denominator at the end.  The reference multiplies normalized weights,
scales the block's part afterwards and sums over the codes. -/
theorem attend (k : P → C) (δ : P → P → Prop) [∀ t s, Decidable (δ t s)] (φ : P → P)
    (hδ : ∀ s t, δ t s ↔ t = φ s) (hφ : ∀ s, k (φ s) = k s)
    (xs : C → EReal) (xb : B → EReal) (vP : P → EReal) (vB : B → EReal) (vs : EReal)
    (hvs0 : 0 ≤ vs) (hvs1 : vs ≠ ⊤) (X : EReal) (hXP : ∀ s, xs (k s) ≤ X) (hXB : ∀ j, xb j ≤ X)
    (gc : C → EReal) (hgc : ∀ s, gc (k s) = wt X (xs (k s)))
    (hgz : ∀ c, (∀ s, k s ≠ c) → gc c = 0)
    (d : EReal) (hd : d = (∑ s, wt X (xs (k s))) + ∑ j, wt X (xb j)) :
    ((∑ t, (∑ s, if δ t s then vP s else 0) * wt X (xs (k t)))
        + ∑ j, (vB j * vs) * wt X (xb j)) * Ideal.div 1 d
      = (∑ j, vB j * (wt X (xb j) * Ideal.div 1 d)) * vs
        + ∑ c, (∑ s, if k s = c then vP s else 0) * (gc c * Ideal.div 1 d) := by
  have hPnn : 0 ≤ ∑ s, wt X (xs (k s)) := Finset.sum_nonneg fun s _ => wt_nonneg _ _
  have hBnn : 0 ≤ ∑ j, wt X (xb j) := Finset.sum_nonneg fun s _ => wt_nonneg _ _
  have hdt : d ≠ ⊤ := by
    rw [hd]
    exact EReal.add_ne_top (sum_ne_top _ _ fun s _ => wt_ne_top _ _ (hXP s))
      (sum_ne_top _ _ fun s _ => wt_ne_top _ _ (hXB s))
  have hleP : ∀ s, wt X (xs (k s)) ≤ d := fun s => by
    rw [hd]
    exact (Finset.single_le_sum (f := fun s => wt X (xs (k s))) (fun s _ => wt_nonneg _ _)
      (Finset.mem_univ s)).trans (le_add_of_nonneg_right hBnn)
  have hleB : ∀ j, wt X (xb j) ≤ d := fun j => by
    rw [hd]
    exact (Finset.single_le_sum (f := fun j => wt X (xb j)) (fun s _ => wt_nonneg _ _)
      (Finset.mem_univ j)).trans (le_add_of_nonneg_left hPnn)
  have hP := fun s => wt_inv _ d (wt_nonneg X (xs (k s))) (hleP s) hdt
  have hB := fun j => wt_inv _ d (wt_nonneg X (xb j)) (hleB j) hdt
  -- the kernel's side, all positions at once
  have hk := sum_mul_inv (Finset.univ : Finset (P ⊕ B))
    (Sum.elim (fun t => ∑ s, if δ t s then vP s else 0) (fun j => vB j * vs))
    (Sum.elim (fun t => wt X (xs (k t))) (fun j => wt X (xb j))) d
    (by rintro (t | j) _ <;> exact wt_nonneg _ _)
    (by rintro (t | j) _ <;> first | exact hleP _ | exact hleB _) hdt
  simp only [Fintype.sum_sum_type, Sum.elim_inl, Sum.elim_inr] at hk
  rw [hk, sum_firsts δ vP (fun t => wt X (xs (k t)) * Ideal.div 1 d) (fun s => (hP s).1)
    (fun s => (hP s).2) φ hδ (fun s => by simp only [hφ])]
  rw [sum_codes k vP (fun c => gc c * Ideal.div 1 d) (fun s => by simp only [hgc]; exact (hP s).1)
    (fun s => by simp only [hgc]; exact (hP s).2) (fun c hc => by simp only [hgz c hc, zero_mul])]
  rw [sum_mul_nn _ _ _ hvs0 hvs1, add_comm]
  congr 1
  · refine Finset.sum_congr rfl fun j _ => ?_
    rw [mul_right_comm]
  · refine Finset.sum_congr rfl fun s _ => ?_
    rw [hgc]

end

end Cert.Core
-- ==== Proof.KG.lean ====
/- What the kernel body leaves in its two output blocks. -/
module

public import proofs.«01_k».proof.Proof.KD
public import proofs.«01_k».proof.Proof.KCore

@[expose] public section

set_option maxRecDepth 16384

noncomputable section

namespace Cert.KBody

open Idealize.ShloMosaic Cert.Core

/-- The first position with a code. -/
theorem first_pos {p : ℕ} (hp : p ≤ 640) (kc : Fin 640 → Fin 1024) :
    ∃ φ : Fin p → Fin p, (∀ s t : Fin p, ((kc ⟨s.val, by omega⟩ = kc ⟨t.val, by omega⟩ ∧ ¬ early kc ⟨t.val, by omega⟩) ↔ t = φ s))
      ∧ ∀ s : Fin p, kc ⟨(φ s).val, by omega⟩ = kc ⟨s.val, by omega⟩ := by
  classical
  let k : Fin p → Fin 1024 := fun s => kc ⟨s.val, by omega⟩
  have hne : ∀ s : Fin p, (Finset.univ.filter fun t => k t = k s).Nonempty := fun s => ⟨s, by simp⟩
  refine ⟨fun s => (Finset.univ.filter fun t => k t = k s).min' (hne s), fun s t => ⟨fun h => ?_, fun h => ?_⟩, fun s => ?_⟩
  · obtain ⟨h1, h2⟩ := h
    apply le_antisymm
    · apply Finset.le_min'
      intro y hy
      have hy' : k y = k s := (Finset.mem_filter.1 hy).2
      by_contra hlt
      have hlt' : y.val < t.val := by simpa using hlt
      exact h2 ⟨⟨y.val, by omega⟩, hlt', hy'.trans h1⟩
    · exact Finset.min'_le (Finset.univ.filter fun t => k t = k s) t (Finset.mem_filter.2 ⟨Finset.mem_univ _, h1.symm⟩)
  · subst h
    have hm := Finset.min'_mem _ (hne s)
    have hm' : k ((Finset.univ.filter fun t => k t = k s).min' (hne s)) = k s := (Finset.mem_filter.1 hm).2
    refine ⟨hm'.symm, ?_⟩
    rintro ⟨y, hy, hyk⟩
    have hyv : y.val < ((Finset.univ.filter fun t => k t = k s).min' (hne s)).val := hy
    have hyp : y.val < p := hyv.trans (Fin.isLt _)
    have := Finset.min'_le (Finset.univ.filter fun t => k t = k s) ⟨y.val, hyp⟩ (Finset.mem_filter.2 ⟨Finset.mem_univ _, hyk.trans hm'⟩)
    have h3 : ((Finset.univ.filter fun t => k t = k s).min' (hne s)).val ≤ y.val := this
    omega
  · exact (Finset.mem_filter.1 (Finset.min'_mem _ (hne s))).2

/-- A code has been seen exactly when its count is positive. -/
theorem seen_iff {P C : Type*} [Fintype P] [DecidableEq C] (k : P → C) (e : C) :
    (0 : EReal) < (∑ s, if k s = e then (1 : EReal) else 0) ↔ ∃ s, k s = e := by
  constructor
  · intro h
    by_contra hn
    have hn : ∀ s, k s ≠ e := fun s hs => hn ⟨s, hs⟩
    rw [Finset.sum_eq_zero (fun s _ => if_neg (hn s))] at h
    exact lt_irrefl _ h
  · rintro ⟨s, hs⟩
    have h0 : ∀ i ∈ (Finset.univ : Finset P), (0 : EReal) ≤ if k i = e then (1 : EReal) else 0 := fun i _ => by
      split_ifs
      · exact zero_le_one
      · exact le_rfl
    have := Finset.single_le_sum h0 (Finset.mem_univ s)
    rw [if_pos hs] at this
    exact lt_of_lt_of_le zero_lt_one this

/-- The largest score, over the positions before the block and the block's own, is the scaled maximum. -/
theorem amax_eq (p N : ℕ) (hN : N ≤ 640) (hp : p + 128 = N) (kc : Fin 640 → Fin 1024) (xs : Fin 1024 → EReal) (L : ℝ) (hL : 0 < L)
    (D : Fin 640 → EReal) (hD : ∀ t, D t = xs (kc t) * (L : EReal)) (a : Fin 128) :
    amax p N hN hp D a = max (Finset.univ.sup fun j : Fin 128 => if j.val ≤ a.val then xs (kc ⟨p + j.val, by omega⟩) else ⊥)
      (Finset.univ.sup fun s : Fin p => xs (kc ⟨s.val, by omega⟩)) * (L : EReal) := by
  have hm : Monotone (fun x : EReal => x * (L : EReal)) := fun a b h =>
    mul_le_mul_of_nonneg_right h (EReal.coe_nonneg.2 hL.le)
  have hbot : (⊥ : EReal) * (L : EReal) = ⊥ := EReal.bot_mul_coe_of_pos hL
  refine Eq.trans ?_ (hm.map_max).symm
  show amax p N hN hp D a = max ((Finset.univ.sup fun j : Fin 128 => if j.val ≤ a.val then xs (kc ⟨p + j.val, by omega⟩) else ⊥) * (L : EReal)) ((Finset.univ.sup fun s : Fin p => xs (kc ⟨s.val, by omega⟩)) * (L : EReal))
  rw [← sup_mul_pos _ _ L hL, ← sup_mul_pos _ _ L hL]
  show (Finset.univ.sup fun t : Fin N => if t.val < p then D ⟨t.val, by omega⟩ else if t.val - p ≤ a.val then D ⟨p + (t.val - p), by omega⟩ else ⊥) = _
  apply le_antisymm
  · refine Finset.sup_le fun t _ => ?_
    by_cases h : t.val < p
    · rw [if_pos h, hD]
      exact le_max_of_le_right (Finset.le_sup (f := fun s : Fin p => xs (kc ⟨s.val, by omega⟩) * (L : EReal)) (Finset.mem_univ (⟨t.val, h⟩ : Fin p)))
    · rw [if_neg h]
      by_cases h2 : t.val - p ≤ a.val
      · rw [if_pos h2, hD]
        have := Finset.le_sup (f := fun j : Fin 128 => (if j.val ≤ a.val then xs (kc ⟨p + j.val, by omega⟩) else ⊥) * (L : EReal)) (Finset.mem_univ (⟨t.val - p, by omega⟩ : Fin 128))
        simp only [if_pos h2] at this
        exact le_max_of_le_left this
      · rw [if_neg h2]; exact bot_le
  · refine max_le (Finset.sup_le fun j _ => ?_) (Finset.sup_le fun s _ => ?_)
    · by_cases h2 : j.val ≤ a.val
      · rw [if_pos h2, ← hD]
        have := Finset.le_sup (f := fun t : Fin N => if t.val < p then D ⟨t.val, by omega⟩ else if t.val - p ≤ a.val then D ⟨p + (t.val - p), by omega⟩ else ⊥) (Finset.mem_univ (⟨p + j.val, by omega⟩ : Fin N))
        simp only [if_neg (show ¬ p + j.val < p by omega), Nat.add_sub_cancel_left, if_pos h2] at this
        exact this
      · rw [if_neg h2, hbot]; exact bot_le
    · rw [← hD]
      have := Finset.le_sup (f := fun t : Fin N => if t.val < p then D ⟨t.val, by omega⟩ else if t.val - p ≤ a.val then D ⟨p + (t.val - p), by omega⟩ else ⊥) (Finset.mem_univ (⟨s.val, by omega⟩ : Fin N))
      simp only [if_pos s.isLt] at this
      exact this

/-- The kernel's output entry is the attention with the keys of the positions before the block folded by code. -/
theorem att_eq (p N : ℕ) (hN : N ≤ 640) (hp : p + 128 = N) (kc : Fin 640 → Fin 1024) (xs : Fin 1024 → EReal)
    (D : Fin 640 → EReal) (hD : ∀ t, D t = xs (kc t) * (((Real.log 2)⁻¹ : ℝ) : EReal)) (a : Fin 128) (W V : Fin 640 → EReal)
    (vB : Fin 128 → EReal) (vs : EReal) (hvs0 : 0 ≤ vs) (hvs1 : vs ≠ ⊤) (hV : ∀ j : Fin 128, V ⟨p + j.val, by omega⟩ = vB j * vs)
    (hW : ∀ t : Fin p, W ⟨t.val, by omega⟩ = ∑ s : Fin p, if kc ⟨s.val, by omega⟩ = kc ⟨t.val, by omega⟩ ∧ ¬ early kc ⟨t.val, by omega⟩ then V ⟨s.val, by omega⟩ else 0)
    (cnt U : Fin 1024 → EReal) (hcnt : ∀ e, cnt e = ∑ s : Fin p, if kc ⟨s.val, by omega⟩ = e then (1 : EReal) else 0)
    (hU : ∀ e, U e = ∑ s : Fin p, if kc ⟨s.val, by omega⟩ = e then V ⟨s.val, by omega⟩ else 0)
    (M : EReal) (hM : M = max ((Finset.univ : Finset (Fin 128)).fold max ⊥ fun j => if j.val ≤ a.val then xs (kc ⟨p + j.val, by omega⟩) else ⊥)
      ((Finset.univ : Finset (Fin 1024)).fold max ⊥ fun e => if 0 < cnt e then xs e else ⊥))
    (ee : Fin 128 → EReal) (hee : ∀ j : Fin 128, ee j = if j.val ≤ a.val then Ideal.exp (xs (kc ⟨p + j.val, by omega⟩) - M) else 0)
    (gg : Fin 1024 → EReal) (hgg : ∀ e, gg e = if 0 < cnt e then Ideal.exp (xs e - M) else 0)
    (r : EReal) (hr : r = Ideal.div 1 ((∑ j, ee j) + ∑ e, gg e * cnt e)) :
    att p N hN hp D a W V = (∑ j, vB j * (ee j * r)) * vs + ∑ e, U e * (gg e * r) := by
  classical
  obtain ⟨φ, hδ, hφ⟩ := first_pos (p := p) (by omega) kc
  have hL : 0 < (Real.log 2)⁻¹ := inv_pos.2 (Real.log_pos (by norm_num))
  have hocc : ∀ e, 0 < cnt e ↔ ∃ s : Fin p, kc ⟨s.val, by omega⟩ = e := fun e => by
    rw [hcnt]; exact seen_iff (fun s : Fin p => kc ⟨s.val, by omega⟩) e
  have hsup := sup_codes (fun s : Fin p => kc ⟨s.val, by omega⟩) xs (fun e => 0 < cnt e) hocc
  have hM' : M = max (Finset.univ.sup fun j : Fin 128 => if j.val ≤ a.val then xs (kc ⟨p + j.val, by omega⟩) else ⊥)
      (Finset.univ.sup fun s : Fin p => xs (kc ⟨s.val, by omega⟩)) := by
    rw [← hsup]; exact hM
  have hA : amax p N hN hp D a = M * (((Real.log 2)⁻¹ : ℝ) : EReal) := by
    rw [hM']; exact amax_eq p N hN hp kc xs _ hL D hD a
  have hbot : (⊥ : EReal) * (((Real.log 2)⁻¹ : ℝ) : EReal) = ⊥ := EReal.bot_mul_coe_of_pos hL
  have hwP : ∀ t : Fin 640, Ideal.exp2 (D t - amax p N hN hp D a) = wt M (xs (kc t)) := fun t => by
    rw [hA, hD, sub_mul_pos _ _ _ hL, exp2_mul]; rfl
  have hwB : ∀ j : Fin 128, Ideal.exp2 ((if j.val ≤ a.val then D ⟨p + j.val, by omega⟩ else ⊥) - amax p N hN hp D a)
      = wt M (if j.val ≤ a.val then xs (kc ⟨p + j.val, by omega⟩) else ⊥) := fun j => by
    by_cases h : j.val ≤ a.val
    · rw [if_pos h, if_pos h]; exact hwP _
    · rw [if_neg h, if_neg h, hA]
      conv_lhs => rw [← hbot]
      rw [sub_mul_pos _ _ _ hL, exp2_mul]; rfl
  have heB : ∀ j : Fin 128, ee j = wt M (if j.val ≤ a.val then xs (kc ⟨p + j.val, by omega⟩) else ⊥) := fun j => by
    rw [hee]
    by_cases h : j.val ≤ a.val
    · rw [if_pos h, if_pos h]; rfl
    · rw [if_neg h, if_neg h, wt_bot]
  have hgP : ∀ s : Fin p, gg (kc ⟨s.val, by omega⟩) = wt M (xs (kc ⟨s.val, by omega⟩)) := fun s => by
    rw [hgg, if_pos ((hocc _).2 ⟨s, rfl⟩)]; rfl
  have hgz : ∀ e, (∀ s : Fin p, kc ⟨s.val, by omega⟩ ≠ e) → gg e = 0 := fun e he => by
    rw [hgg, if_neg]
    rw [hocc]
    rintro ⟨s, hs⟩
    exact he s hs
  have hXP : ∀ s : Fin p, xs (kc ⟨s.val, by omega⟩) ≤ M := fun s => by
    rw [hM']
    exact le_max_of_le_right (Finset.le_sup (f := fun s : Fin p => xs (kc ⟨s.val, by omega⟩)) (Finset.mem_univ s))
  have hXB : ∀ j : Fin 128, (if j.val ≤ a.val then xs (kc ⟨p + j.val, by omega⟩) else ⊥) ≤ M := fun j => by
    rw [hM']
    exact le_max_of_le_left (Finset.le_sup (f := fun j : Fin 128 => if j.val ≤ a.val then xs (kc ⟨p + j.val, by omega⟩) else ⊥) (Finset.mem_univ j))
  have hden : (∑ j, ee j) + ∑ e, gg e * cnt e = (∑ s : Fin p, wt M (xs (kc ⟨s.val, by omega⟩))) + ∑ j : Fin 128, wt M (if j.val ≤ a.val then xs (kc ⟨p + j.val, by omega⟩) else ⊥) := by
    rw [add_comm]
    refine congr (congrArg HAdd.hAdd ?_) (Finset.sum_congr rfl fun j _ => heB j)
    have := sum_codes (fun s : Fin p => kc ⟨s.val, by omega⟩) (fun _ => (1 : EReal)) gg
      (fun s => by show 0 ≤ gg (kc ⟨s.val, by omega⟩); rw [hgP]; exact wt_nonneg _ _) (fun s => by show gg (kc ⟨s.val, by omega⟩) ≠ ⊤; rw [hgP]; exact wt_ne_top _ _ (hXP s)) hgz
    rw [Finset.sum_congr rfl fun e _ => by rw [hcnt, mul_comm], this]
    exact Finset.sum_congr rfl fun s _ => by rw [one_mul, hgP]
  have key := attend (fun s : Fin p => kc ⟨s.val, by omega⟩)
    (fun t s : Fin p => kc ⟨s.val, by omega⟩ = kc ⟨t.val, by omega⟩ ∧ ¬ early kc ⟨t.val, by omega⟩) φ hδ hφ xs
    (fun j : Fin 128 => if j.val ≤ a.val then xs (kc ⟨p + j.val, by omega⟩) else ⊥) (fun s : Fin p => V ⟨s.val, by omega⟩) vB vs hvs0 hvs1 M hXP hXB gg hgP hgz _ hden
  rw [← hr] at key
  have h1 : att p N hN hp D a W V = ((∑ t : Fin p, (∑ s : Fin p, if kc ⟨s.val, by omega⟩ = kc ⟨t.val, by omega⟩ ∧ ¬ early kc ⟨t.val, by omega⟩ then V ⟨s.val, by omega⟩ else 0) * wt M (xs (kc ⟨t.val, by omega⟩)))
      + ∑ j : Fin 128, (vB j * vs) * wt M (if j.val ≤ a.val then xs (kc ⟨p + j.val, by omega⟩) else ⊥)) * r := by
    unfold att
    rw [hr, hden]
    simp only [hwP, hwB, hV, hW]
  rw [h1]
  refine key.trans ?_
  refine congr (congrArg HAdd.hAdd (congrArg (fun z : EReal => z * vs) (Finset.sum_congr rfl fun j _ => ?_))) (Finset.sum_congr rfl fun e _ => ?_)
  · rw [heB]
  · rw [hU]

/-- The first block is the general form with no positions before it. -/
theorem att0_eq (D : Fin 640 → EReal) (a : Fin 128) (W V : Fin 640 → EReal) :
    att0 D a V = att 0 128 (by norm_num) (by norm_num) D a W V := by
  simp [att, att0, amax]

end Cert.KBody
-- ==== Proof.KE0.lean ====
/- The kernel's attention output for the first block of tokens. -/
module

public import proofs.«01_k».proof.Proof.KD

@[expose] public section

set_option maxRecDepth 16384

noncomputable section

namespace Cert.KBody

open Idealize.ShloMosaic Idealize.ShloMosaic.TcCoe Idealize.ShloMosaic.Tactic
open Cert.KernelIdeal Cert.KernelIdeal.Gen

open kernelRun0_A.sl in
/-- The output of block 0 of queries in head 0 of the group. -/
theorem out0_0 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v631 c i arg2 harg2 arg3 harg3 arg4 harg4 arg5 harg5 arg6 harg6 arg7 harg7 arg10 arg11 arg12 x0 x1 x2 x3 x4 x5 (ix3 0 a ⟨0 + d.val, by omega⟩) = att0 (dm kc x0 x3 x4 i 0 0 a) a (valf x1 x5 i d) := by
  generalize hR : att0 (dm kc x0 x3 x4 i 0 0 a) a (valf x1 x5 i d) = R
  generalize hE : (⟨0 + d.val, by omega⟩ : Fin 640) = E
  have hE' : E.val = 0 + d.val := by rw [← hE]
  unfold v631 v628 v627 v626 v625
  pointwise
  simp only [hE']
  rw [dif_pos (by omega : 0 + d.val < 160)]
  have hd : ∀ h, (⟨0 + d.val, h⟩ : Fin 160) = d := fun h => Fin.ext (by simp only; omega)
  simp only [hd]
  try unfold v624
  try unfold v623
  try unfold v622
  try unfold v621
  try unfold v617
  try unfold v616
  try unfold v620
  try unfold cst_276
  try unfold v619
  try unfold cst_275
  try unfold v618
  try unfold v615
  try unfold v614
  try unfold v613
  try unfold v612
  try unfold r_14
  try unfold r_13
  try unfold v537
  try unfold r_12
  try unfold r_11
  try unfold r_8
  try unfold r_7
  try unfold v536
  try unfold v44
  try unfold v423
  try unfold k0_pay88
  try unfold k0_pay87
  try unfold k0_pay86
  try unfold k0_pay85
  try unfold k0_pay84
  try unfold k0_pay83
  try unfold k0_pay82
  pointwise
  have hq : ∀ m : ℕ, m < 640 → m < 2 ^ 31 := fun m hm => by omega
  have hx : ∀ x : Fin 128, x.val < 2 ^ 31 := fun x => by omega
  have hx' : ∀ x : Fin 128, x.val - 0 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 0 0 _ _ (by norm_num) (by omega), bits_neg_inf, dite_eq_ite, r_10_at, r_5_at, r_6_at, r_9_at, v538_at, v561_at c i arg4 harg4 arg6 harg6 arg10 arg11 x2 x4 kc hk]
  rw [← hR]
  rfl

open kernelRun0_A.sl in
/-- The output of block 0 of queries in head 1 of the group. -/
theorem out0_1 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v631 c i arg2 harg2 arg3 harg3 arg4 harg4 arg5 harg5 arg6 harg6 arg7 harg7 arg10 arg11 arg12 x0 x1 x2 x3 x4 x5 (ix3 0 a ⟨160 + d.val, by omega⟩) = att0 (dm kc x0 x3 x4 i 0 1 a) a (valf x1 x5 i d) := by
  generalize hR : att0 (dm kc x0 x3 x4 i 0 1 a) a (valf x1 x5 i d) = R
  generalize hE : (⟨160 + d.val, by omega⟩ : Fin 640) = E
  have hE' : E.val = 160 + d.val := by rw [← hE]
  unfold v631 v628 v627 v626 v625
  pointwise
  simp only [hE']
  rw [dif_neg (by omega : ¬ 160 + d.val < 160), dif_pos (by omega : 160 + d.val - 160 < 160)]
  have hd : ∀ h, (⟨160 + d.val - 160, h⟩ : Fin 160) = d := fun h => Fin.ext (by simp only; omega)
  simp only [hd]
  try unfold v624
  try unfold v623
  try unfold v622
  try unfold v621
  try unfold v617
  try unfold v616
  try unfold v620
  try unfold cst_276
  try unfold v619
  try unfold cst_275
  try unfold v618
  try unfold v615
  try unfold v614
  try unfold v613
  try unfold v612
  try unfold r_14
  try unfold r_13
  try unfold v537
  try unfold r_12
  try unfold r_11
  try unfold r_8
  try unfold r_7
  try unfold v536
  try unfold v44
  try unfold v423
  try unfold k0_pay88
  try unfold k0_pay87
  try unfold k0_pay86
  try unfold k0_pay85
  try unfold k0_pay84
  try unfold k0_pay83
  try unfold k0_pay82
  pointwise
  have hq : ∀ m : ℕ, m < 640 → m < 2 ^ 31 := fun m hm => by omega
  have hx : ∀ x : Fin 128, x.val < 2 ^ 31 := fun x => by omega
  have hx' : ∀ x : Fin 128, x.val - 0 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 1 0 _ _ (by norm_num) (by omega), bits_neg_inf, dite_eq_ite, r_10_at, r_5_at, r_6_at, r_9_at, v538_at, v561_at c i arg4 harg4 arg6 harg6 arg10 arg11 x2 x4 kc hk]
  rw [← hR]
  rfl

open kernelRun0_A.sl in
/-- The output of block 0 of queries in head 2 of the group. -/
theorem out0_2 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v631 c i arg2 harg2 arg3 harg3 arg4 harg4 arg5 harg5 arg6 harg6 arg7 harg7 arg10 arg11 arg12 x0 x1 x2 x3 x4 x5 (ix3 0 a ⟨320 + d.val, by omega⟩) = att0 (dm kc x0 x3 x4 i 0 2 a) a (valf x1 x5 i d) := by
  generalize hR : att0 (dm kc x0 x3 x4 i 0 2 a) a (valf x1 x5 i d) = R
  generalize hE : (⟨320 + d.val, by omega⟩ : Fin 640) = E
  have hE' : E.val = 320 + d.val := by rw [← hE]
  unfold v631 v628 v627 v626 v625
  pointwise
  simp only [hE']
  rw [dif_neg (by omega : ¬ 320 + d.val < 160), dif_neg (by omega : ¬ 320 + d.val - 160 < 160), dif_pos (by omega : 320 + d.val - 160 - 160 < 160)]
  have hd : ∀ h, (⟨320 + d.val - 160 - 160, h⟩ : Fin 160) = d := fun h => Fin.ext (by simp only; omega)
  simp only [hd]
  try unfold v624
  try unfold v623
  try unfold v622
  try unfold v621
  try unfold v617
  try unfold v616
  try unfold v620
  try unfold cst_276
  try unfold v619
  try unfold cst_275
  try unfold v618
  try unfold v615
  try unfold v614
  try unfold v613
  try unfold v612
  try unfold r_14
  try unfold r_13
  try unfold v537
  try unfold r_12
  try unfold r_11
  try unfold r_8
  try unfold r_7
  try unfold v536
  try unfold v44
  try unfold v423
  try unfold k0_pay88
  try unfold k0_pay87
  try unfold k0_pay86
  try unfold k0_pay85
  try unfold k0_pay84
  try unfold k0_pay83
  try unfold k0_pay82
  pointwise
  have hq : ∀ m : ℕ, m < 640 → m < 2 ^ 31 := fun m hm => by omega
  have hx : ∀ x : Fin 128, x.val < 2 ^ 31 := fun x => by omega
  have hx' : ∀ x : Fin 128, x.val - 0 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 2 0 _ _ (by norm_num) (by omega), bits_neg_inf, dite_eq_ite, r_10_at, r_5_at, r_6_at, r_9_at, v538_at, v561_at c i arg4 harg4 arg6 harg6 arg10 arg11 x2 x4 kc hk]
  rw [← hR]
  rfl

open kernelRun0_A.sl in
/-- The output of block 0 of queries in head 3 of the group. -/
theorem out0_3 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v631 c i arg2 harg2 arg3 harg3 arg4 harg4 arg5 harg5 arg6 harg6 arg7 harg7 arg10 arg11 arg12 x0 x1 x2 x3 x4 x5 (ix3 0 a ⟨480 + d.val, by omega⟩) = att0 (dm kc x0 x3 x4 i 0 3 a) a (valf x1 x5 i d) := by
  generalize hR : att0 (dm kc x0 x3 x4 i 0 3 a) a (valf x1 x5 i d) = R
  generalize hE : (⟨480 + d.val, by omega⟩ : Fin 640) = E
  have hE' : E.val = 480 + d.val := by rw [← hE]
  unfold v631 v628 v627 v626 v625
  pointwise
  simp only [hE']
  rw [dif_neg (by omega : ¬ 480 + d.val < 160), dif_neg (by omega : ¬ 480 + d.val - 160 < 160), dif_neg (by omega : ¬ 480 + d.val - 160 - 160 < 160)]
  have hd : ∀ h, (⟨480 + d.val - 160 - 160 - 160, h⟩ : Fin 160) = d := fun h => Fin.ext (by simp only; omega)
  simp only [hd]
  try unfold v624
  try unfold v623
  try unfold v622
  try unfold v621
  try unfold v617
  try unfold v616
  try unfold v620
  try unfold cst_276
  try unfold v619
  try unfold cst_275
  try unfold v618
  try unfold v615
  try unfold v614
  try unfold v613
  try unfold v612
  try unfold r_14
  try unfold r_13
  try unfold v537
  try unfold r_12
  try unfold r_11
  try unfold r_8
  try unfold r_7
  try unfold v536
  try unfold v44
  try unfold v423
  try unfold k0_pay88
  try unfold k0_pay87
  try unfold k0_pay86
  try unfold k0_pay85
  try unfold k0_pay84
  try unfold k0_pay83
  try unfold k0_pay82
  pointwise
  have hq : ∀ m : ℕ, m < 640 → m < 2 ^ 31 := fun m hm => by omega
  have hx : ∀ x : Fin 128, x.val < 2 ^ 31 := fun x => by omega
  have hx' : ∀ x : Fin 128, x.val - 0 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 3 0 _ _ (by norm_num) (by omega), bits_neg_inf, dite_eq_ite, r_10_at, r_5_at, r_6_at, r_9_at, v538_at, v561_at c i arg4 harg4 arg6 harg6 arg10 arg11 x2 x4 kc hk]
  rw [← hR]
  rfl

end Cert.KBody
-- ==== Proof.KE1.lean ====
/- The kernel's attention output for the second block of tokens. -/
module

public import proofs.«01_k».proof.Proof.KD

@[expose] public section

set_option maxRecDepth 16384

noncomputable section

namespace Cert.KBody

open Idealize.ShloMosaic Idealize.ShloMosaic.TcCoe Idealize.ShloMosaic.Tactic
open Cert.KernelIdeal Cert.KernelIdeal.Gen

open kernelRun0_A.sl in
/-- The output of block 1 of queries in head 0 of the group. -/
theorem out1_0 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v756 c i arg2 harg2 arg3 harg3 arg4 harg4 arg5 harg5 arg6 harg6 arg7 harg7 arg10 arg11 arg12 arg13 x0 x1 x2 x3 x4 x5 (ix3 0 a ⟨0 + d.val, by omega⟩) = att 128 256 (by norm_num) (by norm_num) (dm kc x0 x3 x4 i 1 0 a) a (fun t => (wadd kc x1 x5 i 0 d t)) (valf x1 x5 i d) := by
  generalize hR : att 128 256 (by norm_num) (by norm_num) (dm kc x0 x3 x4 i 1 0 a) a (fun t => (wadd kc x1 x5 i 0 d t)) (valf x1 x5 i d) = R
  generalize hE : (⟨0 + d.val, by omega⟩ : Fin 640) = E
  have hE' : E.val = 0 + d.val := by rw [← hE]
  unfold v756 v753 v752 v751 v750
  pointwise
  simp only [hE']
  rw [dif_pos (by omega : 0 + d.val < 160)]
  have hd : ∀ h, (⟨0 + d.val, h⟩ : Fin 160) = d := fun h => Fin.ext (by simp only; omega)
  simp only [hd]
  try unfold v749
  try unfold v748
  try unfold v747
  try unfold v746
  try unfold v742
  try unfold v741
  try unfold v620
  try unfold cst_276
  try unfold v744
  try unfold cst_275
  try unfold v743
  try unfold v740
  try unfold v739
  try unfold v738
  try unfold v737
  try unfold v736
  try unfold v735
  try unfold v733
  try unfold v732
  try unfold cst_338
  try unfold v731
  try unfold v734
  try unfold v730
  try unfold v729
  try unfold r_26
  try unfold v728
  try unfold cst_337
  try unfold r_25
  try unfold r_24
  try unfold r_23
  try unfold r_20
  try unfold r_19
  try unfold v537
  try unfold v536
  try unfold v44
  try unfold v423
  try unfold r_18
  try unfold k0_pay99
  try unfold k0_pay98
  try unfold k0_pay97
  try unfold k0_pay96
  try unfold k0_pay95
  try unfold k0_pay94
  try unfold k0_pay93
  try unfold k0_pay92
  try unfold k0_pay100
  pointwise
  have hq : ∀ m : ℕ, m < 640 → m < 2 ^ 31 := fun m hm => by omega
  have hx : ∀ x : Fin 128, x.val < 2 ^ 31 := fun x => by omega
  have hx' : ∀ x : Fin 256, x.val - 128 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 0 128 _ _ (by norm_num) (by omega), bits_neg_inf, dite_eq_ite, r_16_at, r_17_at, r_21_at, r_22_at, v649_at, v654_at c i arg3 harg3 arg4 harg4 arg7 harg7 arg12 arg13 x1 x2 x5 kc hk, v656_at, v680_at c i arg4 harg4 arg6 harg6 arg10 arg11 x2 x4 kc hk, v727_at c i arg4 harg4 arg6 harg6 arg10 arg11 x2 x4 kc hk]
  rw [← hR]
  rfl

open kernelRun0_A.sl in
/-- The output of block 1 of queries in head 1 of the group. -/
theorem out1_1 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v756 c i arg2 harg2 arg3 harg3 arg4 harg4 arg5 harg5 arg6 harg6 arg7 harg7 arg10 arg11 arg12 arg13 x0 x1 x2 x3 x4 x5 (ix3 0 a ⟨160 + d.val, by omega⟩) = att 128 256 (by norm_num) (by norm_num) (dm kc x0 x3 x4 i 1 1 a) a (fun t => (wadd kc x1 x5 i 0 d t)) (valf x1 x5 i d) := by
  generalize hR : att 128 256 (by norm_num) (by norm_num) (dm kc x0 x3 x4 i 1 1 a) a (fun t => (wadd kc x1 x5 i 0 d t)) (valf x1 x5 i d) = R
  generalize hE : (⟨160 + d.val, by omega⟩ : Fin 640) = E
  have hE' : E.val = 160 + d.val := by rw [← hE]
  unfold v756 v753 v752 v751 v750
  pointwise
  simp only [hE']
  rw [dif_neg (by omega : ¬ 160 + d.val < 160), dif_pos (by omega : 160 + d.val - 160 < 160)]
  have hd : ∀ h, (⟨160 + d.val - 160, h⟩ : Fin 160) = d := fun h => Fin.ext (by simp only; omega)
  simp only [hd]
  try unfold v749
  try unfold v748
  try unfold v747
  try unfold v746
  try unfold v742
  try unfold v741
  try unfold v620
  try unfold cst_276
  try unfold v744
  try unfold cst_275
  try unfold v743
  try unfold v740
  try unfold v739
  try unfold v738
  try unfold v737
  try unfold v736
  try unfold v735
  try unfold v733
  try unfold v732
  try unfold cst_338
  try unfold v731
  try unfold v734
  try unfold v730
  try unfold v729
  try unfold r_26
  try unfold v728
  try unfold cst_337
  try unfold r_25
  try unfold r_24
  try unfold r_23
  try unfold r_20
  try unfold r_19
  try unfold v537
  try unfold v536
  try unfold v44
  try unfold v423
  try unfold r_18
  try unfold k0_pay99
  try unfold k0_pay98
  try unfold k0_pay97
  try unfold k0_pay96
  try unfold k0_pay95
  try unfold k0_pay94
  try unfold k0_pay93
  try unfold k0_pay92
  try unfold k0_pay100
  pointwise
  have hq : ∀ m : ℕ, m < 640 → m < 2 ^ 31 := fun m hm => by omega
  have hx : ∀ x : Fin 128, x.val < 2 ^ 31 := fun x => by omega
  have hx' : ∀ x : Fin 256, x.val - 128 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 1 128 _ _ (by norm_num) (by omega), bits_neg_inf, dite_eq_ite, r_16_at, r_17_at, r_21_at, r_22_at, v649_at, v654_at c i arg3 harg3 arg4 harg4 arg7 harg7 arg12 arg13 x1 x2 x5 kc hk, v656_at, v680_at c i arg4 harg4 arg6 harg6 arg10 arg11 x2 x4 kc hk, v727_at c i arg4 harg4 arg6 harg6 arg10 arg11 x2 x4 kc hk]
  rw [← hR]
  rfl

open kernelRun0_A.sl in
/-- The output of block 1 of queries in head 2 of the group. -/
theorem out1_2 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v756 c i arg2 harg2 arg3 harg3 arg4 harg4 arg5 harg5 arg6 harg6 arg7 harg7 arg10 arg11 arg12 arg13 x0 x1 x2 x3 x4 x5 (ix3 0 a ⟨320 + d.val, by omega⟩) = att 128 256 (by norm_num) (by norm_num) (dm kc x0 x3 x4 i 1 2 a) a (fun t => (wadd kc x1 x5 i 0 d t)) (valf x1 x5 i d) := by
  generalize hR : att 128 256 (by norm_num) (by norm_num) (dm kc x0 x3 x4 i 1 2 a) a (fun t => (wadd kc x1 x5 i 0 d t)) (valf x1 x5 i d) = R
  generalize hE : (⟨320 + d.val, by omega⟩ : Fin 640) = E
  have hE' : E.val = 320 + d.val := by rw [← hE]
  unfold v756 v753 v752 v751 v750
  pointwise
  simp only [hE']
  rw [dif_neg (by omega : ¬ 320 + d.val < 160), dif_neg (by omega : ¬ 320 + d.val - 160 < 160), dif_pos (by omega : 320 + d.val - 160 - 160 < 160)]
  have hd : ∀ h, (⟨320 + d.val - 160 - 160, h⟩ : Fin 160) = d := fun h => Fin.ext (by simp only; omega)
  simp only [hd]
  try unfold v749
  try unfold v748
  try unfold v747
  try unfold v746
  try unfold v742
  try unfold v741
  try unfold v620
  try unfold cst_276
  try unfold v744
  try unfold cst_275
  try unfold v743
  try unfold v740
  try unfold v739
  try unfold v738
  try unfold v737
  try unfold v736
  try unfold v735
  try unfold v733
  try unfold v732
  try unfold cst_338
  try unfold v731
  try unfold v734
  try unfold v730
  try unfold v729
  try unfold r_26
  try unfold v728
  try unfold cst_337
  try unfold r_25
  try unfold r_24
  try unfold r_23
  try unfold r_20
  try unfold r_19
  try unfold v537
  try unfold v536
  try unfold v44
  try unfold v423
  try unfold r_18
  try unfold k0_pay99
  try unfold k0_pay98
  try unfold k0_pay97
  try unfold k0_pay96
  try unfold k0_pay95
  try unfold k0_pay94
  try unfold k0_pay93
  try unfold k0_pay92
  try unfold k0_pay100
  pointwise
  have hq : ∀ m : ℕ, m < 640 → m < 2 ^ 31 := fun m hm => by omega
  have hx : ∀ x : Fin 128, x.val < 2 ^ 31 := fun x => by omega
  have hx' : ∀ x : Fin 256, x.val - 128 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 2 128 _ _ (by norm_num) (by omega), bits_neg_inf, dite_eq_ite, r_16_at, r_17_at, r_21_at, r_22_at, v649_at, v654_at c i arg3 harg3 arg4 harg4 arg7 harg7 arg12 arg13 x1 x2 x5 kc hk, v656_at, v680_at c i arg4 harg4 arg6 harg6 arg10 arg11 x2 x4 kc hk, v727_at c i arg4 harg4 arg6 harg6 arg10 arg11 x2 x4 kc hk]
  rw [← hR]
  rfl

open kernelRun0_A.sl in
/-- The output of block 1 of queries in head 3 of the group. -/
theorem out1_3 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v756 c i arg2 harg2 arg3 harg3 arg4 harg4 arg5 harg5 arg6 harg6 arg7 harg7 arg10 arg11 arg12 arg13 x0 x1 x2 x3 x4 x5 (ix3 0 a ⟨480 + d.val, by omega⟩) = att 128 256 (by norm_num) (by norm_num) (dm kc x0 x3 x4 i 1 3 a) a (fun t => (wadd kc x1 x5 i 0 d t)) (valf x1 x5 i d) := by
  generalize hR : att 128 256 (by norm_num) (by norm_num) (dm kc x0 x3 x4 i 1 3 a) a (fun t => (wadd kc x1 x5 i 0 d t)) (valf x1 x5 i d) = R
  generalize hE : (⟨480 + d.val, by omega⟩ : Fin 640) = E
  have hE' : E.val = 480 + d.val := by rw [← hE]
  unfold v756 v753 v752 v751 v750
  pointwise
  simp only [hE']
  rw [dif_neg (by omega : ¬ 480 + d.val < 160), dif_neg (by omega : ¬ 480 + d.val - 160 < 160), dif_neg (by omega : ¬ 480 + d.val - 160 - 160 < 160)]
  have hd : ∀ h, (⟨480 + d.val - 160 - 160 - 160, h⟩ : Fin 160) = d := fun h => Fin.ext (by simp only; omega)
  simp only [hd]
  try unfold v749
  try unfold v748
  try unfold v747
  try unfold v746
  try unfold v742
  try unfold v741
  try unfold v620
  try unfold cst_276
  try unfold v744
  try unfold cst_275
  try unfold v743
  try unfold v740
  try unfold v739
  try unfold v738
  try unfold v737
  try unfold v736
  try unfold v735
  try unfold v733
  try unfold v732
  try unfold cst_338
  try unfold v731
  try unfold v734
  try unfold v730
  try unfold v729
  try unfold r_26
  try unfold v728
  try unfold cst_337
  try unfold r_25
  try unfold r_24
  try unfold r_23
  try unfold r_20
  try unfold r_19
  try unfold v537
  try unfold v536
  try unfold v44
  try unfold v423
  try unfold r_18
  try unfold k0_pay99
  try unfold k0_pay98
  try unfold k0_pay97
  try unfold k0_pay96
  try unfold k0_pay95
  try unfold k0_pay94
  try unfold k0_pay93
  try unfold k0_pay92
  try unfold k0_pay100
  pointwise
  have hq : ∀ m : ℕ, m < 640 → m < 2 ^ 31 := fun m hm => by omega
  have hx : ∀ x : Fin 128, x.val < 2 ^ 31 := fun x => by omega
  have hx' : ∀ x : Fin 256, x.val - 128 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 3 128 _ _ (by norm_num) (by omega), bits_neg_inf, dite_eq_ite, r_16_at, r_17_at, r_21_at, r_22_at, v649_at, v654_at c i arg3 harg3 arg4 harg4 arg7 harg7 arg12 arg13 x1 x2 x5 kc hk, v656_at, v680_at c i arg4 harg4 arg6 harg6 arg10 arg11 x2 x4 kc hk, v727_at c i arg4 harg4 arg6 harg6 arg10 arg11 x2 x4 kc hk]
  rw [← hR]
  rfl

end Cert.KBody
-- ==== Proof.KE2.lean ====
/- The kernel's attention output for the third block of tokens. -/
module

public import proofs.«01_k».proof.Proof.KD

@[expose] public section

set_option maxRecDepth 16384

noncomputable section

namespace Cert.KBody

open Idealize.ShloMosaic Idealize.ShloMosaic.TcCoe Idealize.ShloMosaic.Tactic
open Cert.KernelIdeal Cert.KernelIdeal.Gen

set_option maxHeartbeats 4000000 in
open kernelRun0_A.sl in
/-- The output of block 2 of queries in head 0 of the group. -/
theorem out2_0 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    k0_pay116 v536 (v784 c i arg3 harg3 arg4 harg4 arg7 harg7 arg12 arg13 x1 x2 x5) (r_29 c i arg2 harg2 arg3 harg3 arg4 harg4 arg5 harg5 arg6 harg6 arg7 harg7 arg10 arg11 arg12 arg13 x0 x1 x2 x3 x4 x5) (r_30 c i arg2 harg2 arg3 harg3 arg4 harg4 arg5 harg5 arg6 harg6 arg7 harg7 arg10 arg11 arg12 arg13 x0 x1 x2 x3 x4 x5) (r_31 c arg5 harg5 x3) (k0_pay115 v537) (r_32 c i arg2 harg2 x0) (r_33 c i arg2 harg2 x0) (v807 c i arg4 harg4 arg6 harg6 arg10 arg11 x2 x4) (ix3 0 a ⟨0 + d.val, by omega⟩) = att 256 384 (by norm_num) (by norm_num) (dm kc x0 x3 x4 i 2 0 a) a (fun t => (wadd kc x1 x5 i 0 d t + wadd kc x1 x5 i 1 d t)) (valf x1 x5 i d) := by
  generalize hR : att 256 384 (by norm_num) (by norm_num) (dm kc x0 x3 x4 i 2 0 a) a (fun t => (wadd kc x1 x5 i 0 d t + wadd kc x1 x5 i 1 d t)) (valf x1 x5 i d) = R
  generalize hE : (⟨0 + d.val, by omega⟩ : Fin 640) = E
  have hE' : E.val = 0 + d.val := by rw [← hE]
  unfold k0_pay116
  pointwise
  simp only [hE']
  rw [dif_pos (by omega : 0 + d.val < 160)]
  have hd : ∀ h, (⟨0 + d.val, h⟩ : Fin 160) = d := fun h => Fin.ext (by simp only; omega)
  simp only [hd]
  try unfold r_31
  try unfold r_30
  try unfold r_29
  try unfold v802
  try unfold v793
  try unfold v537
  try unfold v790
  try unfold v789
  try unfold v788
  try unfold v786
  try unfold v784
  try unfold v782
  try unfold v536
  try unfold v44
  try unfold v423
  try unfold k0_pay115
  try unfold k0_pay114
  try unfold k0_pay113
  try unfold k0_pay112
  try unfold k0_pay111
  pointwise
  have hq : ∀ m : ℕ, m < 640 → m < 2 ^ 31 := fun m hm => by omega
  have hx : ∀ x : Fin 128, x.val < 2 ^ 31 := fun x => by omega
  have hx' : ∀ x : Fin 384, x.val - 256 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 0 256 _ _ (by norm_num) (by omega), bits_neg_inf, dite_eq_ite, r_27_at, r_28_at, r_32_at, r_33_at, v649_at, v774_at, v781_at c i arg3 harg3 arg4 harg4 arg7 harg7 arg12 arg13 x1 x2 x5 kc hk, v783_at, v807_at c i arg4 harg4 arg6 harg6 arg10 arg11 x2 x4 kc hk]
  rw [← hR]
  rfl

set_option maxHeartbeats 4000000 in
open kernelRun0_A.sl in
/-- The output of block 2 of queries in head 1 of the group. -/
theorem out2_1 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    k0_pay116 v536 (v784 c i arg3 harg3 arg4 harg4 arg7 harg7 arg12 arg13 x1 x2 x5) (r_29 c i arg2 harg2 arg3 harg3 arg4 harg4 arg5 harg5 arg6 harg6 arg7 harg7 arg10 arg11 arg12 arg13 x0 x1 x2 x3 x4 x5) (r_30 c i arg2 harg2 arg3 harg3 arg4 harg4 arg5 harg5 arg6 harg6 arg7 harg7 arg10 arg11 arg12 arg13 x0 x1 x2 x3 x4 x5) (r_31 c arg5 harg5 x3) (k0_pay115 v537) (r_32 c i arg2 harg2 x0) (r_33 c i arg2 harg2 x0) (v807 c i arg4 harg4 arg6 harg6 arg10 arg11 x2 x4) (ix3 0 a ⟨160 + d.val, by omega⟩) = att 256 384 (by norm_num) (by norm_num) (dm kc x0 x3 x4 i 2 1 a) a (fun t => (wadd kc x1 x5 i 0 d t + wadd kc x1 x5 i 1 d t)) (valf x1 x5 i d) := by
  generalize hR : att 256 384 (by norm_num) (by norm_num) (dm kc x0 x3 x4 i 2 1 a) a (fun t => (wadd kc x1 x5 i 0 d t + wadd kc x1 x5 i 1 d t)) (valf x1 x5 i d) = R
  generalize hE : (⟨160 + d.val, by omega⟩ : Fin 640) = E
  have hE' : E.val = 160 + d.val := by rw [← hE]
  unfold k0_pay116
  pointwise
  simp only [hE']
  rw [dif_neg (by omega : ¬ 160 + d.val < 160), dif_pos (by omega : 160 + d.val - 160 < 160)]
  have hd : ∀ h, (⟨160 + d.val - 160, h⟩ : Fin 160) = d := fun h => Fin.ext (by simp only; omega)
  simp only [hd]
  try unfold r_31
  try unfold r_30
  try unfold r_29
  try unfold v802
  try unfold v793
  try unfold v537
  try unfold v790
  try unfold v789
  try unfold v788
  try unfold v786
  try unfold v784
  try unfold v782
  try unfold v536
  try unfold v44
  try unfold v423
  try unfold k0_pay115
  try unfold k0_pay114
  try unfold k0_pay113
  try unfold k0_pay112
  try unfold k0_pay111
  pointwise
  have hq : ∀ m : ℕ, m < 640 → m < 2 ^ 31 := fun m hm => by omega
  have hx : ∀ x : Fin 128, x.val < 2 ^ 31 := fun x => by omega
  have hx' : ∀ x : Fin 384, x.val - 256 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 1 256 _ _ (by norm_num) (by omega), bits_neg_inf, dite_eq_ite, r_27_at, r_28_at, r_32_at, r_33_at, v649_at, v774_at, v781_at c i arg3 harg3 arg4 harg4 arg7 harg7 arg12 arg13 x1 x2 x5 kc hk, v783_at, v807_at c i arg4 harg4 arg6 harg6 arg10 arg11 x2 x4 kc hk]
  rw [← hR]
  rfl

set_option maxHeartbeats 4000000 in
open kernelRun0_A.sl in
/-- The output of block 2 of queries in head 2 of the group. -/
theorem out2_2 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    k0_pay116 v536 (v784 c i arg3 harg3 arg4 harg4 arg7 harg7 arg12 arg13 x1 x2 x5) (r_29 c i arg2 harg2 arg3 harg3 arg4 harg4 arg5 harg5 arg6 harg6 arg7 harg7 arg10 arg11 arg12 arg13 x0 x1 x2 x3 x4 x5) (r_30 c i arg2 harg2 arg3 harg3 arg4 harg4 arg5 harg5 arg6 harg6 arg7 harg7 arg10 arg11 arg12 arg13 x0 x1 x2 x3 x4 x5) (r_31 c arg5 harg5 x3) (k0_pay115 v537) (r_32 c i arg2 harg2 x0) (r_33 c i arg2 harg2 x0) (v807 c i arg4 harg4 arg6 harg6 arg10 arg11 x2 x4) (ix3 0 a ⟨320 + d.val, by omega⟩) = att 256 384 (by norm_num) (by norm_num) (dm kc x0 x3 x4 i 2 2 a) a (fun t => (wadd kc x1 x5 i 0 d t + wadd kc x1 x5 i 1 d t)) (valf x1 x5 i d) := by
  generalize hR : att 256 384 (by norm_num) (by norm_num) (dm kc x0 x3 x4 i 2 2 a) a (fun t => (wadd kc x1 x5 i 0 d t + wadd kc x1 x5 i 1 d t)) (valf x1 x5 i d) = R
  generalize hE : (⟨320 + d.val, by omega⟩ : Fin 640) = E
  have hE' : E.val = 320 + d.val := by rw [← hE]
  unfold k0_pay116
  pointwise
  simp only [hE']
  rw [dif_neg (by omega : ¬ 320 + d.val < 160), dif_neg (by omega : ¬ 320 + d.val - 160 < 160), dif_pos (by omega : 320 + d.val - 160 - 160 < 160)]
  have hd : ∀ h, (⟨320 + d.val - 160 - 160, h⟩ : Fin 160) = d := fun h => Fin.ext (by simp only; omega)
  simp only [hd]
  try unfold r_31
  try unfold r_30
  try unfold r_29
  try unfold v802
  try unfold v793
  try unfold v537
  try unfold v790
  try unfold v789
  try unfold v788
  try unfold v786
  try unfold v784
  try unfold v782
  try unfold v536
  try unfold v44
  try unfold v423
  try unfold k0_pay115
  try unfold k0_pay114
  try unfold k0_pay113
  try unfold k0_pay112
  try unfold k0_pay111
  pointwise
  have hq : ∀ m : ℕ, m < 640 → m < 2 ^ 31 := fun m hm => by omega
  have hx : ∀ x : Fin 128, x.val < 2 ^ 31 := fun x => by omega
  have hx' : ∀ x : Fin 384, x.val - 256 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 2 256 _ _ (by norm_num) (by omega), bits_neg_inf, dite_eq_ite, r_27_at, r_28_at, r_32_at, r_33_at, v649_at, v774_at, v781_at c i arg3 harg3 arg4 harg4 arg7 harg7 arg12 arg13 x1 x2 x5 kc hk, v783_at, v807_at c i arg4 harg4 arg6 harg6 arg10 arg11 x2 x4 kc hk]
  rw [← hR]
  rfl

set_option maxHeartbeats 4000000 in
open kernelRun0_A.sl in
/-- The output of block 2 of queries in head 3 of the group. -/
theorem out2_3 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    k0_pay116 v536 (v784 c i arg3 harg3 arg4 harg4 arg7 harg7 arg12 arg13 x1 x2 x5) (r_29 c i arg2 harg2 arg3 harg3 arg4 harg4 arg5 harg5 arg6 harg6 arg7 harg7 arg10 arg11 arg12 arg13 x0 x1 x2 x3 x4 x5) (r_30 c i arg2 harg2 arg3 harg3 arg4 harg4 arg5 harg5 arg6 harg6 arg7 harg7 arg10 arg11 arg12 arg13 x0 x1 x2 x3 x4 x5) (r_31 c arg5 harg5 x3) (k0_pay115 v537) (r_32 c i arg2 harg2 x0) (r_33 c i arg2 harg2 x0) (v807 c i arg4 harg4 arg6 harg6 arg10 arg11 x2 x4) (ix3 0 a ⟨480 + d.val, by omega⟩) = att 256 384 (by norm_num) (by norm_num) (dm kc x0 x3 x4 i 2 3 a) a (fun t => (wadd kc x1 x5 i 0 d t + wadd kc x1 x5 i 1 d t)) (valf x1 x5 i d) := by
  generalize hR : att 256 384 (by norm_num) (by norm_num) (dm kc x0 x3 x4 i 2 3 a) a (fun t => (wadd kc x1 x5 i 0 d t + wadd kc x1 x5 i 1 d t)) (valf x1 x5 i d) = R
  generalize hE : (⟨480 + d.val, by omega⟩ : Fin 640) = E
  have hE' : E.val = 480 + d.val := by rw [← hE]
  unfold k0_pay116
  pointwise
  simp only [hE']
  rw [dif_neg (by omega : ¬ 480 + d.val < 160), dif_neg (by omega : ¬ 480 + d.val - 160 < 160), dif_neg (by omega : ¬ 480 + d.val - 160 - 160 < 160)]
  have hd : ∀ h, (⟨480 + d.val - 160 - 160 - 160, h⟩ : Fin 160) = d := fun h => Fin.ext (by simp only; omega)
  simp only [hd]
  try unfold r_31
  try unfold r_30
  try unfold r_29
  try unfold v802
  try unfold v793
  try unfold v537
  try unfold v790
  try unfold v789
  try unfold v788
  try unfold v786
  try unfold v784
  try unfold v782
  try unfold v536
  try unfold v44
  try unfold v423
  try unfold k0_pay115
  try unfold k0_pay114
  try unfold k0_pay113
  try unfold k0_pay112
  try unfold k0_pay111
  pointwise
  have hq : ∀ m : ℕ, m < 640 → m < 2 ^ 31 := fun m hm => by omega
  have hx : ∀ x : Fin 128, x.val < 2 ^ 31 := fun x => by omega
  have hx' : ∀ x : Fin 384, x.val - 256 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 3 256 _ _ (by norm_num) (by omega), bits_neg_inf, dite_eq_ite, r_27_at, r_28_at, r_32_at, r_33_at, v649_at, v774_at, v781_at c i arg3 harg3 arg4 harg4 arg7 harg7 arg12 arg13 x1 x2 x5 kc hk, v783_at, v807_at c i arg4 harg4 arg6 harg6 arg10 arg11 x2 x4 kc hk]
  rw [← hR]
  rfl

end Cert.KBody
-- ==== Proof.KE3.lean ====
/- The kernel's attention output for the fourth block of tokens. -/
module

public import proofs.«01_k».proof.Proof.KD

@[expose] public section

set_option maxRecDepth 16384

noncomputable section

namespace Cert.KBody

open Idealize.ShloMosaic Idealize.ShloMosaic.TcCoe Idealize.ShloMosaic.Tactic
open Cert.KernelIdeal Cert.KernelIdeal.Gen

open kernelRun0_A.sl in
/-- The output of block 3 of queries in head 0 of the group. -/
theorem out3_0 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v1010 c i arg2 harg2 arg3 harg3 arg4 harg4 arg5 harg5 arg6 harg6 arg7 harg7 arg10 arg11 arg12 arg13 x0 x1 x2 x3 x4 x5 (ix3 0 a ⟨0 + d.val, by omega⟩) = att 384 512 (by norm_num) (by norm_num) (dm kc x0 x3 x4 i 3 0 a) a (fun t => ((wadd kc x1 x5 i 0 d t + wadd kc x1 x5 i 1 d t) + wadd kc x1 x5 i 2 d t)) (valf x1 x5 i d) := by
  generalize hR : att 384 512 (by norm_num) (by norm_num) (dm kc x0 x3 x4 i 3 0 a) a (fun t => ((wadd kc x1 x5 i 0 d t + wadd kc x1 x5 i 1 d t) + wadd kc x1 x5 i 2 d t)) (valf x1 x5 i d) = R
  generalize hE : (⟨0 + d.val, by omega⟩ : Fin 640) = E
  have hE' : E.val = 0 + d.val := by rw [← hE]
  unfold v1010 v1007 v1006 v1005 v1004
  pointwise
  simp only [hE']
  rw [dif_pos (by omega : 0 + d.val < 160)]
  have hd : ∀ h, (⟨0 + d.val, h⟩ : Fin 160) = d := fun h => Fin.ext (by simp only; omega)
  simp only [hd]
  try unfold v1003
  try unfold v1002
  try unfold v1001
  try unfold r_43
  try unfold r_42
  try unfold r_39
  try unfold r_38
  try unfold r_37
  try unfold v917
  try unfold v916
  try unfold v915
  try unfold v913
  try unfold v911
  try unfold v909
  try unfold v537
  try unfold v536
  try unfold v44
  try unfold v423
  try unfold k0_pay126
  try unfold k0_pay125
  try unfold k0_pay124
  try unfold k0_pay123
  try unfold k0_pay122
  try unfold k0_pay121
  pointwise
  have hq : ∀ m : ℕ, m < 640 → m < 2 ^ 31 := fun m hm => by omega
  have hx : ∀ x : Fin 128, x.val < 2 ^ 31 := fun x => by omega
  have hx' : ∀ x : Fin 512, x.val - 384 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 0 384 _ _ (by norm_num) (by omega), bits_neg_inf, dite_eq_ite, r_35_at, r_36_at, r_40_at, r_41_at, v649_at, v774_at, v783_at, v908_at c i arg3 harg3 arg4 harg4 arg7 harg7 arg12 arg13 x1 x2 x5 kc hk, v910_at, v934_at c i arg4 harg4 arg6 harg6 arg10 arg11 x2 x4 kc hk]
  rw [← hR]
  rfl

open kernelRun0_A.sl in
/-- The output of block 3 of queries in head 1 of the group. -/
theorem out3_1 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v1010 c i arg2 harg2 arg3 harg3 arg4 harg4 arg5 harg5 arg6 harg6 arg7 harg7 arg10 arg11 arg12 arg13 x0 x1 x2 x3 x4 x5 (ix3 0 a ⟨160 + d.val, by omega⟩) = att 384 512 (by norm_num) (by norm_num) (dm kc x0 x3 x4 i 3 1 a) a (fun t => ((wadd kc x1 x5 i 0 d t + wadd kc x1 x5 i 1 d t) + wadd kc x1 x5 i 2 d t)) (valf x1 x5 i d) := by
  generalize hR : att 384 512 (by norm_num) (by norm_num) (dm kc x0 x3 x4 i 3 1 a) a (fun t => ((wadd kc x1 x5 i 0 d t + wadd kc x1 x5 i 1 d t) + wadd kc x1 x5 i 2 d t)) (valf x1 x5 i d) = R
  generalize hE : (⟨160 + d.val, by omega⟩ : Fin 640) = E
  have hE' : E.val = 160 + d.val := by rw [← hE]
  unfold v1010 v1007 v1006 v1005 v1004
  pointwise
  simp only [hE']
  rw [dif_neg (by omega : ¬ 160 + d.val < 160), dif_pos (by omega : 160 + d.val - 160 < 160)]
  have hd : ∀ h, (⟨160 + d.val - 160, h⟩ : Fin 160) = d := fun h => Fin.ext (by simp only; omega)
  simp only [hd]
  try unfold v1003
  try unfold v1002
  try unfold v1001
  try unfold r_43
  try unfold r_42
  try unfold r_39
  try unfold r_38
  try unfold r_37
  try unfold v917
  try unfold v916
  try unfold v915
  try unfold v913
  try unfold v911
  try unfold v909
  try unfold v537
  try unfold v536
  try unfold v44
  try unfold v423
  try unfold k0_pay126
  try unfold k0_pay125
  try unfold k0_pay124
  try unfold k0_pay123
  try unfold k0_pay122
  try unfold k0_pay121
  pointwise
  have hq : ∀ m : ℕ, m < 640 → m < 2 ^ 31 := fun m hm => by omega
  have hx : ∀ x : Fin 128, x.val < 2 ^ 31 := fun x => by omega
  have hx' : ∀ x : Fin 512, x.val - 384 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 1 384 _ _ (by norm_num) (by omega), bits_neg_inf, dite_eq_ite, r_35_at, r_36_at, r_40_at, r_41_at, v649_at, v774_at, v783_at, v908_at c i arg3 harg3 arg4 harg4 arg7 harg7 arg12 arg13 x1 x2 x5 kc hk, v910_at, v934_at c i arg4 harg4 arg6 harg6 arg10 arg11 x2 x4 kc hk]
  rw [← hR]
  rfl

open kernelRun0_A.sl in
/-- The output of block 3 of queries in head 2 of the group. -/
theorem out3_2 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v1010 c i arg2 harg2 arg3 harg3 arg4 harg4 arg5 harg5 arg6 harg6 arg7 harg7 arg10 arg11 arg12 arg13 x0 x1 x2 x3 x4 x5 (ix3 0 a ⟨320 + d.val, by omega⟩) = att 384 512 (by norm_num) (by norm_num) (dm kc x0 x3 x4 i 3 2 a) a (fun t => ((wadd kc x1 x5 i 0 d t + wadd kc x1 x5 i 1 d t) + wadd kc x1 x5 i 2 d t)) (valf x1 x5 i d) := by
  generalize hR : att 384 512 (by norm_num) (by norm_num) (dm kc x0 x3 x4 i 3 2 a) a (fun t => ((wadd kc x1 x5 i 0 d t + wadd kc x1 x5 i 1 d t) + wadd kc x1 x5 i 2 d t)) (valf x1 x5 i d) = R
  generalize hE : (⟨320 + d.val, by omega⟩ : Fin 640) = E
  have hE' : E.val = 320 + d.val := by rw [← hE]
  unfold v1010 v1007 v1006 v1005 v1004
  pointwise
  simp only [hE']
  rw [dif_neg (by omega : ¬ 320 + d.val < 160), dif_neg (by omega : ¬ 320 + d.val - 160 < 160), dif_pos (by omega : 320 + d.val - 160 - 160 < 160)]
  have hd : ∀ h, (⟨320 + d.val - 160 - 160, h⟩ : Fin 160) = d := fun h => Fin.ext (by simp only; omega)
  simp only [hd]
  try unfold v1003
  try unfold v1002
  try unfold v1001
  try unfold r_43
  try unfold r_42
  try unfold r_39
  try unfold r_38
  try unfold r_37
  try unfold v917
  try unfold v916
  try unfold v915
  try unfold v913
  try unfold v911
  try unfold v909
  try unfold v537
  try unfold v536
  try unfold v44
  try unfold v423
  try unfold k0_pay126
  try unfold k0_pay125
  try unfold k0_pay124
  try unfold k0_pay123
  try unfold k0_pay122
  try unfold k0_pay121
  pointwise
  have hq : ∀ m : ℕ, m < 640 → m < 2 ^ 31 := fun m hm => by omega
  have hx : ∀ x : Fin 128, x.val < 2 ^ 31 := fun x => by omega
  have hx' : ∀ x : Fin 512, x.val - 384 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 2 384 _ _ (by norm_num) (by omega), bits_neg_inf, dite_eq_ite, r_35_at, r_36_at, r_40_at, r_41_at, v649_at, v774_at, v783_at, v908_at c i arg3 harg3 arg4 harg4 arg7 harg7 arg12 arg13 x1 x2 x5 kc hk, v910_at, v934_at c i arg4 harg4 arg6 harg6 arg10 arg11 x2 x4 kc hk]
  rw [← hR]
  rfl

open kernelRun0_A.sl in
/-- The output of block 3 of queries in head 3 of the group. -/
theorem out3_3 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    v1010 c i arg2 harg2 arg3 harg3 arg4 harg4 arg5 harg5 arg6 harg6 arg7 harg7 arg10 arg11 arg12 arg13 x0 x1 x2 x3 x4 x5 (ix3 0 a ⟨480 + d.val, by omega⟩) = att 384 512 (by norm_num) (by norm_num) (dm kc x0 x3 x4 i 3 3 a) a (fun t => ((wadd kc x1 x5 i 0 d t + wadd kc x1 x5 i 1 d t) + wadd kc x1 x5 i 2 d t)) (valf x1 x5 i d) := by
  generalize hR : att 384 512 (by norm_num) (by norm_num) (dm kc x0 x3 x4 i 3 3 a) a (fun t => ((wadd kc x1 x5 i 0 d t + wadd kc x1 x5 i 1 d t) + wadd kc x1 x5 i 2 d t)) (valf x1 x5 i d) = R
  generalize hE : (⟨480 + d.val, by omega⟩ : Fin 640) = E
  have hE' : E.val = 480 + d.val := by rw [← hE]
  unfold v1010 v1007 v1006 v1005 v1004
  pointwise
  simp only [hE']
  rw [dif_neg (by omega : ¬ 480 + d.val < 160), dif_neg (by omega : ¬ 480 + d.val - 160 < 160), dif_neg (by omega : ¬ 480 + d.val - 160 - 160 < 160)]
  have hd : ∀ h, (⟨480 + d.val - 160 - 160 - 160, h⟩ : Fin 160) = d := fun h => Fin.ext (by simp only; omega)
  simp only [hd]
  try unfold v1003
  try unfold v1002
  try unfold v1001
  try unfold r_43
  try unfold r_42
  try unfold r_39
  try unfold r_38
  try unfold r_37
  try unfold v917
  try unfold v916
  try unfold v915
  try unfold v913
  try unfold v911
  try unfold v909
  try unfold v537
  try unfold v536
  try unfold v44
  try unfold v423
  try unfold k0_pay126
  try unfold k0_pay125
  try unfold k0_pay124
  try unfold k0_pay123
  try unfold k0_pay122
  try unfold k0_pay121
  pointwise
  have hq : ∀ m : ℕ, m < 640 → m < 2 ^ 31 := fun m hm => by omega
  have hx : ∀ x : Fin 128, x.val < 2 ^ 31 := fun x => by omega
  have hx' : ∀ x : Fin 512, x.val - 384 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 3 384 _ _ (by norm_num) (by omega), bits_neg_inf, dite_eq_ite, r_35_at, r_36_at, r_40_at, r_41_at, v649_at, v774_at, v783_at, v908_at c i arg3 harg3 arg4 harg4 arg7 harg7 arg12 arg13 x1 x2 x5 kc hk, v910_at, v934_at c i arg4 harg4 arg6 harg6 arg10 arg11 x2 x4 kc hk]
  rw [← hR]
  rfl

end Cert.KBody
-- ==== Proof.KE4.lean ====
/- The kernel's attention output for the fifth block of tokens. -/
module

public import proofs.«01_k».proof.Proof.KD

@[expose] public section

set_option maxRecDepth 16384

noncomputable section

namespace Cert.KBody

open Idealize.ShloMosaic Idealize.ShloMosaic.TcCoe Idealize.ShloMosaic.Tactic
open Cert.KernelIdeal Cert.KernelIdeal.Gen

open kernelRun0_A.sl in
/-- The output of block 4 of queries in head 0 of the group. -/
theorem out4_0 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    k0_pay138 (r_46 c i arg3 harg3 arg4 harg4 arg7 harg7 arg12 arg13 x1 x2 x5) (r_51 c i arg2 harg2 arg3 harg3 arg4 harg4 arg5 harg5 arg6 harg6 arg7 harg7 arg10 arg11 arg12 arg13 x0 x1 x2 x3 x4 x5) (r_52 c i arg2 harg2 arg3 harg3 arg4 harg4 arg5 harg5 arg6 harg6 arg7 harg7 arg10 arg11 arg12 arg13 x0 x1 x2 x3 x4 x5) (r_53 c i arg2 harg2 arg4 harg4 arg5 harg5 arg6 harg6 arg10 arg11 x0 x2 x3 x4) (r_54 c i arg2 harg2 arg4 harg4 arg5 harg5 arg6 harg6 arg10 arg11 x0 x2 x3 x4) (ix3 0 a ⟨0 + d.val, by omega⟩) = att 512 640 (by norm_num) (by norm_num) (dm kc x0 x3 x4 i 4 0 a) a (fun t => (((wadd kc x1 x5 i 0 d t + wadd kc x1 x5 i 1 d t) + wadd kc x1 x5 i 2 d t) + wadd kc x1 x5 i 3 d t)) (valf x1 x5 i d) := by
  generalize hR : att 512 640 (by norm_num) (by norm_num) (dm kc x0 x3 x4 i 4 0 a) a (fun t => (((wadd kc x1 x5 i 0 d t + wadd kc x1 x5 i 1 d t) + wadd kc x1 x5 i 2 d t) + wadd kc x1 x5 i 3 d t)) (valf x1 x5 i d) = R
  generalize hE : (⟨0 + d.val, by omega⟩ : Fin 640) = E
  have hE' : E.val = 0 + d.val := by rw [← hE]
  unfold k0_pay138
  pointwise
  simp only [hE']
  rw [dif_pos (by omega : 0 + d.val < 160)]
  have hd : ∀ h, (⟨0 + d.val, h⟩ : Fin 160) = d := fun h => Fin.ext (by simp only; omega)
  simp only [hd]
  try unfold r_54
  try unfold r_53
  try unfold r_52
  try unfold r_51
  try unfold r_48
  try unfold r_47
  try unfold v537
  try unfold v536
  try unfold v44
  try unfold v423
  try unfold r_46
  try unfold v1036
  try unfold k0_pay137
  try unfold k0_pay136
  try unfold k0_pay135
  try unfold k0_pay134
  try unfold k0_pay133
  try unfold k0_pay132
  try unfold k0_pay131
  try unfold k0_pay130
  pointwise
  have hq : ∀ m : ℕ, m < 640 → m < 2 ^ 31 := fun m hm => by omega
  have hx : ∀ x : Fin 128, x.val < 2 ^ 31 := fun x => by omega
  have hx' : ∀ x : Fin 640, x.val - 512 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 0 512 _ _ (by norm_num) (by omega), bits_neg_inf, dite_eq_ite, r_44_at, r_45_at, r_49_at, r_50_at, v1035_at c i arg3 harg3 arg4 harg4 arg7 harg7 arg12 arg13 x1 x2 x5 kc hk, v1037_at, v1061_at c i arg4 harg4 arg6 harg6 arg10 arg11 x2 x4 kc hk, v649_at, v774_at, v783_at, v910_at]
  rw [← hR]
  rfl

open kernelRun0_A.sl in
/-- The output of block 4 of queries in head 1 of the group. -/
theorem out4_1 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    k0_pay138 (r_46 c i arg3 harg3 arg4 harg4 arg7 harg7 arg12 arg13 x1 x2 x5) (r_51 c i arg2 harg2 arg3 harg3 arg4 harg4 arg5 harg5 arg6 harg6 arg7 harg7 arg10 arg11 arg12 arg13 x0 x1 x2 x3 x4 x5) (r_52 c i arg2 harg2 arg3 harg3 arg4 harg4 arg5 harg5 arg6 harg6 arg7 harg7 arg10 arg11 arg12 arg13 x0 x1 x2 x3 x4 x5) (r_53 c i arg2 harg2 arg4 harg4 arg5 harg5 arg6 harg6 arg10 arg11 x0 x2 x3 x4) (r_54 c i arg2 harg2 arg4 harg4 arg5 harg5 arg6 harg6 arg10 arg11 x0 x2 x3 x4) (ix3 0 a ⟨160 + d.val, by omega⟩) = att 512 640 (by norm_num) (by norm_num) (dm kc x0 x3 x4 i 4 1 a) a (fun t => (((wadd kc x1 x5 i 0 d t + wadd kc x1 x5 i 1 d t) + wadd kc x1 x5 i 2 d t) + wadd kc x1 x5 i 3 d t)) (valf x1 x5 i d) := by
  generalize hR : att 512 640 (by norm_num) (by norm_num) (dm kc x0 x3 x4 i 4 1 a) a (fun t => (((wadd kc x1 x5 i 0 d t + wadd kc x1 x5 i 1 d t) + wadd kc x1 x5 i 2 d t) + wadd kc x1 x5 i 3 d t)) (valf x1 x5 i d) = R
  generalize hE : (⟨160 + d.val, by omega⟩ : Fin 640) = E
  have hE' : E.val = 160 + d.val := by rw [← hE]
  unfold k0_pay138
  pointwise
  simp only [hE']
  rw [dif_neg (by omega : ¬ 160 + d.val < 160), dif_pos (by omega : 160 + d.val - 160 < 160)]
  have hd : ∀ h, (⟨160 + d.val - 160, h⟩ : Fin 160) = d := fun h => Fin.ext (by simp only; omega)
  simp only [hd]
  try unfold r_54
  try unfold r_53
  try unfold r_52
  try unfold r_51
  try unfold r_48
  try unfold r_47
  try unfold v537
  try unfold v536
  try unfold v44
  try unfold v423
  try unfold r_46
  try unfold v1036
  try unfold k0_pay137
  try unfold k0_pay136
  try unfold k0_pay135
  try unfold k0_pay134
  try unfold k0_pay133
  try unfold k0_pay132
  try unfold k0_pay131
  try unfold k0_pay130
  pointwise
  have hq : ∀ m : ℕ, m < 640 → m < 2 ^ 31 := fun m hm => by omega
  have hx : ∀ x : Fin 128, x.val < 2 ^ 31 := fun x => by omega
  have hx' : ∀ x : Fin 640, x.val - 512 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 1 512 _ _ (by norm_num) (by omega), bits_neg_inf, dite_eq_ite, r_44_at, r_45_at, r_49_at, r_50_at, v1035_at c i arg3 harg3 arg4 harg4 arg7 harg7 arg12 arg13 x1 x2 x5 kc hk, v1037_at, v1061_at c i arg4 harg4 arg6 harg6 arg10 arg11 x2 x4 kc hk, v649_at, v774_at, v783_at, v910_at]
  rw [← hR]
  rfl

open kernelRun0_A.sl in
/-- The output of block 4 of queries in head 2 of the group. -/
theorem out4_2 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    k0_pay138 (r_46 c i arg3 harg3 arg4 harg4 arg7 harg7 arg12 arg13 x1 x2 x5) (r_51 c i arg2 harg2 arg3 harg3 arg4 harg4 arg5 harg5 arg6 harg6 arg7 harg7 arg10 arg11 arg12 arg13 x0 x1 x2 x3 x4 x5) (r_52 c i arg2 harg2 arg3 harg3 arg4 harg4 arg5 harg5 arg6 harg6 arg7 harg7 arg10 arg11 arg12 arg13 x0 x1 x2 x3 x4 x5) (r_53 c i arg2 harg2 arg4 harg4 arg5 harg5 arg6 harg6 arg10 arg11 x0 x2 x3 x4) (r_54 c i arg2 harg2 arg4 harg4 arg5 harg5 arg6 harg6 arg10 arg11 x0 x2 x3 x4) (ix3 0 a ⟨320 + d.val, by omega⟩) = att 512 640 (by norm_num) (by norm_num) (dm kc x0 x3 x4 i 4 2 a) a (fun t => (((wadd kc x1 x5 i 0 d t + wadd kc x1 x5 i 1 d t) + wadd kc x1 x5 i 2 d t) + wadd kc x1 x5 i 3 d t)) (valf x1 x5 i d) := by
  generalize hR : att 512 640 (by norm_num) (by norm_num) (dm kc x0 x3 x4 i 4 2 a) a (fun t => (((wadd kc x1 x5 i 0 d t + wadd kc x1 x5 i 1 d t) + wadd kc x1 x5 i 2 d t) + wadd kc x1 x5 i 3 d t)) (valf x1 x5 i d) = R
  generalize hE : (⟨320 + d.val, by omega⟩ : Fin 640) = E
  have hE' : E.val = 320 + d.val := by rw [← hE]
  unfold k0_pay138
  pointwise
  simp only [hE']
  rw [dif_neg (by omega : ¬ 320 + d.val < 160), dif_neg (by omega : ¬ 320 + d.val - 160 < 160), dif_pos (by omega : 320 + d.val - 160 - 160 < 160)]
  have hd : ∀ h, (⟨320 + d.val - 160 - 160, h⟩ : Fin 160) = d := fun h => Fin.ext (by simp only; omega)
  simp only [hd]
  try unfold r_54
  try unfold r_53
  try unfold r_52
  try unfold r_51
  try unfold r_48
  try unfold r_47
  try unfold v537
  try unfold v536
  try unfold v44
  try unfold v423
  try unfold r_46
  try unfold v1036
  try unfold k0_pay137
  try unfold k0_pay136
  try unfold k0_pay135
  try unfold k0_pay134
  try unfold k0_pay133
  try unfold k0_pay132
  try unfold k0_pay131
  try unfold k0_pay130
  pointwise
  have hq : ∀ m : ℕ, m < 640 → m < 2 ^ 31 := fun m hm => by omega
  have hx : ∀ x : Fin 128, x.val < 2 ^ 31 := fun x => by omega
  have hx' : ∀ x : Fin 640, x.val - 512 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt a.val 128 (by omega) (by norm_num), sel_bool, if_pos a.isLt, cmp_le _ _ (hx _) (hx _), cmp_le _ _ (hx' _) (hx _), hqa 2 512 _ _ (by norm_num) (by omega), bits_neg_inf, dite_eq_ite, r_44_at, r_45_at, r_49_at, r_50_at, v1035_at c i arg3 harg3 arg4 harg4 arg7 harg7 arg12 arg13 x1 x2 x5 kc hk, v1037_at, v1061_at c i arg4 harg4 arg6 harg6 arg10 arg11 x2 x4 kc hk, v649_at, v774_at, v783_at, v910_at]
  rw [← hR]
  rfl

open kernelRun0_A.sl in
/-- The output of block 4 of queries in head 3 of the group. -/
theorem out4_3 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (d : Fin 160) :
    k0_pay138 (r_46 c i arg3 harg3 arg4 harg4 arg7 harg7 arg12 arg13 x1 x2 x5) (r_51 c i arg2 harg2 arg3 harg3 arg4 harg4 arg5 harg5 arg6 harg6 arg7 harg7 arg10 arg11 arg12 arg13 x0 x1 x2 x3 x4 x5) (r_52 c i arg2 harg2 arg3 harg3 arg4 harg4 arg5 harg5 arg6 harg6 arg7 harg7 arg10 arg11 arg12 arg13 x0 x1 x2 x3 x4 x5) (r_53 c i arg2 harg2 arg4 harg4 arg5 harg5 arg6 harg6 arg10 arg11 x0 x2 x3 x4) (r_54 c i arg2 harg2 arg4 harg4 arg5 harg5 arg6 harg6 arg10 arg11 x0 x2 x3 x4) (ix3 0 a ⟨480 + d.val, by omega⟩) = att 512 640 (by norm_num) (by norm_num) (dm kc x0 x3 x4 i 4 3 a) a (fun t => (((wadd kc x1 x5 i 0 d t + wadd kc x1 x5 i 1 d t) + wadd kc x1 x5 i 2 d t) + wadd kc x1 x5 i 3 d t)) (valf x1 x5 i d) := by
  generalize hR : att 512 640 (by norm_num) (by norm_num) (dm kc x0 x3 x4 i 4 3 a) a (fun t => (((wadd kc x1 x5 i 0 d t + wadd kc x1 x5 i 1 d t) + wadd kc x1 x5 i 2 d t) + wadd kc x1 x5 i 3 d t)) (valf x1 x5 i d) = R
  generalize hE : (⟨480 + d.val, by omega⟩ : Fin 640) = E
  have hE' : E.val = 480 + d.val := by rw [← hE]
  unfold k0_pay138
  pointwise
  simp only [hE']
  rw [dif_neg (by omega : ¬ 480 + d.val < 160), dif_neg (by omega : ¬ 480 + d.val - 160 < 160), dif_neg (by omega : ¬ 480 + d.val - 160 - 160 < 160)]
  have hd : ∀ h, (⟨480 + d.val - 160 - 160 - 160, h⟩ : Fin 160) = d := fun h => Fin.ext (by simp only; omega)
  simp only [hd]
  try unfold r_54
  try unfold r_53
  try unfold r_52
  try unfold r_51
  try unfold r_48
  try unfold r_47
  try unfold v537
  try unfold v536
  try unfold v44
  try unfold v423
  try unfold r_46
  try unfold v1036
  try unfold k0_pay137
  try unfold k0_pay136
  try unfold k0_pay135
  try unfold k0_pay134
  try unfold k0_pay133
  try unfold k0_pay132
  try unfold k0_pay131
  try unfold k0_pay130
  pointwise
  have hq : ∀ m : ℕ, m < 640 → m < 2 ^ 31 := fun m hm => by omega
  have hx : ∀ x : Fin 128, x.val < 2 ^ 31 := fun x => by omega
  have hx' : ∀ x : Fin 640, x.val - 512 < 2 ^ 31 := fun x => by omega
  have hqa : ∀ (s k : ℕ) (inb) (e : Fin 160) (hs : s < 4) (hm : k + a.val < 640), View.readAt (Elt Ideal) arg5.view (Rect.unit (s := S1x4x160x640) ![0, s, 0, k] ![1, 1, 160, 128] inb).toLoadRect (harg5.unread x3) (ix4 0 0 e a)
      = x3 (ix4 0 ⟨s, hs⟩ e ⟨k + a.val, hm⟩) := fun s k inb e hs hm => q_at arg5 harg5 x3 s k inb e a hs hm
  simp only [cmp_lt (128 + a.val) 128 (by omega) (by norm_num), sel_bool, if_neg (show ¬ 128 + a.val < 128 by omega), cmp_le _ _ (hx _) (hx _), cmp_le _ _ (hx' _) (hx _), hqa 3 512 _ _ (by norm_num) (by omega), bits_neg_inf, dite_eq_ite, r_44_at, r_45_at, r_49_at, r_50_at, v1035_at c i arg3 harg3 arg4 harg4 arg7 harg7 arg12 arg13 x1 x2 x5 kc hk, v1037_at, v1061_at c i arg4 harg4 arg6 harg6 arg10 arg11 x2 x4 kc hk, v649_at, v774_at, v783_at, v910_at]
  rw [← hR]
  rfl

end Cert.KBody
-- ==== Proof.KF.lean ====
/- The folded past of the kernel: the sums over earlier blocks, kept at first occurrences. -/
module

public import proofs.«01_k».proof.Proof.KG
public import proofs.«01_k».proof.Proof.KE0
public import proofs.«01_k».proof.Proof.KE1
public import proofs.«01_k».proof.Proof.KE2
public import proofs.«01_k».proof.Proof.KE3
public import proofs.«01_k».proof.Proof.KE4
public import Idealize.ShloMosaic.Lib.Pipeline.ValueKit

@[expose] public section

set_option maxRecDepth 16384

noncomputable section

namespace Cert.KBody

open Idealize.ShloMosaic Idealize.ShloMosaic.TcCoe Idealize.ShloMosaic.Tactic
open Cert.KernelIdeal Cert.KernelIdeal.Gen

/-- A sum over positions, cut before the last block of 128. -/
theorem sum_block (p : ℕ) (hp : p + 128 ≤ 640) (f : Fin 640 → EReal) :
    ∑ s : Fin (p + 128), f ⟨s.val, by omega⟩ = (∑ s : Fin p, f ⟨s.val, by omega⟩) + ∑ a : Fin 128, f ⟨p + a.val, by omega⟩ :=
  Fin.sum_univ_add (fun s : Fin (p + 128) => f ⟨s.val, by omega⟩)

/-- The values of the positions before `p` with the code of position `t`, counted at the code's first position. -/
def past (kc : Fin 640 → Fin 1024) (V : Fin 640 → EReal) (p : ℕ) (hp : p ≤ 640) (t : Fin 640) : EReal :=
  ∑ s : Fin p, if kc ⟨s.val, by omega⟩ = kc t ∧ ¬ early kc t then V ⟨s.val, by omega⟩ else 0

/-- What one block adds to the folded past: the sum of its values whose code is the one kept there. -/
theorem wadd_eq (kc : Fin 640 → Fin 1024) (x1 : Vec Ideal S3x2x5 .f32) (x5 : Vec Ideal S1x1x160x640 .fp8e4m3) (i : grid0.Coords) (n : Fin 5) (d : Fin 160) (t : Fin 640) :
    wadd kc x1 x5 i n d t = ∑ a : Fin 128, if kc ⟨128 * n.val + a.val, by omega⟩ = kc t ∧ ¬ early kc t then valf x1 x5 i d ⟨128 * n.val + a.val, by omega⟩ else 0 := by
  unfold wadd
  refine Finset.sum_congr rfl fun a _ => ?_
  rw [selm]
  split_ifs
  · rw [mul_one]
  · rw [mul_zero]

/-- Before the first block the past is zero. -/
theorem past_zero (kc : Fin 640 → Fin 1024) (V : Fin 640 → EReal) (t : Fin 640) : past kc V 0 (by omega) t = 0 := by
  simp [past]

/-- The past after one more block is the past before it plus what that block adds. -/
theorem past_step (kc : Fin 640 → Fin 1024) (x1 : Vec Ideal S3x2x5 .f32) (x5 : Vec Ideal S1x1x160x640 .fp8e4m3) (i : grid0.Coords) (n : Fin 5) (p : ℕ) (hp : p + 128 ≤ 640) (hpn : p = 128 * n.val) (d : Fin 160) (t : Fin 640) :
    past kc (valf x1 x5 i d) (p + 128) hp t = past kc (valf x1 x5 i d) p (by omega) t + wadd kc x1 x5 i n d t := by
  subst hpn
  rw [wadd_eq]
  exact sum_block _ hp (fun s => if kc s = kc t ∧ ¬ early kc t then valf x1 x5 i d s else 0)

/-- The values before block 1. -/
theorem past_1 (kc : Fin 640 → Fin 1024) (x1 : Vec Ideal S3x2x5 .f32) (x5 : Vec Ideal S1x1x160x640 .fp8e4m3) (i : grid0.Coords) (d : Fin 160) (t : Fin 640) :
    past kc (valf x1 x5 i d) 128 (by omega) t = wadd kc x1 x5 i 0 d t :=
  (past_step kc x1 x5 i 0 0 (by omega) rfl d t).trans (by rw [past_zero, zero_add])

/-- The values before block 2. -/
theorem past_2 (kc : Fin 640 → Fin 1024) (x1 : Vec Ideal S3x2x5 .f32) (x5 : Vec Ideal S1x1x160x640 .fp8e4m3) (i : grid0.Coords) (d : Fin 160) (t : Fin 640) :
    past kc (valf x1 x5 i d) 256 (by omega) t = wadd kc x1 x5 i 0 d t + wadd kc x1 x5 i 1 d t :=
  (past_step kc x1 x5 i 1 128 (by omega) rfl d t).trans (by rw [past_1])

/-- The values before block 3. -/
theorem past_3 (kc : Fin 640 → Fin 1024) (x1 : Vec Ideal S3x2x5 .f32) (x5 : Vec Ideal S1x1x160x640 .fp8e4m3) (i : grid0.Coords) (d : Fin 160) (t : Fin 640) :
    past kc (valf x1 x5 i d) 384 (by omega) t = wadd kc x1 x5 i 0 d t + wadd kc x1 x5 i 1 d t + wadd kc x1 x5 i 2 d t :=
  (past_step kc x1 x5 i 2 256 (by omega) rfl d t).trans (by rw [past_2])

/-- The values before block 4. -/
theorem past_4 (kc : Fin 640 → Fin 1024) (x1 : Vec Ideal S3x2x5 .f32) (x5 : Vec Ideal S1x1x160x640 .fp8e4m3) (i : grid0.Coords) (d : Fin 160) (t : Fin 640) :
    past kc (valf x1 x5 i d) 512 (by omega) t = wadd kc x1 x5 i 0 d t + wadd kc x1 x5 i 1 d t + wadd kc x1 x5 i 2 d t + wadd kc x1 x5 i 3 d t :=
  (past_step kc x1 x5 i 3 384 (by omega) rfl d t).trans (by rw [past_3])

/-- One entry of the kernel's first output, by block, query and column. -/
def outv (kc : Fin 640 → Fin 1024) (x0 : Vec Ideal S5x2x12 .f32) (x1 : Vec Ideal S3x2x5 .f32) (x3 : Vec Ideal S1x4x160x640 .fp8e4m3) (x4 : Vec Ideal S1x160x1024 .bf16) (x5 : Vec Ideal S1x1x160x640 .fp8e4m3)
    (i : grid0.Coords) (n : Fin 5) (a : Fin 128) (h : Fin 4) (d : Fin 160) : EReal :=
  att (128 * n.val) (128 * n.val + 128) (by omega) rfl (dm kc x0 x3 x4 i n h a) a (past kc (valf x1 x5 i d) (128 * n.val) (by omega)) (valf x1 x5 i d)

/-- A column is a head and a coordinate. -/
theorem col_split (w : Fin 640) : ∃ (h : Fin 4) (d : Fin 160), w.val = 160 * h.val + d.val :=
  ⟨⟨w.val / 160, by omega⟩, ⟨w.val % 160, by omega⟩, by simp only; omega⟩

open kernelRun0_A.sl in
/-- The rows of block 0. -/
theorem rows_0 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (w : Fin 640) (h : Fin 4) (d : Fin 160) (hw : w.val = 160 * h.val + d.val) :
    v631 c i arg2 harg2 arg3 harg3 arg4 harg4 arg5 harg5 arg6 harg6 arg7 harg7 arg10 arg11 arg12 x0 x1 x2 x3 x4 x5 (ix3 0 a w) = outv kc x0 x1 x3 x4 x5 i 0 a h d := by
  rcases (show h = 0 ∨ h = 1 ∨ h = 2 ∨ h = 3 by omega) with rfl | rfl | rfl | rfl
  · rw [show w = ⟨0 + d.val, by omega⟩ from Fin.ext hw]
    refine (out0_0 c i arg2 harg2 arg3 harg3 arg4 harg4 arg5 harg5 arg6 harg6 arg7 harg7 arg10 arg11 arg12 x0 x1 x2 x3 x4 x5 kc hk a d).trans ?_
    exact att0_eq _ a _ _
  · rw [show w = ⟨160 + d.val, by omega⟩ from Fin.ext hw]
    refine (out0_1 c i arg2 harg2 arg3 harg3 arg4 harg4 arg5 harg5 arg6 harg6 arg7 harg7 arg10 arg11 arg12 x0 x1 x2 x3 x4 x5 kc hk a d).trans ?_
    exact att0_eq _ a _ _
  · rw [show w = ⟨320 + d.val, by omega⟩ from Fin.ext hw]
    refine (out0_2 c i arg2 harg2 arg3 harg3 arg4 harg4 arg5 harg5 arg6 harg6 arg7 harg7 arg10 arg11 arg12 x0 x1 x2 x3 x4 x5 kc hk a d).trans ?_
    exact att0_eq _ a _ _
  · rw [show w = ⟨480 + d.val, by omega⟩ from Fin.ext hw]
    refine (out0_3 c i arg2 harg2 arg3 harg3 arg4 harg4 arg5 harg5 arg6 harg6 arg7 harg7 arg10 arg11 arg12 x0 x1 x2 x3 x4 x5 kc hk a d).trans ?_
    exact att0_eq _ a _ _

open kernelRun0_A.sl in
/-- The rows of block 1. -/
theorem rows_1 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (w : Fin 640) (h : Fin 4) (d : Fin 160) (hw : w.val = 160 * h.val + d.val) :
    v756 c i arg2 harg2 arg3 harg3 arg4 harg4 arg5 harg5 arg6 harg6 arg7 harg7 arg10 arg11 arg12 arg13 x0 x1 x2 x3 x4 x5 (ix3 0 a w) = outv kc x0 x1 x3 x4 x5 i 1 a h d := by
  rcases (show h = 0 ∨ h = 1 ∨ h = 2 ∨ h = 3 by omega) with rfl | rfl | rfl | rfl
  · rw [show w = ⟨0 + d.val, by omega⟩ from Fin.ext hw]
    refine (out1_0 c i arg2 harg2 arg3 harg3 arg4 harg4 arg5 harg5 arg6 harg6 arg7 harg7 arg10 arg11 arg12 arg13 x0 x1 x2 x3 x4 x5 kc hk a d).trans ?_
    exact congrArg (fun W => att 128 256 _ _ _ a W _) (funext fun t => (past_1 kc x1 x5 i d t).symm)
  · rw [show w = ⟨160 + d.val, by omega⟩ from Fin.ext hw]
    refine (out1_1 c i arg2 harg2 arg3 harg3 arg4 harg4 arg5 harg5 arg6 harg6 arg7 harg7 arg10 arg11 arg12 arg13 x0 x1 x2 x3 x4 x5 kc hk a d).trans ?_
    exact congrArg (fun W => att 128 256 _ _ _ a W _) (funext fun t => (past_1 kc x1 x5 i d t).symm)
  · rw [show w = ⟨320 + d.val, by omega⟩ from Fin.ext hw]
    refine (out1_2 c i arg2 harg2 arg3 harg3 arg4 harg4 arg5 harg5 arg6 harg6 arg7 harg7 arg10 arg11 arg12 arg13 x0 x1 x2 x3 x4 x5 kc hk a d).trans ?_
    exact congrArg (fun W => att 128 256 _ _ _ a W _) (funext fun t => (past_1 kc x1 x5 i d t).symm)
  · rw [show w = ⟨480 + d.val, by omega⟩ from Fin.ext hw]
    refine (out1_3 c i arg2 harg2 arg3 harg3 arg4 harg4 arg5 harg5 arg6 harg6 arg7 harg7 arg10 arg11 arg12 arg13 x0 x1 x2 x3 x4 x5 kc hk a d).trans ?_
    exact congrArg (fun W => att 128 256 _ _ _ a W _) (funext fun t => (past_1 kc x1 x5 i d t).symm)

open kernelRun0_A.sl in
/-- The rows of block 2. -/
theorem rows_2 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (w : Fin 640) (h : Fin 4) (d : Fin 160) (hw : w.val = 160 * h.val + d.val) :
    k0_pay116 v536 (v784 c i arg3 harg3 arg4 harg4 arg7 harg7 arg12 arg13 x1 x2 x5) (r_29 c i arg2 harg2 arg3 harg3 arg4 harg4 arg5 harg5 arg6 harg6 arg7 harg7 arg10 arg11 arg12 arg13 x0 x1 x2 x3 x4 x5) (r_30 c i arg2 harg2 arg3 harg3 arg4 harg4 arg5 harg5 arg6 harg6 arg7 harg7 arg10 arg11 arg12 arg13 x0 x1 x2 x3 x4 x5) (r_31 c arg5 harg5 x3) (k0_pay115 v537) (r_32 c i arg2 harg2 x0) (r_33 c i arg2 harg2 x0) (v807 c i arg4 harg4 arg6 harg6 arg10 arg11 x2 x4) (ix3 0 a w) = outv kc x0 x1 x3 x4 x5 i 2 a h d := by
  rcases (show h = 0 ∨ h = 1 ∨ h = 2 ∨ h = 3 by omega) with rfl | rfl | rfl | rfl
  · rw [show w = ⟨0 + d.val, by omega⟩ from Fin.ext hw]
    refine (out2_0 c i arg2 harg2 arg3 harg3 arg4 harg4 arg5 harg5 arg6 harg6 arg7 harg7 arg10 arg11 arg12 arg13 x0 x1 x2 x3 x4 x5 kc hk a d).trans ?_
    exact congrArg (fun W => att 256 384 _ _ _ a W _) (funext fun t => (past_2 kc x1 x5 i d t).symm)
  · rw [show w = ⟨160 + d.val, by omega⟩ from Fin.ext hw]
    refine (out2_1 c i arg2 harg2 arg3 harg3 arg4 harg4 arg5 harg5 arg6 harg6 arg7 harg7 arg10 arg11 arg12 arg13 x0 x1 x2 x3 x4 x5 kc hk a d).trans ?_
    exact congrArg (fun W => att 256 384 _ _ _ a W _) (funext fun t => (past_2 kc x1 x5 i d t).symm)
  · rw [show w = ⟨320 + d.val, by omega⟩ from Fin.ext hw]
    refine (out2_2 c i arg2 harg2 arg3 harg3 arg4 harg4 arg5 harg5 arg6 harg6 arg7 harg7 arg10 arg11 arg12 arg13 x0 x1 x2 x3 x4 x5 kc hk a d).trans ?_
    exact congrArg (fun W => att 256 384 _ _ _ a W _) (funext fun t => (past_2 kc x1 x5 i d t).symm)
  · rw [show w = ⟨480 + d.val, by omega⟩ from Fin.ext hw]
    refine (out2_3 c i arg2 harg2 arg3 harg3 arg4 harg4 arg5 harg5 arg6 harg6 arg7 harg7 arg10 arg11 arg12 arg13 x0 x1 x2 x3 x4 x5 kc hk a d).trans ?_
    exact congrArg (fun W => att 256 384 _ _ _ a W _) (funext fun t => (past_2 kc x1 x5 i d t).symm)

open kernelRun0_A.sl in
/-- The rows of block 3. -/
theorem rows_3 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (w : Fin 640) (h : Fin 4) (d : Fin 160) (hw : w.val = 160 * h.val + d.val) :
    v1010 c i arg2 harg2 arg3 harg3 arg4 harg4 arg5 harg5 arg6 harg6 arg7 harg7 arg10 arg11 arg12 arg13 x0 x1 x2 x3 x4 x5 (ix3 0 a w) = outv kc x0 x1 x3 x4 x5 i 3 a h d := by
  rcases (show h = 0 ∨ h = 1 ∨ h = 2 ∨ h = 3 by omega) with rfl | rfl | rfl | rfl
  · rw [show w = ⟨0 + d.val, by omega⟩ from Fin.ext hw]
    refine (out3_0 c i arg2 harg2 arg3 harg3 arg4 harg4 arg5 harg5 arg6 harg6 arg7 harg7 arg10 arg11 arg12 arg13 x0 x1 x2 x3 x4 x5 kc hk a d).trans ?_
    exact congrArg (fun W => att 384 512 _ _ _ a W _) (funext fun t => (past_3 kc x1 x5 i d t).symm)
  · rw [show w = ⟨160 + d.val, by omega⟩ from Fin.ext hw]
    refine (out3_1 c i arg2 harg2 arg3 harg3 arg4 harg4 arg5 harg5 arg6 harg6 arg7 harg7 arg10 arg11 arg12 arg13 x0 x1 x2 x3 x4 x5 kc hk a d).trans ?_
    exact congrArg (fun W => att 384 512 _ _ _ a W _) (funext fun t => (past_3 kc x1 x5 i d t).symm)
  · rw [show w = ⟨320 + d.val, by omega⟩ from Fin.ext hw]
    refine (out3_2 c i arg2 harg2 arg3 harg3 arg4 harg4 arg5 harg5 arg6 harg6 arg7 harg7 arg10 arg11 arg12 arg13 x0 x1 x2 x3 x4 x5 kc hk a d).trans ?_
    exact congrArg (fun W => att 384 512 _ _ _ a W _) (funext fun t => (past_3 kc x1 x5 i d t).symm)
  · rw [show w = ⟨480 + d.val, by omega⟩ from Fin.ext hw]
    refine (out3_3 c i arg2 harg2 arg3 harg3 arg4 harg4 arg5 harg5 arg6 harg6 arg7 harg7 arg10 arg11 arg12 arg13 x0 x1 x2 x3 x4 x5 kc hk a d).trans ?_
    exact congrArg (fun W => att 384 512 _ _ _ a W _) (funext fun t => (past_3 kc x1 x5 i d t).symm)

open kernelRun0_A.sl in
/-- The rows of block 4. -/
theorem rows_4 (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg10 : Memref sig .tc .vmem S640x1024 .bf16) (arg11 : Memref sig .tc .vmem S640x160 .bf16) (arg12 : Memref sig .tc .vmem S160x640 .bf16) (arg13 : Memref sig .tc .vmem S160x512 .f32) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3) (kc : Fin 640 → Fin 1024) (hk : ∀ t, x2 (ix3 0 (bI i) t) = BitVec.ofNat 32 (kc t).val) (a : Fin 128) (w : Fin 640) (h : Fin 4) (d : Fin 160) (hw : w.val = 160 * h.val + d.val) :
    k0_pay138 (r_46 c i arg3 harg3 arg4 harg4 arg7 harg7 arg12 arg13 x1 x2 x5) (r_51 c i arg2 harg2 arg3 harg3 arg4 harg4 arg5 harg5 arg6 harg6 arg7 harg7 arg10 arg11 arg12 arg13 x0 x1 x2 x3 x4 x5) (r_52 c i arg2 harg2 arg3 harg3 arg4 harg4 arg5 harg5 arg6 harg6 arg7 harg7 arg10 arg11 arg12 arg13 x0 x1 x2 x3 x4 x5) (r_53 c i arg2 harg2 arg4 harg4 arg5 harg5 arg6 harg6 arg10 arg11 x0 x2 x3 x4) (r_54 c i arg2 harg2 arg4 harg4 arg5 harg5 arg6 harg6 arg10 arg11 x0 x2 x3 x4) (ix3 0 a w) = outv kc x0 x1 x3 x4 x5 i 4 a h d := by
  rcases (show h = 0 ∨ h = 1 ∨ h = 2 ∨ h = 3 by omega) with rfl | rfl | rfl | rfl
  · rw [show w = ⟨0 + d.val, by omega⟩ from Fin.ext hw]
    refine (out4_0 c i arg2 harg2 arg3 harg3 arg4 harg4 arg5 harg5 arg6 harg6 arg7 harg7 arg10 arg11 arg12 arg13 x0 x1 x2 x3 x4 x5 kc hk a d).trans ?_
    exact congrArg (fun W => att 512 640 _ _ _ a W _) (funext fun t => (past_4 kc x1 x5 i d t).symm)
  · rw [show w = ⟨160 + d.val, by omega⟩ from Fin.ext hw]
    refine (out4_1 c i arg2 harg2 arg3 harg3 arg4 harg4 arg5 harg5 arg6 harg6 arg7 harg7 arg10 arg11 arg12 arg13 x0 x1 x2 x3 x4 x5 kc hk a d).trans ?_
    exact congrArg (fun W => att 512 640 _ _ _ a W _) (funext fun t => (past_4 kc x1 x5 i d t).symm)
  · rw [show w = ⟨320 + d.val, by omega⟩ from Fin.ext hw]
    refine (out4_2 c i arg2 harg2 arg3 harg3 arg4 harg4 arg5 harg5 arg6 harg6 arg7 harg7 arg10 arg11 arg12 arg13 x0 x1 x2 x3 x4 x5 kc hk a d).trans ?_
    exact congrArg (fun W => att 512 640 _ _ _ a W _) (funext fun t => (past_4 kc x1 x5 i d t).symm)
  · rw [show w = ⟨480 + d.val, by omega⟩ from Fin.ext hw]
    refine (out4_3 c i arg2 harg2 arg3 harg3 arg4 harg4 arg5 harg5 arg6 harg6 arg7 harg7 arg10 arg11 arg12 arg13 x0 x1 x2 x3 x4 x5 kc hk a d).trans ?_
    exact congrArg (fun W => att 512 640 _ _ _ a W _) (funext fun t => (past_4 kc x1 x5 i d t).symm)

end Cert.KBody
-- ==== Proof.RD.lean ====
/- The reference's loop, block after block: the invariant. -/
module

public import proofs.«01_k».proof.Proof.RB0
public import proofs.«01_k».proof.Proof.RB1
public import proofs.«01_k».proof.Proof.RCA
public import proofs.«01_k».proof.Proof.KF

@[expose] public section

set_option maxRecDepth 16384

noncomputable section

namespace Cert.RBody

open Idealize.ShloMosaic Idealize.ShloMosaic.TcCoe Idealize.ShloMosaic.Tactic Idealize.ShloMosaic.StableHlo
open Cert.ReferenceIdeal Cert.ReferenceIdeal.Gen Cert.ReferenceIdeal.Value
open Cert.KBody (att att_eq past early sum_block)

/-- The score scale's ideal value. -/
abbrev sig0 : EReal := (((Real.sqrt 160)⁻¹ : ℝ) : EReal)

/-- The score of query `a` of block `n` and head `4k+g` against code `e` of head `k`. -/
def xsA (a0 : S2x640x12x160.Idx → EReal) (a1 : S2x5x12.Idx → EReal) (a3 : S3x1024x160.Idx → EReal) (b : Fin 2) (k : Fin 3) (g : Fin 4) (n : Fin 5) (a : Fin 128) (e : Fin 1024) : EReal :=
  (∑ d : Fin 160, a3 (ix3 k e d) * a0 (ix4 b ⟨128 * n.val + a.val, by omega⟩ ⟨4 * k.val + g.val, by omega⟩ d)) * (a1 (ix3 b n ⟨4 * k.val + g.val, by omega⟩) * sig0)

/-- The value at a position: its code times its block's scale. -/
def vA (a4 : S2x640x3x160.Idx → EReal) (a5 : S2x5x3.Idx → EReal) (b : Fin 2) (k : Fin 3) (d : Fin 160) (t : Fin 640) : EReal :=
  a4 (ix4 b t k d) * a5 (ix3 b ⟨t.val / 128, by omega⟩ k)

/-- The attention result at query `a` of block `n`, head `4k+g`, coordinate `d`. -/
def resA (a0 : S2x640x12x160.Idx → EReal) (a1 : S2x5x12.Idx → EReal) (a3 : S3x1024x160.Idx → EReal) (a4 : S2x640x3x160.Idx → EReal) (a5 : S2x5x3.Idx → EReal) (kc : Fin 2 → Fin 3 → Fin 640 → Fin 1024)
    (b : Fin 2) (n : Fin 5) (a : Fin 128) (k : Fin 3) (g : Fin 4) (d : Fin 160) : EReal :=
  att (128 * n.val) (128 * n.val + 128) (by omega) rfl (fun t => xsA a0 a1 a3 b k g n a (kc b k t) * (((Real.log 2)⁻¹ : ℝ) : EReal)) a
    (past (kc b k) (vA a4 a5 b k d) (128 * n.val) (by omega)) (vA a4 a5 b k d)

/-- What the loop carries before trip `p`. -/
structure Inv (a0 : S2x640x12x160.Idx → EReal) (a1 : S2x5x12.Idx → EReal) (a3 : S3x1024x160.Idx → EReal) (a4 : S2x640x3x160.Idx → EReal) (a5 : S2x5x3.Idx → EReal) (kc : Fin 2 → Fin 3 → Fin 640 → Fin 1024)
    (p : ℕ) (hp : p ≤ 5) (V : Valuation τ sig (Elt Ideal)) : Prop where
  q : ∀ (n : Fin 5) (b : Fin 2) (t : Fin 128) (h : Fin 12) (d : Fin 160), Qv V (ix5 n b t h d) = a0 (ix4 b ⟨128 * n.val + t.val, by omega⟩ h d)
  qs : ∀ (n : Fin 5) (b : Fin 2) (h : Fin 12), QSv V (ix3 n b h) = a1 (ix3 b n h)
  kk : ∀ (n : Fin 5) (b : Fin 2) (t : Fin 128) (k : Fin 3), Kv V (ix4 n b t k) = BitVec.ofNat 32 (kc b k ⟨128 * n.val + t.val, by omega⟩).val
  v : ∀ (n : Fin 5) (b : Fin 2) (t : Fin 128) (k : Fin 3) (d : Fin 160), VBv V (ix5 n b t k d) = a4 (ix4 b ⟨128 * n.val + t.val, by omega⟩ k d)
  vs : ∀ (n : Fin 5) (b : Fin 2) (k : Fin 3), VSv V (ix3 n b k) = a5 (ix3 b n k)
  cb : CBv V = a3
  sc : SCv V ix0 = sig0
  ca : ∀ t j : Fin 128, CAv V (ix2 t j) = BitVec.ofBool (decide (j.val ≤ t.val))
  ctr : V (Proc.devRef .tc main_v16_8) = fun _ => BitVec.ofNat 32 p
  u : ∀ (b : Fin 2) (k : Fin 3) (e : Fin 1024) (d : Fin 160), Uv V (ix4 b k e d) = ∑ s : Fin (128 * p), if kc b k ⟨s.val, by omega⟩ = e then vA a4 a5 b k d ⟨s.val, by omega⟩ else 0
  cn : ∀ (b : Fin 2) (k : Fin 3) (e : Fin 1024), CNv V (ix3 b k e) = ∑ s : Fin (128 * p), if kc b k ⟨s.val, by omega⟩ = e then (1 : EReal) else 0
  o : ∀ (m : Fin 5), m.val < p → ∀ (b : Fin 2) (t : Fin 128) (k : Fin 3) (g : Fin 4) (d : Fin 160), Ov V (ix4 m b t ⟨160 * (4 * k.val + g.val) + d.val, by omega⟩) = resA a0 a1 a3 a4 a5 kc b m t k g d

section
variable (a0 : S2x640x12x160.Idx → EReal) (a1 : S2x5x12.Idx → EReal) (a3 : S3x1024x160.Idx → EReal) (a4 : S2x640x3x160.Idx → EReal) (a5 : S2x5x3.Idx → EReal) (kc : Fin 2 → Fin 3 → Fin 640 → Fin 1024)
variable (h5 : ∀ i, 0 ≤ a5 i ∧ a5 i ≠ ⊤) (n : Fin 5) (V : Valuation τ sig (Elt Ideal)) (H : Inv a0 a1 a3 a4 a5 kc n.val (Nat.le_of_lt n.isLt) V)
include H

/-- The scores of a trip. -/
theorem xs_inv (b : Fin 2) (k : Fin 3) (g : Fin 4) (t : Fin 128) (e : Fin 1024) : xs V b k g t e = xsA a0 a1 a3 b k g n t e := by
  refine (v34_at V n H.ctr b k g t e).trans ?_
  unfold xsA
  rw [H.cb, H.qs, H.sc]
  simp only [H.q]

/-- A block's value is its code times the block's scale. -/
theorem vA_block (b : Fin 2) (k : Fin 3) (d : Fin 160) (j : Fin 128) : vA a4 a5 b k d ⟨128 * n.val + j.val, by omega⟩ = a4 (ix4 b ⟨128 * n.val + j.val, by omega⟩ k d) * a5 (ix3 b n k) := by
  have e : (⟨(128 * n.val + j.val) / 128, by omega⟩ : Fin 5) = n := Fin.ext (by simp only; omega)
  unfold vA
  rw [e]

include h5

/-- One trip keeps what the loop carries. -/
theorem inv_step (p : ℕ) (hp : p = n.val + 1) (hp5 : p ≤ 5) : Inv a0 a1 a3 a4 a5 kc p hp5 (STEP V) := by
  have hK : ∀ b t k, Kv V (ix4 n b t k) = BitVec.ofNat 32 ((fun b k t => kc b k ⟨128 * n.val + t.val, by omega⟩ : Fin 2 → Fin 3 → Fin 128 → Fin 1024) b k t).val := fun b t k => H.kk n b t k
  have h128 : 128 * p = 128 * n.val + 128 := by omega
  subst hp
  refine ⟨fun n' b t h d => ?_, fun n' b h => ?_, fun n' b t k => ?_, fun n' b t k d => ?_, fun n' b k => ?_, ?_, ?_, fun t j => ?_, ?_, fun b k e d => ?_, fun b k e => ?_, fun m hm b t k g d => ?_⟩
  · exact (congrFun (STEP_main_v16_0 V) _).trans (H.q n' b t h d)
  · exact (congrFun (STEP_main_v16_1 V) _).trans (H.qs n' b h)
  · exact (congrFun (STEP_main_v16_2 V) _).trans (H.kk n' b t k)
  · exact (congrFun (STEP_main_v16_3 V) _).trans (H.v n' b t k d)
  · exact (congrFun (STEP_main_v16_4 V) _).trans (H.vs n' b k)
  · exact (STEP_main_v16_5 V).trans H.cb
  · exact (congrFun (STEP_main_v16_6 V) _).trans H.sc
  · exact (congrFun (STEP_main_v16_7 V) _).trans (H.ca t j)
  · refine (STEP_main_v16_8 V).trans ?_
    unfold step_main_v16_8
    rw [id_eq, H.ctr]
    funext i
    exact (BitVec.ofNat_add n.val 1).symm
  · refine (congrFun (STEP_main_v16_9 V) _).trans ?_
    refine (step9_at V n H.ctr _ hK H.ca b k e d).trans ?_
    rw [H.u, H.vs, Cert.Core.sum_mul_nn _ _ _ (h5 _).1 (h5 _).2]
    refine Eq.trans ?_ (sum_block (128 * n.val) (by omega) (fun s => if kc b k s = e then vA a4 a5 b k d s else 0)).symm
    refine congrArg₂ (· + ·) rfl (Finset.sum_congr rfl fun j _ => ?_)
    rw [vA_block a0 a1 a3 a4 a5 kc n V H, H.v]
    split_ifs <;> simp
  · refine (congrFun (STEP_main_v16_10 V) _).trans ?_
    refine (step10_at V n H.ctr _ hK H.ca b k e).trans ?_
    rw [H.cn]
    exact (sum_block (128 * n.val) (by omega) (fun s => if kc b k s = e then (1 : EReal) else 0)).symm
  · refine (congrFun (STEP_main_v16_11 V) _).trans ?_
    refine (step11_at V n H.ctr m b t k g d).trans ?_
    by_cases hmn : m = n
    · subst hmn
      rw [if_pos rfl, H.vs]
      simp only [H.v]
      refine Eq.symm ?_
      unfold resA
      refine att_eq (128 * m.val) (128 * m.val + 128) (by omega) rfl (kc b k) (xsA a0 a1 a3 b k g m t) _ (fun _ => rfl) t _ _ (fun j => a4 (ix4 b ⟨128 * m.val + j.val, by omega⟩ k d)) (a5 (ix3 b m k)) (h5 _).1 (h5 _).2
        (fun j => vA_block a0 a1 a3 a4 a5 kc m V H b k d j) (fun s => rfl) (fun e => CNv V (ix3 b k e)) (fun e => Uv V (ix4 b k e d)) (fun e => H.cn b k e) (fun e => H.u b k e d)
        ((res_main_while0b_v49 V : S2x3x4x128x1.Idx → EReal) (ix5 b k g t 0)) ?_ (ee V b k g t) (fun j => ?_) (gg V b k g t) (fun e => ?_) (rr V b k g t) ?_
      · refine (v49_at V m H.ctr _ hK H.ca b k g t).trans ?_
        simp only [xs_inv a0 a1 a3 a4 a5 kc m V H]
      · refine (v53_at V m H.ctr _ hK H.ca b k g t j).trans ?_
        simp only [xs_inv a0 a1 a3 a4 a5 kc m V H]
      · refine (v57_at V m H.ctr _ hK H.ca b k g t e).trans ?_
        simp only [xs_inv a0 a1 a3 a4 a5 kc m V H]
      · exact v66_at V m H.ctr _ hK H.ca b k g t
    · rw [if_neg hmn]
      exact H.o m (by have : m.val ≠ n.val := fun h => hmn (Fin.ext h); omega) b t k g d
end

section
variable (a0 : S2x640x12x160.Idx → EReal) (a1 : S2x5x12.Idx → EReal) (a3 : S3x1024x160.Idx → EReal) (a4 : S2x640x3x160.Idx → EReal) (a5 : S2x5x3.Idx → EReal) (kc : Fin 2 → Fin 3 → Fin 640 → Fin 1024)
variable (h5 : ∀ i, 0 ≤ a5 i ∧ a5 i ≠ ⊤) (V : Valuation τ sig (Elt Ideal)) (H : Inv a0 a1 a3 a4 a5 kc 0 (Nat.zero_le 5) V)
include h5 H

/-- After `p` trips. -/
theorem inv_iter (p : ℕ) : ∀ hp : p ≤ 5, Inv a0 a1 a3 a4 a5 kc p hp (STEP^[p] V) := by
  induction p with
  | zero => exact fun _ => H
  | succ p ih =>
    intro hp
    rw [Function.iterate_succ_apply']
    exact inv_step a0 a1 a3 a4 a5 kc h5 ⟨p, by omega⟩ _ (ih (by omega)) (p + 1) rfl hp

/-- The attention result of the whole program. -/
theorem out19 (b : Fin 2) (n : Fin 5) (t : Fin 128) (k : Fin 3) (g : Fin 4) (d : Fin 160) (x : Fin 640) (hx : x.val = 128 * n.val + t.val) (w : Fin 1920) (hw : w.val = 160 * (4 * k.val + g.val) + d.val) :
    (out_main_v19 (STEP^[5] V) : S2x640x1920.Idx → EReal) (ix3 b x w) = resA a0 a1 a3 a4 a5 kc b n t k g d := by
  unfold out_main_v19
  pointwise
  refine Eq.trans ?_ ((inv_iter a0 a1 a3 a4 a5 kc h5 V H 5 (by omega)).o n n.isLt b t k g d)
  refine congrArg _ ?_
  have e1 : x.val / 128 = n.val := by omega
  have e2 : x.val % 128 = t.val := by omega
  congr 1
  · exact Fin.ext e1
  · exact Fin.ext e2
  · exact Fin.ext hw

/-- The sums of the values of each code. -/
theorem out20 (b : Fin 2) (k : Fin 3) (d : Fin 160) (e : Fin 1024) :
    (out_main_v20 (STEP^[5] V) : S2x3x160x1024.Idx → EReal) (ix4 b k d e) = ∑ s : Fin 640, if kc b k s = e then vA a4 a5 b k d s else 0 := by
  unfold out_main_v20
  pointwise
  exact (inv_iter a0 a1 a3 a4 a5 kc h5 V H 5 (by omega)).u b k e d
end
end Cert.RBody
-- ==== Proof.RP0.lean ====
/- Reading the reference's host operations that come before the decoding call. -/
module

public import proofs.«01_k».proof.Proof.Gen.ReferenceIdeal.Run
public import proofs.«01_k».proof.Proof.RB
public import Idealize.ShloMosaic.PureOps.Ideal
public import Idealize.ShloMosaic.Lib.Pointwise
public import Idealize.ShloMosaic.Lib.StableHlo.RunRead
public import Idealize.ShloMosaic.Lib.Pipeline.ValueKit
public import Idealize.ShloMosaic.Lib.Tactic.CleanTypes

@[expose] public section

set_option maxRecDepth 16384

noncomputable section

namespace Cert.RBody

open Idealize.ShloMosaic Idealize.ShloMosaic.TcCoe Idealize.ShloMosaic.Tactic Idealize.ShloMosaic.StableHlo
open Cert.ReferenceIdeal Cert.ReferenceIdeal.Gen Cert.ReferenceIdeal.Value

/-- A line of operations read at a buffer that its operation `i` is the last to write. -/
theorem read_at0 {ops : List (HloOp τ sig (Elt Ideal))} (i : ℕ) (op : HloOp τ sig (Elt Ideal)) (W : List (Ref sig .tc)) {r : Ref sig .tc}
    (hseg : ops.drop i = op :: ops.drop (i + 1)) (hW : (ops.drop (i + 1)).map HloOp.writes = W.map fun w => {Proc.devRef (τ := τ) .tc w}) (hr : r ∉ W)
    (V : Valuation τ sig (Elt Ideal)) : after ops V (Proc.devRef .tc r) = op.result (after (ops.take i) V) (Proc.devRef .tc r) :=
  after_last_write W hseg hW hr V

/-- The blocks of one argument. -/
theorem pre0_v2 (V : Valuation τ sig (Elt Ideal)) : StableHlo.after hostOps1 V (Proc.devRef .tc main_v2) = transpose S5x2x128x12x160 [1, 0, 2, 3, 4] (shapeCast S2x5x128x12x160 (V (Proc.devRef .tc main_v0_0)) shapeCasts_S2x640x12x160_S2x5x128x12x160) transposes_S2x5x128x12x160_S5x2x128x12x160_1_0_2_3_4 := by
  refine (read_at0 1 (StableHlo.unary main_v1 main_v2 ((transpose S5x2x128x12x160 [1, 0, 2, 3, 4] · transposes_S2x5x128x12x160_S5x2x128x12x160_1_0_2_3_4) : (⟨S2x5x128x12x160, .bf16⟩ : BufTy).Contents (Elt Ideal) → (⟨S5x2x128x12x160, .bf16⟩ : BufTy).Contents (Elt Ideal))) [main_v3, main_v4, main_v5, main_v6, main_v7, main_v8, main_c, main_v9] rfl rfl (by decide) V).trans ?_
  refine (unary_result _ _ _ _ _ _).trans ?_
  refine congrArg (fun x => transpose _ _ x _) ?_
  refine (read_at0 (ops := hostOps1.take 1) 0 (StableHlo.reshape main_v0_0 main_v1 (rfl : (.bf16 : EltTy) = .bf16) shapeCasts_S2x640x12x160_S2x5x128x12x160) [] rfl rfl (by decide) V).trans ?_
  refine (reshape_result _ _ _ _ _ _ _).trans ?_
  refine congrArg (fun x => shapeCast _ x _) ?_
  exact after_unwritten (ops := (hostOps1.take 1).take 0) [] rfl (by decide) V

/-- The blocks of one argument. -/
theorem pre0_v4 (V : Valuation τ sig (Elt Ideal)) : StableHlo.after hostOps1 V (Proc.devRef .tc main_v4) = transpose S5x2x128x3 [1, 0, 2, 3] (shapeCast S2x5x128x3 (V (Proc.devRef .tc main_arg2)) shapeCasts_S2x640x3_S2x5x128x3) transposes_S2x5x128x3_S5x2x128x3_1_0_2_3 := by
  refine (read_at0 3 (StableHlo.unary main_v3 main_v4 ((transpose S5x2x128x3 [1, 0, 2, 3] · transposes_S2x5x128x3_S5x2x128x3_1_0_2_3) : (⟨S2x5x128x3, .i32⟩ : BufTy).Contents (Elt Ideal) → (⟨S5x2x128x3, .i32⟩ : BufTy).Contents (Elt Ideal))) [main_v5, main_v6, main_v7, main_v8, main_c, main_v9] rfl rfl (by decide) V).trans ?_
  refine (unary_result _ _ _ _ _ _).trans ?_
  refine congrArg (fun x => transpose _ _ x _) ?_
  refine (read_at0 (ops := hostOps1.take 3) 2 (StableHlo.reshape main_arg2 main_v3 (rfl : (.i32 : EltTy) = .i32) shapeCasts_S2x640x3_S2x5x128x3) [] rfl rfl (by decide) V).trans ?_
  refine (reshape_result _ _ _ _ _ _ _).trans ?_
  refine congrArg (fun x => shapeCast _ x _) ?_
  exact after_unwritten (ops := (hostOps1.take 3).take 2) [main_v1, main_v2] rfl (by decide) V

/-- The blocks of one argument. -/
theorem pre0_v6 (V : Valuation τ sig (Elt Ideal)) : StableHlo.after hostOps1 V (Proc.devRef .tc main_v6) = transpose S5x2x128x3x160 [1, 0, 2, 3, 4] (shapeCast S2x5x128x3x160 (V (Proc.devRef .tc main_v0_1)) shapeCasts_S2x640x3x160_S2x5x128x3x160) transposes_S2x5x128x3x160_S5x2x128x3x160_1_0_2_3_4 := by
  refine (read_at0 5 (StableHlo.unary main_v5 main_v6 ((transpose S5x2x128x3x160 [1, 0, 2, 3, 4] · transposes_S2x5x128x3x160_S5x2x128x3x160_1_0_2_3_4) : (⟨S2x5x128x3x160, .bf16⟩ : BufTy).Contents (Elt Ideal) → (⟨S5x2x128x3x160, .bf16⟩ : BufTy).Contents (Elt Ideal))) [main_v7, main_v8, main_c, main_v9] rfl rfl (by decide) V).trans ?_
  refine (unary_result _ _ _ _ _ _).trans ?_
  refine congrArg (fun x => transpose _ _ x _) ?_
  refine (read_at0 (ops := hostOps1.take 5) 4 (StableHlo.reshape main_v0_1 main_v5 (rfl : (.bf16 : EltTy) = .bf16) shapeCasts_S2x640x3x160_S2x5x128x3x160) [] rfl rfl (by decide) V).trans ?_
  refine (reshape_result _ _ _ _ _ _ _).trans ?_
  refine congrArg (fun x => shapeCast _ x _) ?_
  exact after_unwritten (ops := (hostOps1.take 5).take 4) [main_v1, main_v2, main_v3, main_v4] rfl (by decide) V

/-- The blocks of one argument. -/
theorem pre0_v7 (V : Valuation τ sig (Elt Ideal)) : StableHlo.after hostOps1 V (Proc.devRef .tc main_v7) = transpose S5x2x12 [1, 0, 2] (V (Proc.devRef .tc main_arg1)) transposes_S2x5x12_S5x2x12_1_0_2 := by
  refine (read_at0 6 (StableHlo.unary main_arg1 main_v7 ((transpose S5x2x12 [1, 0, 2] · transposes_S2x5x12_S5x2x12_1_0_2) : (⟨S2x5x12, .f32⟩ : BufTy).Contents (Elt Ideal) → (⟨S5x2x12, .f32⟩ : BufTy).Contents (Elt Ideal))) [main_v8, main_c, main_v9] rfl rfl (by decide) V).trans ?_
  refine (unary_result _ _ _ _ _ _).trans ?_
  refine congrArg (fun x => transpose _ _ x _) ?_
  exact after_unwritten (ops := hostOps1.take 6) [main_v1, main_v2, main_v3, main_v4, main_v5, main_v6] rfl (by decide) V

/-- The blocks of one argument. -/
theorem pre0_v8 (V : Valuation τ sig (Elt Ideal)) : StableHlo.after hostOps1 V (Proc.devRef .tc main_v8) = transpose S5x2x3 [1, 0, 2] (V (Proc.devRef .tc main_arg5)) transposes_S2x5x3_S5x2x3_1_0_2 := by
  refine (read_at0 7 (StableHlo.unary main_arg5 main_v8 ((transpose S5x2x3 [1, 0, 2] · transposes_S2x5x3_S5x2x3_1_0_2) : (⟨S2x5x3, .f32⟩ : BufTy).Contents (Elt Ideal) → (⟨S5x2x3, .f32⟩ : BufTy).Contents (Elt Ideal))) [main_c, main_v9] rfl rfl (by decide) V).trans ?_
  refine (unary_result _ _ _ _ _ _).trans ?_
  refine congrArg (fun x => transpose _ _ x _) ?_
  exact after_unwritten (ops := hostOps1.take 7) [main_v1, main_v2, main_v3, main_v4, main_v5, main_v6, main_v7] rfl (by decide) V

/-- The all-true matrix. -/
theorem pre0_v9 (V : Valuation τ sig (Elt Ideal)) : StableHlo.after hostOps1 V (Proc.devRef .tc main_v9) = broadcastInDim S128x128 ![] bcast_S_S128x128 (constantI S_ 1 1#1) := by
  refine (read_at0 9 (StableHlo.unary main_c main_v9 (broadcastInDim S128x128 ![] bcast_S_S128x128 : (⟨S_, .i1⟩ : BufTy).Contents (Elt Ideal) → (⟨S128x128, .i1⟩ : BufTy).Contents (Elt Ideal))) [] rfl rfl (by decide) V).trans ?_
  refine (unary_result _ _ _ _ _ _).trans ?_
  refine congrArg (fun x : S_.Idx → BitVec 1 => broadcastInDim S128x128 ![] bcast_S_S128x128 x) ?_
  refine (read_at0 (ops := hostOps1.take 9) 8 (StableHlo.nullary main_c (constantI S_ 1 1#1)) [] rfl rfl (by decide) V).trans ?_
  exact nullary_result _ _ _ _

/-- The lower triangle. -/
theorem pre1 (V : Valuation τ sig (Elt Ideal)) :
    StableHlo.after hostOps1_1 V (Proc.devRef .tc main_v10) = select (cmpi .sge (addi (iotaInDim S128x128 32 0) (broadcastInDim S128x128 ![] bcast_S_S128x128 (constantI S_ 32 0#32))) (iotaInDim S128x128 32 1)) (V (Proc.devRef .tc main_v9) : S128x128.Idx → BitVec 1) (broadcastInDim S128x128 ![] bcast_S_S128x128 (constantI S_ 1 0#1)) := by
  after_results
  rfl

end Cert.RBody
-- ==== Proof.RP2.lean ====
/- Reading the reference's host operations between the decoding call and the loop. -/
module

public import proofs.«01_k».proof.Proof.Gen.ReferenceIdeal.Run
public import proofs.«01_k».proof.Proof.RB
public import Idealize.ShloMosaic.PureOps.Ideal
public import Idealize.ShloMosaic.Lib.Pointwise
public import Idealize.ShloMosaic.Lib.StableHlo.RunRead
public import Idealize.ShloMosaic.Lib.Pipeline.ValueKit
public import Idealize.ShloMosaic.Lib.Tactic.CleanTypes

@[expose] public section

set_option maxRecDepth 16384

noncomputable section

namespace Cert.RBody

open Idealize.ShloMosaic Idealize.ShloMosaic.TcCoe Idealize.ShloMosaic.Tactic Idealize.ShloMosaic.StableHlo
open Cert.ReferenceIdeal Cert.ReferenceIdeal.Gen Cert.ReferenceIdeal.Value

/-- A line of operations read at a buffer that its operation `i` is the last to write. -/
theorem read_at {ops : List (HloOp τ sig (Elt Ideal))} (i : ℕ) (op : HloOp τ sig (Elt Ideal)) (W : List (Ref sig .tc)) {r : Ref sig .tc}
    (hseg : ops.drop i = op :: ops.drop (i + 1)) (hW : (ops.drop (i + 1)).map HloOp.writes = W.map fun w => {Proc.devRef (τ := τ) .tc w}) (hr : r ∉ W)
    (V : Valuation τ sig (Elt Ideal)) : after ops V (Proc.devRef .tc r) = op.result (after (ops.take i) V) (Proc.devRef .tc r) :=
  after_last_write W hseg hW hr V

/-- What the last line before the loop leaves in one carried buffer. -/
theorem pre2_0 (V : Valuation τ sig (Elt Ideal)) : StableHlo.after hostOps1_2 V (Proc.devRef .tc main_v16_0) = V (Proc.devRef .tc main_v2) := by
  refine (read_at 11 (StableHlo.unary main_v2 main_v16_0 id) [main_v16_1, main_v16_2, main_v16_3, main_v16_4, main_v16_5, main_v16_6, main_v16_7, main_v16_8, main_v16_9, main_v16_10, main_v16_11] rfl rfl (by decide) V).trans ?_
  refine (unary_result _ _ _ _ _ _).trans ?_
  exact after_unwritten (ops := hostOps1_2.take 11) [main_cst, main_v11, main_cst_0, main_v12, main_cst_1, main_v13, main_cst_2, main_v14, main_cst_3, main_v15, main_c_4] rfl (by decide) V

/-- What the last line before the loop leaves in one carried buffer. -/
theorem pre2_1 (V : Valuation τ sig (Elt Ideal)) : StableHlo.after hostOps1_2 V (Proc.devRef .tc main_v16_1) = V (Proc.devRef .tc main_v7) := by
  refine (read_at 12 (StableHlo.unary main_v7 main_v16_1 id) [main_v16_2, main_v16_3, main_v16_4, main_v16_5, main_v16_6, main_v16_7, main_v16_8, main_v16_9, main_v16_10, main_v16_11] rfl rfl (by decide) V).trans ?_
  refine (unary_result _ _ _ _ _ _).trans ?_
  exact after_unwritten (ops := hostOps1_2.take 12) [main_cst, main_v11, main_cst_0, main_v12, main_cst_1, main_v13, main_cst_2, main_v14, main_cst_3, main_v15, main_c_4, main_v16_0] rfl (by decide) V

/-- What the last line before the loop leaves in one carried buffer. -/
theorem pre2_2 (V : Valuation τ sig (Elt Ideal)) : StableHlo.after hostOps1_2 V (Proc.devRef .tc main_v16_2) = V (Proc.devRef .tc main_v4) := by
  refine (read_at 13 (StableHlo.unary main_v4 main_v16_2 id) [main_v16_3, main_v16_4, main_v16_5, main_v16_6, main_v16_7, main_v16_8, main_v16_9, main_v16_10, main_v16_11] rfl rfl (by decide) V).trans ?_
  refine (unary_result _ _ _ _ _ _).trans ?_
  exact after_unwritten (ops := hostOps1_2.take 13) [main_cst, main_v11, main_cst_0, main_v12, main_cst_1, main_v13, main_cst_2, main_v14, main_cst_3, main_v15, main_c_4, main_v16_0, main_v16_1] rfl (by decide) V

/-- What the last line before the loop leaves in one carried buffer. -/
theorem pre2_3 (V : Valuation τ sig (Elt Ideal)) : StableHlo.after hostOps1_2 V (Proc.devRef .tc main_v16_3) = V (Proc.devRef .tc main_v6) := by
  refine (read_at 14 (StableHlo.unary main_v6 main_v16_3 id) [main_v16_4, main_v16_5, main_v16_6, main_v16_7, main_v16_8, main_v16_9, main_v16_10, main_v16_11] rfl rfl (by decide) V).trans ?_
  refine (unary_result _ _ _ _ _ _).trans ?_
  exact after_unwritten (ops := hostOps1_2.take 14) [main_cst, main_v11, main_cst_0, main_v12, main_cst_1, main_v13, main_cst_2, main_v14, main_cst_3, main_v15, main_c_4, main_v16_0, main_v16_1, main_v16_2] rfl (by decide) V

/-- What the last line before the loop leaves in one carried buffer. -/
theorem pre2_4 (V : Valuation τ sig (Elt Ideal)) : StableHlo.after hostOps1_2 V (Proc.devRef .tc main_v16_4) = V (Proc.devRef .tc main_v8) := by
  refine (read_at 15 (StableHlo.unary main_v8 main_v16_4 id) [main_v16_5, main_v16_6, main_v16_7, main_v16_8, main_v16_9, main_v16_10, main_v16_11] rfl rfl (by decide) V).trans ?_
  refine (unary_result _ _ _ _ _ _).trans ?_
  exact after_unwritten (ops := hostOps1_2.take 15) [main_cst, main_v11, main_cst_0, main_v12, main_cst_1, main_v13, main_cst_2, main_v14, main_cst_3, main_v15, main_c_4, main_v16_0, main_v16_1, main_v16_2, main_v16_3] rfl (by decide) V

/-- What the last line before the loop leaves in one carried buffer. -/
theorem pre2_5 (V : Valuation τ sig (Elt Ideal)) : StableHlo.after hostOps1_2 V (Proc.devRef .tc main_v16_5) = V (Proc.devRef .tc main_arg3) := by
  refine (read_at 16 (StableHlo.unary main_arg3 main_v16_5 id) [main_v16_6, main_v16_7, main_v16_8, main_v16_9, main_v16_10, main_v16_11] rfl rfl (by decide) V).trans ?_
  refine (unary_result _ _ _ _ _ _).trans ?_
  exact after_unwritten (ops := hostOps1_2.take 16) [main_cst, main_v11, main_cst_0, main_v12, main_cst_1, main_v13, main_cst_2, main_v14, main_cst_3, main_v15, main_c_4, main_v16_0, main_v16_1, main_v16_2, main_v16_3, main_v16_4] rfl (by decide) V

/-- What the last line before the loop leaves in one carried buffer. -/
theorem pre2_7 (V : Valuation τ sig (Elt Ideal)) : StableHlo.after hostOps1_2 V (Proc.devRef .tc main_v16_7) = V (Proc.devRef .tc main_v10) := by
  refine (read_at 18 (StableHlo.unary main_v10 main_v16_7 id) [main_v16_8, main_v16_9, main_v16_10, main_v16_11] rfl rfl (by decide) V).trans ?_
  refine (unary_result _ _ _ _ _ _).trans ?_
  exact after_unwritten (ops := hostOps1_2.take 18) [main_cst, main_v11, main_cst_0, main_v12, main_cst_1, main_v13, main_cst_2, main_v14, main_cst_3, main_v15, main_c_4, main_v16_0, main_v16_1, main_v16_2, main_v16_3, main_v16_4, main_v16_5, main_v16_6] rfl (by decide) V

/-- The zeros the loop starts from. -/
theorem pre2_9 (V : Valuation τ sig (Elt Ideal)) : StableHlo.after hostOps1_2 V (Proc.devRef .tc main_v16_9) = (broadcastInDim S2x3x1024x160 ![] bcast_S_S2x3x1024x160 (constant (F := Ideal) S_ .f32 0x00000000#32) : S2x3x1024x160.Idx → EReal) := by
  refine (read_at 20 (StableHlo.unary main_v13 main_v16_9 id) [main_v16_10, main_v16_11] rfl rfl (by decide) V).trans ?_
  refine (unary_result _ _ _ _ _ _).trans ?_
  refine (read_at (ops := hostOps1_2.take 20) 5 (StableHlo.unary main_cst_1 main_v13 (broadcastInDim S2x3x1024x160 ![] bcast_S_S2x3x1024x160 : (⟨S_, .f32⟩ : BufTy).Contents (Elt Ideal) → (⟨S2x3x1024x160, .f32⟩ : BufTy).Contents (Elt Ideal))) [main_cst_2, main_v14, main_cst_3, main_v15, main_c_4, main_v16_0, main_v16_1, main_v16_2, main_v16_3, main_v16_4, main_v16_5, main_v16_6, main_v16_7, main_v16_8] rfl rfl (by decide) V).trans ?_
  refine (unary_result _ _ _ _ _ _).trans ?_
  refine congrArg (fun x : S_.Idx → EReal => broadcastInDim S2x3x1024x160 ![] bcast_S_S2x3x1024x160 x) ?_
  refine (read_at (ops := (hostOps1_2.take 20).take 5) 4 (StableHlo.nullary main_cst_1 (constant (F := Ideal) S_ .f32 0x00000000#32)) [] rfl rfl (by decide) V).trans ?_
  exact nullary_result _ _ _ _

/-- The zeros the loop starts from. -/
theorem pre2_10 (V : Valuation τ sig (Elt Ideal)) : StableHlo.after hostOps1_2 V (Proc.devRef .tc main_v16_10) = (broadcastInDim S2x3x1024 ![] bcast_S_S2x3x1024 (constant (F := Ideal) S_ .f32 0x00000000#32) : S2x3x1024.Idx → EReal) := by
  refine (read_at 21 (StableHlo.unary main_v14 main_v16_10 id) [main_v16_11] rfl rfl (by decide) V).trans ?_
  refine (unary_result _ _ _ _ _ _).trans ?_
  refine (read_at (ops := hostOps1_2.take 21) 7 (StableHlo.unary main_cst_2 main_v14 (broadcastInDim S2x3x1024 ![] bcast_S_S2x3x1024 : (⟨S_, .f32⟩ : BufTy).Contents (Elt Ideal) → (⟨S2x3x1024, .f32⟩ : BufTy).Contents (Elt Ideal))) [main_cst_3, main_v15, main_c_4, main_v16_0, main_v16_1, main_v16_2, main_v16_3, main_v16_4, main_v16_5, main_v16_6, main_v16_7, main_v16_8, main_v16_9] rfl rfl (by decide) V).trans ?_
  refine (unary_result _ _ _ _ _ _).trans ?_
  refine congrArg (fun x : S_.Idx → EReal => broadcastInDim S2x3x1024 ![] bcast_S_S2x3x1024 x) ?_
  refine (read_at (ops := (hostOps1_2.take 21).take 7) 6 (StableHlo.nullary main_cst_2 (constant (F := Ideal) S_ .f32 0x00000000#32)) [] rfl rfl (by decide) V).trans ?_
  exact nullary_result _ _ _ _

/-- The score scale. -/
theorem pre2_6 (V : Valuation τ sig (Elt Ideal)) : StableHlo.after hostOps1_2 V (Proc.devRef .tc main_v16_6) = (Host.divf (constant (F := Ideal) S_ .f32 0x3F800000#32) (Host.sqrt (constant (F := Ideal) S_ .f32 0x43200000#32)) : S_.Idx → EReal) := by
  refine (read_at 17 (StableHlo.unary main_v12 main_v16_6 id) [main_v16_7, main_v16_8, main_v16_9, main_v16_10, main_v16_11] rfl rfl (by decide) V).trans ?_
  refine (unary_result _ _ _ _ _ _).trans ?_
  refine (read_at (ops := hostOps1_2.take 17) 3 (StableHlo.binary main_cst_0 main_v11 main_v12 (Host.divf (F := Ideal) (s := S_) (φ := .f32))) [main_cst_1, main_v13, main_cst_2, main_v14, main_cst_3, main_v15, main_c_4, main_v16_0, main_v16_1, main_v16_2, main_v16_3, main_v16_4, main_v16_5] rfl rfl (by decide) V).trans ?_
  refine (binary_result _ _ _ _ _ _ _ _).trans ?_
  refine congrArg₂ (Host.divf (F := Ideal)) ?_ ?_
  · refine (read_at (ops := (hostOps1_2.take 17).take 3) 2 (StableHlo.nullary main_cst_0 (constant (F := Ideal) S_ .f32 0x3F800000#32)) [] rfl rfl (by decide) V).trans ?_
    exact nullary_result _ _ _ _
  · refine (read_at (ops := (hostOps1_2.take 17).take 3) 1 (StableHlo.unary main_cst main_v11 (Host.sqrt (F := Ideal) (s := S_) (φ := .f32))) [main_cst_0] rfl rfl (by decide) V).trans ?_
    refine (unary_result _ _ _ _ _ _).trans ?_
    refine congrArg (Host.sqrt (F := Ideal)) ?_
    refine (read_at (ops := ((hostOps1_2.take 17).take 3).take 1) 0 (StableHlo.nullary main_cst (constant (F := Ideal) S_ .f32 0x43200000#32)) [] rfl rfl (by decide) V).trans ?_
    exact nullary_result _ _ _ _

end Cert.RBody
-- ==== Proof.RC1.lean ====
/- What the reference's loop is given: the decoded arguments, cut into blocks. -/
module

public import proofs.«01_k».proof.Proof.Gen.ReferenceIdeal.Run
public import proofs.«01_k».proof.Proof.RP0
public import proofs.«01_k».proof.Proof.RCA
public import proofs.«01_k».proof.Proof.RP2
public import Idealize.ShloMosaic.PureOps.Ideal
public import Idealize.ShloMosaic.Lib.Pointwise
public import Idealize.ShloMosaic.Lib.StableHlo.RunRead
public import Idealize.ShloMosaic.Lib.Pipeline.ValueKit
public import Idealize.ShloMosaic.Lib.Tactic.CleanTypes

@[expose] public section

set_option maxRecDepth 16384

noncomputable section

namespace Cert.RBody

open Idealize.ShloMosaic Idealize.ShloMosaic.TcCoe Idealize.ShloMosaic.Tactic Idealize.ShloMosaic.StableHlo
open Cert.ReferenceIdeal Cert.ReferenceIdeal.Gen Cert.ReferenceIdeal.Value

section
variable (m : (ℓ : Loc nD τ sig) → Buf (Elt Ideal) ℓ) (ρ : Dev nD → PrngReg) (c : Dev nD)

/-- The query codes, decoded. -/
theorem dec_q : W1 m ρ c (Proc.devRef .tc main_v0_0) = A0 m c := by
  refine (W1_arr m ρ c 2).trans ?_
  refine (dat0 (V0 m ρ) c).arrAt_eq_of_covers 2 _ (by decide +kernel) fun t hf y => ?_
  blk_simp
  rw [after0_2]
  unfold out0_2
  rw [View.canon_unit_zero (by funext a; fin_cases a <;> rfl)]
  unfold k0_pay1
  rw [View.ld_unit_zero (by funext a; fin_cases a <;> rfl)]
  refine (?_ : iblk0 (V0 m ρ) c 0 t y = A0 m c ((win0_2.blk t).view.emb y))
  have k := (by decide +kernel : ∀ t : Fin grid0.N, win0_0.index t = win0_2.index t) t
  blk_ext [iblk0]
  all_goals rw [k]

/-- The value codes, decoded. -/
theorem dec_v : W1 m ρ c (Proc.devRef .tc main_v0_1) = A4 m c := by
  refine (W1_arr m ρ c 3).trans ?_
  refine (dat0 (V0 m ρ) c).arrAt_eq_of_covers 3 _ (by decide +kernel) fun t hf y => ?_
  blk_simp
  rw [after0_3]
  unfold out0_3
  rw [View.canon_unit_zero (by funext a; fin_cases a <;> rfl)]
  unfold k0_pay2
  rw [View.ld_unit_zero (by funext a; fin_cases a <;> rfl)]
  refine (?_ : iblk0 (V0 m ρ) c 1 t y = A4 m c ((win0_3.blk t).view.emb y))
  have k := (by decide +kernel : ∀ t : Fin grid0.N, win0_1.index t = win0_3.index t) t
  blk_ext [iblk0]
  all_goals rw [k]

/-- The queries by blocks. -/
theorem went_q (n : Fin 5) (b : Fin 2) (t : Fin 128) (h : Fin 12) (d : Fin 160) :
    Qv (Went m ρ c) (ix5 n b t h d) = A0 m c (ix4 b ⟨128 * n.val + t.val, by omega⟩ h d) := by
  have e := (pre2_0 (W3 m ρ c)).trans ((W3_of m ρ c main_v2 (by decide)).trans (pre0_v2 (W1 m ρ c)))
  refine (congrFun e (ix5 n b t h d)).trans ?_
  pointwise
  refine (congrFun (dec_q m ρ c) _).trans ?_
  congr 2
  exact Fin.ext (by simp only; omega)

/-- The query scales by blocks. -/
theorem went_qs (n : Fin 5) (b : Fin 2) (h : Fin 12) :
    QSv (Went m ρ c) (ix3 n b h) = A1 m c (ix3 b n h) := by
  have e := (pre2_1 (W3 m ρ c)).trans ((W3_of m ρ c main_v7 (by decide)).trans (pre0_v7 (W1 m ρ c)))
  refine (congrFun e (ix3 n b h)).trans ?_
  pointwise
  exact congrFun (W1_args m ρ c main_arg1 (by decide)) _

/-- The key codes by blocks. -/
theorem went_k (n : Fin 5) (b : Fin 2) (t : Fin 128) (k : Fin 3) :
    Kv (Went m ρ c) (ix4 n b t k) = A2 m c (ix3 b ⟨128 * n.val + t.val, by omega⟩ k) := by
  have e := (pre2_2 (W3 m ρ c)).trans ((W3_of m ρ c main_v4 (by decide)).trans (pre0_v4 (W1 m ρ c)))
  refine (congrFun e (ix4 n b t k)).trans ?_
  pointwise
  refine (congrFun (W1_args m ρ c main_arg2 (by decide)) _).trans ?_
  congr 2
  exact Fin.ext (by simp only; omega)

/-- The values by blocks. -/
theorem went_v (n : Fin 5) (b : Fin 2) (t : Fin 128) (k : Fin 3) (d : Fin 160) :
    VBv (Went m ρ c) (ix5 n b t k d) = A4 m c (ix4 b ⟨128 * n.val + t.val, by omega⟩ k d) := by
  have e := (pre2_3 (W3 m ρ c)).trans ((W3_of m ρ c main_v6 (by decide)).trans (pre0_v6 (W1 m ρ c)))
  refine (congrFun e (ix5 n b t k d)).trans ?_
  pointwise
  refine (congrFun (dec_v m ρ c) _).trans ?_
  congr 2
  exact Fin.ext (by simp only; omega)

/-- The value scales by blocks. -/
theorem went_vs (n : Fin 5) (b : Fin 2) (k : Fin 3) :
    VSv (Went m ρ c) (ix3 n b k) = A5 m c (ix3 b n k) := by
  have e := (pre2_4 (W3 m ρ c)).trans ((W3_of m ρ c main_v8 (by decide)).trans (pre0_v8 (W1 m ρ c)))
  refine (congrFun e (ix3 n b k)).trans ?_
  pointwise
  exact congrFun (W1_args m ρ c main_arg5 (by decide)) _

end
end Cert.RBody
-- ==== Proof.RC2.lean ====
/- What the reference's loop starts from: the codebook, the scale, the mask and the zero carry. -/
module

public import proofs.«01_k».proof.Proof.Gen.ReferenceIdeal.Run
public import proofs.«01_k».proof.Proof.RP0
public import proofs.«01_k».proof.Proof.RCA
public import proofs.«01_k».proof.Proof.RP2
public import Idealize.ShloMosaic.PureOps.Ideal
public import Idealize.ShloMosaic.Lib.Pointwise
public import Idealize.ShloMosaic.Lib.StableHlo.RunRead
public import Idealize.ShloMosaic.Lib.Pipeline.ValueKit
public import Idealize.ShloMosaic.Lib.Tactic.CleanTypes

@[expose] public section

set_option maxRecDepth 16384

noncomputable section

namespace Cert.RBody

open Idealize.ShloMosaic Idealize.ShloMosaic.TcCoe Idealize.ShloMosaic.Tactic Idealize.ShloMosaic.StableHlo
open Cert.ReferenceIdeal Cert.ReferenceIdeal.Gen Cert.ReferenceIdeal.Value

section
variable (m : (ℓ : Loc nD τ sig) → Buf (Elt Ideal) ℓ) (ρ : Dev nD → PrngReg) (c : Dev nD)

/-- The codebook. -/
theorem went_cb : CBv (Went m ρ c) = A3 m c :=
  (pre2_5 (W3 m ρ c)).trans (W3_args m ρ c main_arg3 (by decide))

/-- The bits of 160. -/
theorem bits_160 : Ideal.ofBits FTy.f32 0x43200000#32 = ((160 : ℝ) : EReal) := by
  simp only [Ideal.ofBits]
  unfold Ideal.ieee
  have h1 : (0x43200000#32 : BitVec 32).extractLsb' 23 8 = 134#8 := by decide +kernel
  have h2 : (0x43200000#32 : BitVec 32).extractLsb' 0 23 = 2097152#23 := by decide +kernel
  have h3 : (0x43200000#32 : BitVec 32).extractLsb' 31 1 = 0#1 := by decide +kernel
  norm_num [h1, h2, h3]

/-- The score scale: one over the square root of the head size. -/
theorem went_sc : SCv (Went m ρ c) ix0 = (((Real.sqrt 160)⁻¹ : ℝ) : EReal) := by
  refine (congrFun (pre2_6 (W3 m ρ c)) ix0).trans ?_
  pointwise
  rw [bits_160]
  rw [show Ideal.sqrt ((160 : ℝ) : EReal) = ((Real.sqrt 160 : ℝ) : EReal) from by rw [Ideal.sqrt_coe, if_neg (by norm_num)]]
  unfold Ideal.div
  rw [if_neg, one_mul, EReal.coe_inv]
  have : (0 : ℝ) < Real.sqrt 160 := by positivity
  exact_mod_cast this.ne'

/-- The causal mask. -/
theorem went_ca (t j : Fin 128) : CAv (Went m ρ c) (ix2 t j) = BitVec.ofBool (decide (j.val ≤ t.val)) := by
  have e := (pre2_7 (W3 m ρ c)).trans (pre1 (W2 m ρ c))
  have e9 := pre0_v9 (W1 m ρ c)
  refine (congrFun e (ix2 t j)).trans ?_
  pointwise
  have h1 : IntOp.cmpi CmpIPredicate.sge (IntOp.addi (BitVec.ofNat 32 t.val) 0#32) (BitVec.ofNat 32 j.val) = BitVec.ofBool (decide (j.val ≤ t.val)) := by
    revert t j
    decide +kernel
  rw [h1]
  by_cases h : j.val ≤ t.val <;> simp [h] <;> rfl

/-- The loop starts from no values. -/
theorem went_u (i : S2x3x1024x160.Idx) : Uv (Went m ρ c) i = 0 :=
  (congrFun (pre2_9 (W3 m ρ c)) i).trans Ideal.ofBits_zero_f32

/-- The loop starts from no counts. -/
theorem went_cn (i : S2x3x1024.Idx) : CNv (Went m ρ c) i = 0 :=
  (congrFun (pre2_10 (W3 m ρ c)) i).trans Ideal.ofBits_zero_f32
end
end Cert.RBody
-- ==== Proof.RE.lean ====
/- The reference's two results as functions of its arguments. -/
module

public import proofs.«01_k».proof.Proof.RD
public import proofs.«01_k».proof.Proof.RC1
public import proofs.«01_k».proof.Proof.RC2

@[expose] public section

set_option maxRecDepth 16384

noncomputable section

namespace Cert.RBody

open Idealize.ShloMosaic Idealize.ShloMosaic.TcCoe Idealize.ShloMosaic.Tactic Idealize.ShloMosaic.StableHlo
open Cert.ReferenceIdeal Cert.ReferenceIdeal.Gen Cert.ReferenceIdeal.Value

/-- The attention result of the whole program as one array. -/
def resArr (a0 : S2x640x12x160.Idx → EReal) (a1 : S2x5x12.Idx → EReal) (a3 : S3x1024x160.Idx → EReal) (a4 : S2x640x3x160.Idx → EReal) (a5 : S2x5x3.Idx → EReal) (kc : Fin 2 → Fin 3 → Fin 640 → Fin 1024)
    (b : Fin 2) (x : Fin 640) (w : Fin 1920) : EReal :=
  resA a0 a1 a3 a4 a5 kc b ⟨x.val / 128, by omega⟩ ⟨x.val % 128, by omega⟩ ⟨w.val / 640, by omega⟩ ⟨w.val % 640 / 160, by omega⟩ ⟨w.val % 160, by omega⟩

section
variable (m : (ℓ : Loc nD τ sig) → Buf (Elt Ideal) ℓ) (ρ : Dev nD → PrngReg) (c : Dev nD)
variable (kc : Fin 2 → Fin 3 → Fin 640 → Fin 1024) (hk : ∀ b k t, A2 m c (ix3 b t k) = BitVec.ofNat 32 (kc b k t).val)

include hk

/-- What the loop starts from. -/
theorem start : Inv (A0 m c) (A1 m c) (A3 m c) (A4 m c) (A5 m c) kc 0 (Nat.zero_le 5) (Went m ρ c) where
  q := went_q m ρ c
  qs := went_qs m ρ c
  kk n b t k := (went_k m ρ c n b t k).trans (hk b k _)
  v := went_v m ρ c
  vs := went_vs m ρ c
  cb := went_cb m ρ c
  sc := went_sc m ρ c
  ca := went_ca m ρ c
  ctr := ctr_entry m ρ c
  u b k e d := (went_u m ρ c _).trans (by simp)
  cn b k e := (went_cn m ρ c _).trans (by simp)
  o m hm := absurd hm (Nat.not_lt_zero _)

variable (h5 : ∀ i, 0 ≤ A5 m c i ∧ A5 m c i ≠ ⊤)
include h5

/-- The reference's attention result. -/
theorem ref_out (b : Fin 2) (x : Fin 640) (w : Fin 1920) :
    (WN m ρ c (Proc.devRef .tc main_v19) : S2x640x1920.Idx → EReal) (ix3 b x w) = resArr (A0 m c) (A1 m c) (A3 m c) (A4 m c) (A5 m c) kc b x w := by
  refine (congrFun (final_main_v19 m ρ c) _).trans ?_
  exact out19 (A0 m c) (A1 m c) (A3 m c) (A4 m c) (A5 m c) kc h5 _ (start m ρ c kc hk) b _ _ _ _ _ x (by simp only; omega) w (by simp only; omega)

/-- The reference's sums. -/
theorem ref_u (b : Fin 2) (k : Fin 3) (d : Fin 160) (e : Fin 1024) :
    (WN m ρ c (Proc.devRef .tc main_v20) : S2x3x160x1024.Idx → EReal) (ix4 b k d e) = ∑ s : Fin 640, if kc b k s = e then vA (A4 m c) (A5 m c) b k d s else 0 := by
  refine (congrFun (final_main_v20 m ρ c) _).trans ?_
  exact out20 (A0 m c) (A1 m c) (A3 m c) (A4 m c) (A5 m c) kc h5 _ (start m ρ c kc hk) b k d e
end
end Cert.RBody
-- ==== Proof.KH0.lean ====
/- What the host operations before the kernel call leave: the arguments, transposed. -/
module

public import proofs.«01_k».proof.Proof.KF
public import Idealize.ShloMosaic.Lib.StableHlo.RunRead
public import Idealize.ShloMosaic.Lib.Pipeline.ValueKit

@[expose] public section

set_option maxRecDepth 16384

noncomputable section

namespace Cert.KBody

open Idealize.ShloMosaic Idealize.ShloMosaic.TcCoe Idealize.ShloMosaic.Tactic Idealize.ShloMosaic.StableHlo
open Cert.KernelIdeal Cert.KernelIdeal.Gen

section
variable (m : (ℓ : Loc nD τ sig) → Buf (Elt Ideal) ℓ) (c : Dev nD)

/-- The query codes. -/
abbrev B0 : S2x640x12x160.Idx → EReal := m ((c : Thread nD τ).loc main_arg0)
/-- The query scales. -/
abbrev B1 : S2x5x12.Idx → EReal := m ((c : Thread nD τ).loc main_arg1)
/-- The key codes. -/
abbrev B2 : S2x640x3.Idx → BitVec 32 := m ((c : Thread nD τ).loc main_arg2)
/-- The codebook. -/
abbrev B3 : S3x1024x160.Idx → EReal := m ((c : Thread nD τ).loc main_arg3)
/-- The value codes. -/
abbrev B4 : S2x640x3x160.Idx → EReal := m ((c : Thread nD τ).loc main_arg4)
/-- The value scales. -/
abbrev B5 : S2x5x3.Idx → EReal := m ((c : Thread nD τ).loc main_arg5)

/-- A line of operations read at a buffer that its operation `i` is the last to write. -/
theorem read_at {ops : List (HloOp τ sig (Elt Ideal))} (i : ℕ) (op : HloOp τ sig (Elt Ideal)) (W : List (Ref sig .tc)) {r : Ref sig .tc}
    (hseg : ops.drop i = op :: ops.drop (i + 1)) (hW : (ops.drop (i + 1)).map HloOp.writes = W.map fun w => {Proc.devRef (τ := τ) .tc w}) (hr : r ∉ W)
    (V : Valuation τ sig (Elt Ideal)) : after ops V (Proc.devRef .tc r) = op.result (after (ops.take i) V) (Proc.devRef .tc r) :=
  after_last_write W hseg hW hr V

/-- An argument, transposed. -/
theorem host_0 (b : Fin 2) (h : Fin 12) (e : Fin 160) (s : Fin 640) : (V m c main_v0 : S2x12x160x640.Idx → EReal) (ix4 b h e s) = B0 m c (ix4 b s h e) := by
  have e : V m c main_v0 = transpose S2x12x160x640 [0, 2, 3, 1] (B0 m c) transposes_S2x640x12x160_S2x12x160x640_0_2_3_1 := by
    refine (read_at 0 (StableHlo.unary main_arg0 main_v0 ((transpose S2x12x160x640 [0, 2, 3, 1] · transposes_S2x640x12x160_S2x12x160x640_0_2_3_1) : (⟨S2x640x12x160, .fp8e4m3⟩ : BufTy).Contents (Elt Ideal) → (⟨S2x12x160x640, .fp8e4m3⟩ : BufTy).Contents (Elt Ideal))) [main_v1, main_v2, main_v3, main_v4, main_v5] rfl rfl (by decide) _).trans ?_
    refine (unary_result _ _ _ _ _ _).trans ?_
    exact congrArg (fun x => transpose S2x12x160x640 [0, 2, 3, 1] x transposes_S2x640x12x160_S2x12x160x640_0_2_3_1) (after_unwritten (ops := hostOps0.take 0) [] rfl (by decide) _)
  refine (congrFun e _).trans ?_
  pointwise

/-- An argument, transposed. -/
theorem host_1 (b : Fin 2) (h : Fin 3) (e : Fin 160) (s : Fin 640) : (V m c main_v1 : S2x3x160x640.Idx → EReal) (ix4 b h e s) = B4 m c (ix4 b s h e) := by
  have e : V m c main_v1 = transpose S2x3x160x640 [0, 2, 3, 1] (B4 m c) transposes_S2x640x3x160_S2x3x160x640_0_2_3_1 := by
    refine (read_at 1 (StableHlo.unary main_arg4 main_v1 ((transpose S2x3x160x640 [0, 2, 3, 1] · transposes_S2x640x3x160_S2x3x160x640_0_2_3_1) : (⟨S2x640x3x160, .fp8e4m3⟩ : BufTy).Contents (Elt Ideal) → (⟨S2x3x160x640, .fp8e4m3⟩ : BufTy).Contents (Elt Ideal))) [main_v2, main_v3, main_v4, main_v5] rfl rfl (by decide) _).trans ?_
    refine (unary_result _ _ _ _ _ _).trans ?_
    exact congrArg (fun x => transpose S2x3x160x640 [0, 2, 3, 1] x transposes_S2x640x3x160_S2x3x160x640_0_2_3_1) (after_unwritten (ops := hostOps0.take 1) [main_v0] rfl (by decide) _)
  refine (congrFun e _).trans ?_
  pointwise

/-- An argument, transposed. -/
theorem host_2 (k : Fin 3) (d : Fin 160) (e : Fin 1024) : (V m c main_v2 : S3x160x1024.Idx → EReal) (ix3 k d e) = B3 m c (ix3 k e d) := by
  have e : V m c main_v2 = transpose S3x160x1024 [0, 2, 1] (B3 m c) transposes_S3x1024x160_S3x160x1024_0_2_1 := by
    refine (read_at 2 (StableHlo.unary main_arg3 main_v2 ((transpose S3x160x1024 [0, 2, 1] · transposes_S3x1024x160_S3x160x1024_0_2_1) : (⟨S3x1024x160, .bf16⟩ : BufTy).Contents (Elt Ideal) → (⟨S3x160x1024, .bf16⟩ : BufTy).Contents (Elt Ideal))) [main_v3, main_v4, main_v5] rfl rfl (by decide) _).trans ?_
    refine (unary_result _ _ _ _ _ _).trans ?_
    exact congrArg (fun x => transpose S3x160x1024 [0, 2, 1] x transposes_S3x1024x160_S3x160x1024_0_2_1) (after_unwritten (ops := hostOps0.take 2) [main_v0, main_v1] rfl (by decide) _)
  refine (congrFun e _).trans ?_
  pointwise

/-- An argument, transposed. -/
theorem host_3 (k : Fin 3) (b : Fin 2) (s : Fin 640) : (V m c main_v3 : S3x2x640.Idx → BitVec 32) (ix3 k b s) = B2 m c (ix3 b s k) := by
  have e : V m c main_v3 = transpose S3x2x640 [2, 0, 1] (B2 m c) transposes_S2x640x3_S3x2x640_2_0_1 := by
    refine (read_at 3 (StableHlo.unary main_arg2 main_v3 ((transpose S3x2x640 [2, 0, 1] · transposes_S2x640x3_S3x2x640_2_0_1) : (⟨S2x640x3, .i32⟩ : BufTy).Contents (Elt Ideal) → (⟨S3x2x640, .i32⟩ : BufTy).Contents (Elt Ideal))) [main_v4, main_v5] rfl rfl (by decide) _).trans ?_
    refine (unary_result _ _ _ _ _ _).trans ?_
    exact congrArg (fun x => transpose S3x2x640 [2, 0, 1] x transposes_S2x640x3_S3x2x640_2_0_1) (after_unwritten (ops := hostOps0.take 3) [main_v0, main_v1, main_v2] rfl (by decide) _)
  refine (congrFun e _).trans ?_
  pointwise

/-- An argument, transposed. -/
theorem host_4 (n : Fin 5) (b : Fin 2) (h : Fin 12) : (V m c main_v4 : S5x2x12.Idx → EReal) (ix3 n b h) = B1 m c (ix3 b n h) := by
  have e : V m c main_v4 = transpose S5x2x12 [1, 0, 2] (B1 m c) transposes_S2x5x12_S5x2x12_1_0_2 := by
    refine (read_at 4 (StableHlo.unary main_arg1 main_v4 ((transpose S5x2x12 [1, 0, 2] · transposes_S2x5x12_S5x2x12_1_0_2) : (⟨S2x5x12, .f32⟩ : BufTy).Contents (Elt Ideal) → (⟨S5x2x12, .f32⟩ : BufTy).Contents (Elt Ideal))) [main_v5] rfl rfl (by decide) _).trans ?_
    refine (unary_result _ _ _ _ _ _).trans ?_
    exact congrArg (fun x => transpose S5x2x12 [1, 0, 2] x transposes_S2x5x12_S5x2x12_1_0_2) (after_unwritten (ops := hostOps0.take 4) [main_v0, main_v1, main_v2, main_v3] rfl (by decide) _)
  refine (congrFun e _).trans ?_
  pointwise

/-- An argument, transposed. -/
theorem host_5 (k : Fin 3) (b : Fin 2) (n : Fin 5) : (V m c main_v5 : S3x2x5.Idx → EReal) (ix3 k b n) = B5 m c (ix3 b n k) := by
  have e : V m c main_v5 = transpose S3x2x5 [2, 0, 1] (B5 m c) transposes_S2x5x3_S3x2x5_2_0_1 := by
    refine (read_at 5 (StableHlo.unary main_arg5 main_v5 ((transpose S3x2x5 [2, 0, 1] · transposes_S2x5x3_S3x2x5_2_0_1) : (⟨S2x5x3, .f32⟩ : BufTy).Contents (Elt Ideal) → (⟨S3x2x5, .f32⟩ : BufTy).Contents (Elt Ideal))) [] rfl rfl (by decide) _).trans ?_
    refine (unary_result _ _ _ _ _ _).trans ?_
    exact congrArg (fun x => transpose S3x2x5 [2, 0, 1] x transposes_S2x5x3_S3x2x5_2_0_1) (after_unwritten (ops := hostOps0.take 5) [main_v0, main_v1, main_v2, main_v3, main_v4] rfl (by decide) _)
  refine (congrFun e _).trans ?_
  pointwise

end
end Cert.KBody
-- ==== Proof.KH1.lean ====
/- The input blocks of each grid point, and which grid point covers which output entry. -/
module

public import proofs.«01_k».proof.Proof.KH0

@[expose] public section

set_option maxRecDepth 16384

noncomputable section

namespace Cert.KBody

open Idealize.ShloMosaic Idealize.ShloMosaic.TcCoe Idealize.ShloMosaic.Tactic Idealize.ShloMosaic.StableHlo
open Cert.KernelIdeal Cert.KernelIdeal.Gen

section
variable (m : (ℓ : Loc nD τ sig) → Buf (Elt Ideal) ℓ) (c : Dev nD) (t : Fin cfg0.N)

/-- The grid point's coordinates. -/
abbrev pt (t : Fin cfg0.N) : grid0.Coords := grid0.coords t

/-- Where each input's block lies. -/
theorem where_in : ∀ t : Fin grid0.N,
    (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = (hI (grid0.coords t)).val ∧ win0_2.index t 1 = 0 ∧ win0_2.index t 2 = 0)
    ∧ (win0_3.index t 0 = (bI (grid0.coords t)).val ∧ win0_3.index t 1 = (hI (grid0.coords t)).val ∧ win0_3.index t 2 = 0 ∧ win0_3.index t 3 = 0)
    ∧ (win0_4.index t 0 = (hI (grid0.coords t)).val ∧ win0_4.index t 1 = 0 ∧ win0_4.index t 2 = 0)
    ∧ (win0_5.index t 0 = (bI (grid0.coords t)).val ∧ win0_5.index t 1 = (hI (grid0.coords t)).val ∧ win0_5.index t 2 = 0 ∧ win0_5.index t 3 = 0) := by
  decide +kernel

/-- Where each result's block lies. -/
theorem where_out : ∀ t : Fin grid0.N,
    (win0_6.index t 0 = (bI (grid0.coords t)).val ∧ win0_6.index t 1 = 0 ∧ win0_6.index t 2 = (hI (grid0.coords t)).val)
    ∧ (win0_7.index t 0 = (bI (grid0.coords t)).val ∧ win0_7.index t 1 = (hI (grid0.coords t)).val ∧ win0_7.index t 2 = 0 ∧ win0_7.index t 3 = 0) := by
  decide +kernel

/-- The query scales at a grid point. -/
theorem in_0 (n : Fin 5) (b : Fin 2) (h : Fin 12) : (iblk m c 0 t : S5x2x12.Idx → EReal) (ix3 n b h) = B1 m c (ix3 b n h) := by
  refine Eq.trans ?_ (host_4 m c n b h)
  obtain ⟨⟨k0, k1, k2⟩, -⟩ := where_in t
  blk_ext [iblk]

/-- The value scales at a grid point. -/
theorem in_1 (k : Fin 3) (b : Fin 2) (n : Fin 5) : (iblk m c 1 t : S3x2x5.Idx → EReal) (ix3 k b n) = B5 m c (ix3 b n k) := by
  refine Eq.trans ?_ (host_5 m c k b n)
  obtain ⟨-, ⟨k0, k1, k2⟩, -⟩ := where_in t
  blk_ext [iblk]

/-- The key codes at a grid point. -/
theorem in_2 (b : Fin 2) (s : Fin 640) : (iblk m c 2 t : S1x2x640.Idx → BitVec 32) (ix3 0 b s) = B2 m c (ix3 b s (hI (pt t))) := by
  refine Eq.trans ?_ (host_3 m c (hI (pt t)) b s)
  obtain ⟨-, -, ⟨k0, k1, k2⟩, -⟩ := where_in t
  blk_ext [iblk]

/-- The query codes at a grid point. -/
theorem in_3 (h : Fin 4) (e : Fin 160) (s : Fin 640) : (iblk m c 3 t : S1x4x160x640.Idx → EReal) (ix4 0 h e s) = B0 m c (ix4 (bI (pt t)) s (hQ (pt t) h) e) := by
  refine Eq.trans ?_ (host_0 m c (bI (pt t)) (hQ (pt t) h) e s)
  obtain ⟨-, -, -, ⟨k0, k1, k2, k3⟩, -⟩ := where_in t
  blk_ext [iblk]
  show win0_3.index t 1 * 4 + h.val = 4 * (hI (grid0.coords t)).val + h.val
  rw [k1]
  omega

/-- The codebook at a grid point. -/
theorem in_4 (d : Fin 160) (e : Fin 1024) : (iblk m c 4 t : S1x160x1024.Idx → EReal) (ix3 0 d e) = B3 m c (ix3 (hI (pt t)) e d) := by
  refine Eq.trans ?_ (host_2 m c (hI (pt t)) d e)
  obtain ⟨-, -, -, -, ⟨k0, k1, k2⟩, -⟩ := where_in t
  blk_ext [iblk]

/-- The value codes at a grid point. -/
theorem in_5 (d : Fin 160) (s : Fin 640) : (iblk m c 5 t : S1x1x160x640.Idx → EReal) (ix4 0 0 d s) = B4 m c (ix4 (bI (pt t)) s (hI (pt t)) d) := by
  refine Eq.trans ?_ (host_1 m c (bI (pt t)) (hI (pt t)) d s)
  obtain ⟨-, -, -, -, -, k0, k1, k2, k3⟩ := where_in t
  blk_ext [iblk]
end
end Cert.KBody
-- ==== Proof.KH2.lean ====
/- One grid point of the kernel, from the arguments to its two output blocks. -/
module

public import proofs.«01_k».proof.Proof.KH1

@[expose] public section

set_option maxRecDepth 16384

noncomputable section

namespace Cert.KBody

open Idealize.ShloMosaic Idealize.ShloMosaic.TcCoe Idealize.ShloMosaic.Tactic Idealize.ShloMosaic.StableHlo
open Cert.KernelIdeal Cert.KernelIdeal.Gen

open kernelRun0_A.sl in
/-- The attention result of one grid point, at an index of its block. -/
theorem point_6  (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg8 : Memref sig .tc .vmem S1x640x640 .bf16) (harg8 : arg8.IsWhole) (arg9 : Memref sig .tc .vmem S1x1x160x1024 .f32) (harg9 : arg9.IsWhole) (arg10 : Memref sig .tc .vmem S640x1024 .bf16) (harg10 : arg10.IsWhole) (arg11 : Memref sig .tc .vmem S640x160 .bf16) (harg11 : arg11.IsWhole) (arg12 : Memref sig .tc .vmem S160x640 .bf16) (harg12 : arg12.IsWhole) (arg13 : Memref sig .tc .vmem S160x512 .f32) (harg13 : arg13.IsWhole) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3)  (kc : Fin 640 → Fin 1024) (hk : ∀ t, x2 (ix3 0 (bI i) t) = BitVec.ofNat 32 (kc t).val) (y : S1x640x640.Idx) (n : Fin 5) (a : Fin 128) (h : Fin 4) (d : Fin 160) (hx : (y 1).val = 128 * n.val + a.val) (hw : (y 2).val = 160 * h.val + d.val) :
    out0_A_6 c i arg2 harg2 arg3 harg3 arg4 harg4 arg5 harg5 arg6 harg6 arg7 harg7 arg8 harg8 arg9 harg9 arg10 harg10 arg11 harg11 arg12 harg12 arg13 harg13 x0 x1 x2 x3 x4 x5 y = outv kc x0 x1 x3 x4 x5 i n a h d := by
  have hb : ∀ a b : Fin 128, ∀ h d, a = b → ∀ n, outv kc x0 x1 x3 x4 x5 i n a h d = outv kc x0 x1 x3 x4 x5 i n b h d := fun a b h d e n => by rw [e]
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun0_A
  dsimp only
  canon_tiles x h
  · rw [show x = ix3 0 (x 1) (x 2) from by ext a; fin_cases a <;> first | rfl | simp]
    have hn : n = 4 := Fin.ext (by have := (x 1).isLt; simp at *; omega)
    subst hn
    refine (rows_4 c i arg2 harg2 arg3 harg3 arg4 harg4 arg5 harg5 arg6 harg6 arg7 harg7 arg10 arg11 arg12 arg13 x0 x1 x2 x3 x4 x5 kc hk (x 1) (x 2) h d (h2.symm.trans hw)).trans (hb _ _ h d (Fin.ext ?_) _)
    have hx2 := hx
    simp only [Fin.isValue, Fin.val_zero, Fin.val_one, Fin.val_two, show ((3 : Fin 5) : ℕ) = 3 from rfl, show ((4 : Fin 5) : ℕ) = 4 from rfl] at hx2
    omega
  · rw [show x = ix3 0 (x 1) (x 2) from by ext a; fin_cases a <;> first | rfl | simp]
    have hn : n = 3 := Fin.ext (by have := (x 1).isLt; simp at *; omega)
    subst hn
    refine (rows_3 c i arg2 harg2 arg3 harg3 arg4 harg4 arg5 harg5 arg6 harg6 arg7 harg7 arg10 arg11 arg12 arg13 x0 x1 x2 x3 x4 x5 kc hk (x 1) (x 2) h d (h2.symm.trans hw)).trans (hb _ _ h d (Fin.ext ?_) _)
    have hx2 := hx
    simp only [Fin.isValue, Fin.val_zero, Fin.val_one, Fin.val_two, show ((3 : Fin 5) : ℕ) = 3 from rfl, show ((4 : Fin 5) : ℕ) = 4 from rfl] at hx2
    omega
  · rw [show x = ix3 0 (x 1) (x 2) from by ext a; fin_cases a <;> first | rfl | simp]
    have hn : n = 2 := Fin.ext (by have := (x 1).isLt; simp at *; omega)
    subst hn
    refine (rows_2 c i arg2 harg2 arg3 harg3 arg4 harg4 arg5 harg5 arg6 harg6 arg7 harg7 arg10 arg11 arg12 arg13 x0 x1 x2 x3 x4 x5 kc hk (x 1) (x 2) h d (h2.symm.trans hw)).trans (hb _ _ h d (Fin.ext ?_) _)
    have hx2 := hx
    simp only [Fin.isValue, Fin.val_zero, Fin.val_one, Fin.val_two, show ((3 : Fin 5) : ℕ) = 3 from rfl, show ((4 : Fin 5) : ℕ) = 4 from rfl] at hx2
    omega
  · rw [show x = ix3 0 (x 1) (x 2) from by ext a; fin_cases a <;> first | rfl | simp]
    have hn : n = 1 := Fin.ext (by have := (x 1).isLt; simp at *; omega)
    subst hn
    refine (rows_1 c i arg2 harg2 arg3 harg3 arg4 harg4 arg5 harg5 arg6 harg6 arg7 harg7 arg10 arg11 arg12 arg13 x0 x1 x2 x3 x4 x5 kc hk (x 1) (x 2) h d (h2.symm.trans hw)).trans (hb _ _ h d (Fin.ext ?_) _)
    have hx2 := hx
    simp only [Fin.isValue, Fin.val_zero, Fin.val_one, Fin.val_two, show ((3 : Fin 5) : ℕ) = 3 from rfl, show ((4 : Fin 5) : ℕ) = 4 from rfl] at hx2
    omega
  · rw [show x = ix3 0 (x 1) (x 2) from by ext a; fin_cases a <;> first | rfl | simp]
    have hn : n = 0 := Fin.ext (by have := (x 1).isLt; simp at *; omega)
    subst hn
    refine (rows_0 c i arg2 harg2 arg3 harg3 arg4 harg4 arg5 harg5 arg6 harg6 arg7 harg7 arg10 arg11 arg12 x0 x1 x2 x3 x4 x5 kc hk (x 1) (x 2) h d (h2.symm.trans hw)).trans (hb _ _ h d (Fin.ext ?_) _)
    have hx2 := hx
    simp only [Fin.isValue, Fin.val_zero, Fin.val_one, Fin.val_two, show ((3 : Fin 5) : ℕ) = 3 from rfl, show ((4 : Fin 5) : ℕ) = 4 from rfl] at hx2
    omega

open kernelRun0_A.sl in
/-- The sums of one grid point, at an index of its block. -/
theorem point_7  (c : Dev nD) (i : grid0.Coords) (arg2 : Memref sig .tc .smem S5x2x12 .f32) (harg2 : arg2.IsWhole) (arg3 : Memref sig .tc .smem S3x2x5 .f32) (harg3 : arg3.IsWhole) (arg4 : Memref sig .tc .vmem S1x2x640 .i32) (harg4 : arg4.IsWhole) (arg5 : Memref sig .tc .vmem S1x4x160x640 .fp8e4m3) (harg5 : arg5.IsWhole) (arg6 : Memref sig .tc .vmem S1x160x1024 .bf16) (harg6 : arg6.IsWhole) (arg7 : Memref sig .tc .vmem S1x1x160x640 .fp8e4m3) (harg7 : arg7.IsWhole) (arg8 : Memref sig .tc .vmem S1x640x640 .bf16) (harg8 : arg8.IsWhole) (arg9 : Memref sig .tc .vmem S1x1x160x1024 .f32) (harg9 : arg9.IsWhole) (arg10 : Memref sig .tc .vmem S640x1024 .bf16) (harg10 : arg10.IsWhole) (arg11 : Memref sig .tc .vmem S640x160 .bf16) (harg11 : arg11.IsWhole) (arg12 : Memref sig .tc .vmem S160x640 .bf16) (harg12 : arg12.IsWhole) (arg13 : Memref sig .tc .vmem S160x512 .f32) (harg13 : arg13.IsWhole) (x0 : Vec Ideal S5x2x12 .f32) (x1 : Vec Ideal S3x2x5 .f32) (x2 : Vec Ideal S1x2x640 .i32) (x3 : Vec Ideal S1x4x160x640 .fp8e4m3) (x4 : Vec Ideal S1x160x1024 .bf16) (x5 : Vec Ideal S1x1x160x640 .fp8e4m3)  (kc : Fin 640 → Fin 1024) (hk : ∀ t, x2 (ix3 0 (bI i) t) = BitVec.ofNat 32 (kc t).val) (d : Fin 160) (e : Fin 1024) :
    out0_A_7 c i arg2 harg2 arg3 harg3 arg4 harg4 arg5 harg5 arg6 harg6 arg7 harg7 arg8 harg8 arg9 harg9 arg10 harg10 arg11 harg11 arg12 harg12 arg13 harg13 x0 x1 x2 x3 x4 x5 (ix4 0 0 d e) = ∑ t : Fin 640, valf x1 x5 i d t * (if kc t = e then (1 : EReal) else 0) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun0_A
  dsimp only
  rw [View.canon_unit_zero (by funext a; fin_cases a <;> rfl)]
  exact v422_at c i arg3 harg3 arg4 harg4 arg7 harg7 arg10 arg12 x1 x2 x5 kc hk d e

end Cert.KBody
-- ==== Proof.KH3.lean ====
/- The kernel's two results as functions of its arguments. -/
module

public import proofs.«01_k».proof.Proof.KH2

@[expose] public section

set_option maxRecDepth 16384

noncomputable section

namespace Cert.KBody

open Idealize.ShloMosaic Idealize.ShloMosaic.TcCoe Idealize.ShloMosaic.Tactic Idealize.ShloMosaic.StableHlo
open Cert.KernelIdeal Cert.KernelIdeal.Gen Cert.KernelIdeal.Value

section
variable (m : (ℓ : Loc nD τ sig) → Buf (Elt Ideal) ℓ) (c : Dev nD)
variable (kc : Fin 2 → Fin 3 → Fin 640 → Fin 1024) (hk : ∀ b k t, B2 m c (ix3 b t k) = BitVec.ofNat 32 (kc b k t).val)

/-- The scaled value at a position. -/
theorem valf_arg (t : Fin cfg0.N) (d : Fin 160) : valf (iblk m c 1 t) (iblk m c 5 t) (grid0.coords t) d = fun s => B4 m c (ix4 (bI (grid0.coords t)) s (hI (grid0.coords t)) d) * B5 m c (ix3 (bI (grid0.coords t)) ⟨s.val / 128, by omega⟩ (hI (grid0.coords t))) := by
  funext s
  unfold valf
  rw [in_5, in_1]

/-- The factor that turns a query's scale into base two. -/
abbrev scl : EReal := Named.named (F := Ideal) (φ := .f32) κ "scale_log2e" 0x3DE995B3#32

/-- The scores of one query against the codes, in base two, from the arguments. -/
theorem dm_arg (t : Fin cfg0.N) (n : Fin 5) (h : Fin 4) (a : Fin 128) (kc' : Fin 640 → Fin 1024) : dm kc' (iblk m c 0 t) (iblk m c 3 t) (iblk m c 4 t) (grid0.coords t) n h a
    = fun s => (∑ e : Fin 160, B3 m c (ix3 (hI (grid0.coords t)) (kc' s) e) * B0 m c (ix4 (bI (grid0.coords t)) ⟨128 * n.val + a.val, by omega⟩ (hQ (grid0.coords t) h) e)) * (B1 m c (ix3 (bI (grid0.coords t)) n (hQ (grid0.coords t) h)) * scl) := by
  funext s
  unfold dm
  rw [in_0]
  refine congrArg₂ (· * ·) (Finset.sum_congr rfl fun e _ => ?_) rfl
  rw [in_4, in_3]

/-- One entry of the attention result, from the arguments. -/
def kres (a0 : S2x640x12x160.Idx → EReal) (a1 : S2x5x12.Idx → EReal) (a3 : S3x1024x160.Idx → EReal) (a4 : S2x640x3x160.Idx → EReal) (a5 : S2x5x3.Idx → EReal) (kc : Fin 2 → Fin 3 → Fin 640 → Fin 1024)
    (b : Fin 2) (n : Fin 5) (a : Fin 128) (k : Fin 3) (g : Fin 4) (d : Fin 160) : EReal :=
  att (128 * n.val) (128 * n.val + 128) (by omega) rfl
    (fun s => (∑ e : Fin 160, a3 (ix3 k (kc b k s) e) * a0 (ix4 b ⟨128 * n.val + a.val, by omega⟩ ⟨4 * k.val + g.val, by omega⟩ e)) * (a1 (ix3 b n ⟨4 * k.val + g.val, by omega⟩) * scl)) a
    (past (kc b k) (fun s => a4 (ix4 b s k d) * a5 (ix3 b ⟨s.val / 128, by omega⟩ k)) (128 * n.val) (by omega)) (fun s => a4 (ix4 b s k d) * a5 (ix3 b ⟨s.val / 128, by omega⟩ k))

/-- The attention result as one array. -/
def karr (a0 : S2x640x12x160.Idx → EReal) (a1 : S2x5x12.Idx → EReal) (a3 : S3x1024x160.Idx → EReal) (a4 : S2x640x3x160.Idx → EReal) (a5 : S2x5x3.Idx → EReal) (kc : Fin 2 → Fin 3 → Fin 640 → Fin 1024)
    (b : Fin 2) (x : Fin 640) (w : Fin 1920) : EReal :=
  kres a0 a1 a3 a4 a5 kc b ⟨x.val / 128, by omega⟩ ⟨x.val % 128, by omega⟩ ⟨w.val / 640, by omega⟩ ⟨w.val % 640 / 160, by omega⟩ ⟨w.val % 160, by omega⟩

/-- The sums as one array. -/
def kusum (a4 : S2x640x3x160.Idx → EReal) (a5 : S2x5x3.Idx → EReal) (kc : Fin 2 → Fin 3 → Fin 640 → Fin 1024) (b : Fin 2) (k : Fin 3) (d : Fin 160) (e : Fin 1024) : EReal :=
  ∑ s : Fin 640, (a4 (ix4 b s k d) * a5 (ix3 b ⟨s.val / 128, by omega⟩ k)) * (if kc b k s = e then (1 : EReal) else 0)

include hk

/-- The kernel's attention result. -/
theorem ker_out : ((dats m 0 c).arrAt 6 cfg0.N : S2x640x1920.Idx → EReal) = fun i => karr (B0 m c) (B1 m c) (B3 m c) (B4 m c) (B5 m c) kc (i 0) (i 1) (i 2) := by
  refine (dats m 0 c).arrAt_eq_of_covers 6 _ (by decide +kernel) fun t hf y => ?_
  blk_simp
  rw [after0_6]
  unfold outsAt0
  dsimp only
  obtain ⟨⟨k0, k1, k2⟩, -⟩ := where_out t
  have l0 : (y 0).val < 1 := (y 0).isLt
  have l1 : (y 1).val < 640 := (y 1).isLt
  have l2 : (y 2).val < 640 := (y 2).isLt
  have lk := (hI (grid0.coords t)).isLt
  have lw : 640 * (hI (grid0.coords t)).val + (y 2).val < 1920 := by omega
  have e0 : (((View.whole main_v6_0).slice (win0_6.rect t)).emb y 0 : Fin 2) = bI (grid0.coords t) := Fin.ext ((win0_6.rect_emb_val t y 0).trans (by
    show win0_6.index t 0 * 1 + (y 0).val = (bI (grid0.coords t)).val
    rw [k0]; omega))
  have e1 : (((View.whole main_v6_0).slice (win0_6.rect t)).emb y 1 : Fin 640) = ⟨(y 1).val, l1⟩ := Fin.ext ((win0_6.rect_emb_val t y 1).trans (by
    show win0_6.index t 1 * 640 + (y 1).val = (y 1).val
    rw [k1]; omega))
  have e2 : (((View.whole main_v6_0).slice (win0_6.rect t)).emb y 2 : Fin 1920) = ⟨640 * (hI (grid0.coords t)).val + (y 2).val, lw⟩ := Fin.ext ((win0_6.rect_emb_val t y 2).trans (by
    show win0_6.index t 2 * 640 + (y 2).val = 640 * (hI (grid0.coords t)).val + (y 2).val
    rw [k2]; omega))
  refine (point_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (kc (bI (grid0.coords t)) (hI (grid0.coords t))) (fun s => (in_2 m c t _ s).trans (hk _ _ s)) y ⟨(y 1).val / 128, by omega⟩ ⟨(y 1).val % 128, by omega⟩ ⟨(y 2).val / 160, by omega⟩ ⟨(y 2).val % 160, by omega⟩ (by simp only; omega) (by simp only; omega)).trans ?_
  unfold outv
  rw [dm_arg, valf_arg]
  refine Eq.trans ?_ (congr (congr (congrArg (karr (B0 m c) (B1 m c) (B3 m c) (B4 m c) (B5 m c) kc) e0) e1) e2).symm
  unfold karr
  have f1 : (⟨(640 * (hI (grid0.coords t)).val + (y 2).val) / 640, by omega⟩ : Fin 3) = hI (grid0.coords t) := Fin.ext (by simp only; omega)
  have f2 : (⟨(640 * (hI (grid0.coords t)).val + (y 2).val) % 640 / 160, by omega⟩ : Fin 4) = ⟨(y 2).val / 160, by omega⟩ := Fin.ext (by simp only; omega)
  have f3 : (⟨(640 * (hI (grid0.coords t)).val + (y 2).val) % 160, by omega⟩ : Fin 160) = ⟨(y 2).val % 160, by omega⟩ := Fin.ext (by simp only; omega)
  rw [f1, f2, f3]
  rfl

/-- The kernel's sums. -/
theorem ker_u : ((dats m 0 c).arrAt 7 cfg0.N : S2x3x160x1024.Idx → EReal) = fun i => kusum (B4 m c) (B5 m c) kc (i 0) (i 1) (i 2) (i 3) := by
  refine (dats m 0 c).arrAt_eq_of_covers 7 _ (by decide +kernel) fun t hf y => ?_
  blk_simp
  rw [after0_7]
  unfold outsAt0
  dsimp only
  obtain ⟨-, k0, k1, k2, k3⟩ := where_out t
  have l0 : (y 0).val < 1 := (y 0).isLt
  have l1 : (y 1).val < 1 := (y 1).isLt
  have l2 : (y 2).val < 160 := (y 2).isLt
  have l3 : (y 3).val < 1024 := (y 3).isLt
  have e0 : (((View.whole main_v6_1).slice (win0_7.rect t)).emb y 0 : Fin 2) = bI (grid0.coords t) := Fin.ext ((win0_7.rect_emb_val t y 0).trans (by
    show win0_7.index t 0 * 1 + (y 0).val = (bI (grid0.coords t)).val
    rw [k0]; omega))
  have e1 : (((View.whole main_v6_1).slice (win0_7.rect t)).emb y 1 : Fin 3) = hI (grid0.coords t) := Fin.ext ((win0_7.rect_emb_val t y 1).trans (by
    show win0_7.index t 1 * 1 + (y 1).val = (hI (grid0.coords t)).val
    rw [k1]; omega))
  have e2 : (((View.whole main_v6_1).slice (win0_7.rect t)).emb y 2 : Fin 160) = ⟨(y 2).val, l2⟩ := Fin.ext ((win0_7.rect_emb_val t y 2).trans (by
    show win0_7.index t 2 * 160 + (y 2).val = (y 2).val
    rw [k2]; omega))
  have e3 : (((View.whole main_v6_1).slice (win0_7.rect t)).emb y 3 : Fin 1024) = ⟨(y 3).val, l3⟩ := Fin.ext ((win0_7.rect_emb_val t y 3).trans (by
    show win0_7.index t 3 * 1024 + (y 3).val = (y 3).val
    rw [k3]; omega))
  have ey : (y : S1x1x160x1024.Idx) = ix4 0 0 ⟨(y 2).val, l2⟩ ⟨(y 3).val, l3⟩ := by
    funext a
    apply Fin.ext
    fin_cases a
    · show (y 0).val = 0; omega
    · show (y 1).val = 0; omega
    · rfl
    · rfl
  refine (congrArg (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t)) ey).trans ?_
  refine (point_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (kc (bI (grid0.coords t)) (hI (grid0.coords t))) (fun s => (in_2 m c t _ s).trans (hk _ _ s)) _ _).trans ?_
  rw [valf_arg]
  exact (congr (congr (congr (congrArg (kusum (B4 m c) (B5 m c) kc) e0) e1) e2) e3).symm
end
end Cert.KBody
-- ==== Proof.Bridge.lean ====
/- The two programs' results are the same. -/
module

public import proofs.«01_k».proof.Proof.RE
public import proofs.«01_k».proof.Proof.KH3
public import proofs.«01_k».proof.Defs
public import proofs.«01_k».proof.Proof.Gen.Pre_codes_and_scales
public import Idealize.ShloMosaic.Adequacy
public import Idealize.ShloMosaic.Init

@[expose] public section

set_option maxRecDepth 16384

noncomputable section

namespace Cert.Bridge

open Idealize.ShloMosaic Idealize.SL.Sem

/-- The named factor at the ideal values: the reciprocals of the natural logarithm of two and of the root of the head size. -/
theorem scl_val : Cert.KBody.scl = (((Real.log 2)⁻¹ * (Real.sqrt 160)⁻¹ : ℝ) : EReal) :=
  IdealRules.named_const.ideal_named_scalar _ _ _ _ rfl

/-- The kernel's score in base two is the reference's score over the natural logarithm of two. -/
theorem scale_move (x y : EReal) : x * (y * Cert.KBody.scl) = x * (y * Cert.RBody.sig0) * (((Real.log 2)⁻¹ : ℝ) : EReal) := by
  rw [scl_val, EReal.coe_mul]
  unfold Cert.RBody.sig0
  rw [mul_assoc x, mul_assoc y, mul_comm (((Real.log 2)⁻¹ : ℝ) : EReal)]

/-- Both programs' attention results are one array. -/
theorem same_out : Cert.KBody.karr = Cert.RBody.resArr := by
  funext a0 a1 a3 a4 a5 kc b x w
  unfold Cert.KBody.karr Cert.RBody.resArr Cert.KBody.kres Cert.RBody.resA
  simp only [scale_move]
  rfl

/-- Both programs' sums are one array. -/
theorem same_u (a4 : Cert.KernelIdeal.S2x640x3x160.Idx → EReal) (a5 : Cert.KernelIdeal.S2x5x3.Idx → EReal) (kc : Fin 2 → Fin 3 → Fin 640 → Fin 1024) (b : Fin 2) (k : Fin 3) (d : Fin 160) (e : Fin 1024) :
    Cert.KBody.kusum a4 a5 kc b k d e = ∑ s : Fin 640, if kc b k s = e then Cert.RBody.vA a4 a5 b k d s else 0 := by
  unfold Cert.KBody.kusum Cert.RBody.vA
  refine Finset.sum_congr rfl fun s _ => ?_
  split_ifs <;> simp

/-- A word between 0 and 1023 is a code. -/
theorem code_of (w : BitVec 32) (h : IntOp.andi (IntOp.cmpi CmpIPredicate.sge w 0#32) (IntOp.cmpi CmpIPredicate.slt w 1024#32) = 1#1) : ∃ e : Fin 1024, w = BitVec.ofNat 32 e.val := by
  have hlt : w.toNat < 1024 := by
    simp only [IntOp.andi, IntOp.cmpi] at h
    have h1 : (0#32).sle w = true := by
      cases hs : (0#32).sle w
      · rw [hs] at h; simp at h
      · rfl
    have h2 : w.slt 1024#32 = true := by
      cases hs : w.slt 1024#32
      · rw [hs] at h; simp at h
      · rfl
    rw [BitVec.sle_iff_toInt_le] at h1
    rw [BitVec.slt_iff_toInt_lt] at h2
    have h3 : (0#32).toInt = 0 := by decide
    have h4 : (1024#32).toInt = 1024 := by decide
    rw [h3] at h1
    rw [h4] at h2
    rw [BitVec.toInt_eq_toNat_cond] at h1 h2
    split_ifs at h1 h2 <;> omega
  exact ⟨⟨w.toNat, hlt⟩, by simp⟩

/-- The bits of positive infinity. -/
theorem bits_inf : Ideal.ofBits FTy.f32 0x7F800000#32 = ⊤ := by
  simp only [Ideal.ofBits]
  unfold Ideal.ieee
  have h1 : (0x7F800000#32 : BitVec 32).extractLsb' 23 8 = 255#8 := by decide +kernel
  simp

/-- A scale the precondition admits is finite and not negative. -/
theorem scale_of (x : EReal) (h : IntOp.andi (Ideal.cmp CmpFPredicate.oge x (Ideal.ofBits .f32 0x00000000#32)) (Ideal.cmp CmpFPredicate.olt x (Ideal.ofBits .f32 0x7F800000#32)) = 1#1) : 0 ≤ x ∧ x ≠ ⊤ := by
  rw [Ideal.ofBits_zero_f32, bits_inf] at h
  simp only [IntOp.andi, Ideal.cmp] at h
  have h1 : 0 ≤ x := by
    by_contra hx
    simp [hx] at h
  have h2 : x < ⊤ := by
    by_contra hx
    simp [hx] at h
  exact ⟨h1, h2.ne⟩

/-- The rounding-free kernel and the rounding-free reference, started with the same arguments, leave the same two results. -/
theorem algebraic : @Cert.algebraic_KernelIdeal_ReferenceIdeal_pre_codes_and_scales Cert.KernelIdeal.Gen.facts Cert.ReferenceIdeal.Gen.facts Cert.Pre_codes_and_scales.Gen.facts := by
  intro m g m' g' hpre heq
  have hcode : ∀ c b k t, ∃ e : Fin 1024, Cert.KBody.B2 m c (ix3 b t k) = BitVec.ofNat 32 e.val := fun c b k t => code_of _ (congrFun (hpre c).1 (ix3 b t k))
  choose kc hkc using hcode
  have h5 : ∀ c i, 0 ≤ Cert.KBody.B5 m c i ∧ Cert.KBody.B5 m c i ≠ ⊤ := fun c i => scale_of _ (congrFun (hpre c).2 i)
  refine ⟨fun c => (Cert.KernelIdeal.Gen.dats m 0 c).arrAt 6 Cert.KernelIdeal.cfg0.N, fun c => (Cert.KernelIdeal.Gen.dats m 0 c).arrAt 7 Cert.KernelIdeal.cfg0.N, Cert.KernelIdeal.Value.run_blocks m g, ?_⟩
  refine (θ_run _ _ _).mono (fun r h c => ?_) (Cert.ReferenceIdeal.Gen.run_main m' g')
  obtain ⟨e0, e1, e2, e3, e4, e5⟩ := heq c
  have f0 : Cert.RBody.A0 m' c = Cert.KBody.B0 m c := e0
  have f1 : Cert.RBody.A1 m' c = Cert.KBody.B1 m c := e1
  have f2 : Cert.RBody.A2 m' c = Cert.KBody.B2 m c := e2
  have f3 : Cert.RBody.A3 m' c = Cert.KBody.B3 m c := e3
  have f4 : Cert.RBody.A4 m' c = Cert.KBody.B4 m c := e4
  have f5 : Cert.RBody.A5 m' c = Cert.KBody.B5 m c := e5
  have hk' : ∀ b k t, Cert.RBody.A2 m' c (ix3 b t k) = BitVec.ofNat 32 (kc c b k t).val := fun b k t => by rw [f2]; exact hkc c b k t
  have h5' : ∀ i, 0 ≤ Cert.RBody.A5 m' c i ∧ Cert.RBody.A5 m' c i ≠ ⊤ := fun i => by rw [f5]; exact h5 c i
  refine ⟨(h c _ (Cert.ReferenceIdeal.Gen.mem_uc Cert.ReferenceIdeal.main_v19 (by decide))).trans ?_, (h c _ (Cert.ReferenceIdeal.Gen.mem_uc Cert.ReferenceIdeal.main_v20 (by decide))).trans ?_,
    (h c _ (Cert.ReferenceIdeal.Gen.mem_uc Cert.ReferenceIdeal.main_arg0 (by decide))).trans (Cert.ReferenceIdeal.Gen.WN_main_arg0 m' g' c),
    (h c _ (Cert.ReferenceIdeal.Gen.mem_uc Cert.ReferenceIdeal.main_arg1 (by decide))).trans (Cert.ReferenceIdeal.Gen.WN_main_arg1 m' g' c),
    (h c _ (Cert.ReferenceIdeal.Gen.mem_uc Cert.ReferenceIdeal.main_arg2 (by decide))).trans (Cert.ReferenceIdeal.Gen.WN_main_arg2 m' g' c),
    (h c _ (Cert.ReferenceIdeal.Gen.mem_uc Cert.ReferenceIdeal.main_arg3 (by decide))).trans (Cert.ReferenceIdeal.Gen.WN_main_arg3 m' g' c),
    (h c _ (Cert.ReferenceIdeal.Gen.mem_uc Cert.ReferenceIdeal.main_arg4 (by decide))).trans (Cert.ReferenceIdeal.Gen.WN_main_arg4 m' g' c),
    (h c _ (Cert.ReferenceIdeal.Gen.mem_uc Cert.ReferenceIdeal.main_arg5 (by decide))).trans (Cert.ReferenceIdeal.Gen.WN_main_arg5 m' g' c)⟩
  · refine Eq.trans ?_ (Cert.KBody.ker_out m c (kc c) (hkc c)).symm
    funext i
    rw [show i = ix3 (i 0) (i 1) (i 2) from by funext a; fin_cases a <;> rfl]
    refine (Cert.RBody.ref_out m' g' c (kc c) hk' h5' (i 0) (i 1) (i 2)).trans ?_
    rw [f0, f1, f3, f4, f5, ← same_out]
    rfl
  · refine Eq.trans ?_ (Cert.KBody.ker_u m c (kc c) (hkc c)).symm
    funext i
    rw [show i = ix4 (i 0) (i 1) (i 2) (i 3) from by funext a; fin_cases a <;> rfl]
    refine (Cert.RBody.ref_u m' g' c (kc c) hk' h5' (i 0) (i 1) (i 2) (i 3)).trans ?_
    rw [f4, f5]
    exact (same_u _ _ _ _ _ _ _).symm

end Cert.Bridge
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
import proofs.«01_k».proof.Proof.Gen.ReferenceIdeal.Run
import proofs.«01_k».proof.Proof.Gen.Pre_codes_and_scales
import proofs.«01_k».proof.Proof.Gen.ReferenceIdeal.Frame
public import proofs.«01_k».proof.Proof.Bridge
public import Idealize.ShloMosaic.Adequacy
public import Idealize.ShloMosaic.Init

@[expose] public section

noncomputable section

namespace Cert.Proof

open Idealize.ShloMosaic Idealize.SL.Sem Cert.Kernel

/-- The printed constant of the kernel's score scale, named: its bit pattern is that of the exact product. -/
theorem preserves : Cert.preserves_Kernel_KernelIdeal :=
  IdealRules.named_const.statement Cert.KernelIdeal.κ "scale_log2e" .f32 0x3DE995B3#32 _ rfl

/-- Everything the certificate claims. -/
theorem claim : Cert.Claim := ⟨Cert.Kernel.Gen.facts, Cert.KernelIdeal.Gen.facts, Cert.ReferenceIdeal.Gen.facts, Cert.Pre_codes_and_scales.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, Cert.Bridge.algebraic⟩

end Cert.Proof

end
